-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_blocks_named : Cert.Pre_blocks_named.Facts] (m : (ℓ : Loc Cert.Kernel8.nD Cert.Kernel8.τ Cert.Kernel8.sig) → Buf (Elt Bits) ℓ) : Prop :=
  ∀ c : Dev Cert.Kernel8.nD,
    (Cert.Pre_blocks_named.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4))) = (fun _ => 1#1)

def Pre_Kernel8Ideal [hPre_blocks_named : Cert.Pre_blocks_named.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_blocks_named.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_blocks_named [hPre_blocks_named : Cert.Pre_blocks_named.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_blocks_named.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_prompt [hPre_finite_prompt : Cert.Pre_finite_prompt.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_prompt.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_prompt [hPre_finite_prompt : Cert.Pre_finite_prompt.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_prompt.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_latent [hPre_finite_latent : Cert.Pre_finite_latent.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_latent.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_latent [hPre_finite_latent : Cert.Pre_finite_latent.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_latent.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_latent [hPre_finite_latent : Cert.Pre_finite_latent.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_latent.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_latent [hPre_finite_latent : Cert.Pre_finite_latent.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_latent.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] [hPre_blocks_named : Cert.Pre_blocks_named.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] [hPre_blocks_named : Cert.Pre_blocks_named.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_blocks_named [hReference8Ideal : Cert.Reference8Ideal.Facts] [hPre_blocks_named : Cert.Pre_blocks_named.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_blocks_named m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite_prompt [hKernel11Ideal : Cert.Kernel11Ideal.Facts] [hPre_finite_prompt : Cert.Pre_finite_prompt.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_prompt m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite_prompt [hReference11Ideal : Cert.Reference11Ideal.Facts] [hPre_finite_prompt : Cert.Pre_finite_prompt.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_prompt m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite_latent [hKernel13Ideal : Cert.Kernel13Ideal.Facts] [hPre_finite_latent : Cert.Pre_finite_latent.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_latent m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite_latent [hReference13Ideal : Cert.Reference13Ideal.Facts] [hPre_finite_latent : Cert.Pre_finite_latent.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_latent m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite_latent [hKernel14Ideal : Cert.Kernel14Ideal.Facts] [hPre_finite_latent : Cert.Pre_finite_latent.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_latent m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite_latent [hReference14Ideal : Cert.Reference14Ideal.Facts] [hPre_finite_latent : Cert.Pre_finite_latent.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_latent m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v20)) (v1 : (c : Dev Cert.Kernel2Ideal.nD) → Buf (Elt Ideal) ((c.tc : Thread Cert.Kernel2Ideal.nD Cert.Kernel2Ideal.τ).loc Cert.Kernel2Ideal.main_v21)) (v2 : (c : Dev Cert.Kernel2Ideal.nD) → Buf (Elt Ideal) ((c.tc : Thread Cert.Kernel2Ideal.nD Cert.Kernel2Ideal.τ).loc Cert.Kernel2Ideal.main_v22)) (v3 : (c : Dev Cert.Kernel2Ideal.nD) → Buf (Elt Ideal) ((c.tc : Thread Cert.Kernel2Ideal.nD Cert.Kernel2Ideal.τ).loc Cert.Kernel2Ideal.main_v23)) (v4 : (c : Dev Cert.Kernel2Ideal.nD) → Buf (Elt Ideal) ((c.tc : Thread Cert.Kernel2Ideal.nD Cert.Kernel2Ideal.τ).loc Cert.Kernel2Ideal.main_v24)) (v5 : (c : Dev Cert.Kernel2Ideal.nD) → Buf (Elt Ideal) ((c.tc : Thread Cert.Kernel2Ideal.nD Cert.Kernel2Ideal.τ).loc Cert.Kernel2Ideal.main_v25)) (v6 : (c : Dev Cert.Kernel2Ideal.nD) → Buf (Elt Ideal) ((c.tc : Thread Cert.Kernel2Ideal.nD Cert.Kernel2Ideal.τ).loc Cert.Kernel2Ideal.main_v26)) (v7 : (c : Dev Cert.Kernel2Ideal.nD) → Buf (Elt Ideal) ((c.tc : Thread Cert.Kernel2Ideal.nD Cert.Kernel2Ideal.τ).loc Cert.Kernel2Ideal.main_v27)) (v8 : (c : Dev Cert.Kernel2Ideal.nD) → Buf (Elt Ideal) ((c.tc : Thread Cert.Kernel2Ideal.nD Cert.Kernel2Ideal.τ).loc Cert.Kernel2Ideal.main_v28)) (v9 : (c : Dev Cert.Kernel2Ideal.nD) → Buf (Elt Ideal) ((c.tc : Thread Cert.Kernel2Ideal.nD Cert.Kernel2Ideal.τ).loc Cert.Kernel2Ideal.main_v29)) (v10 : (c : Dev Cert.Kernel2Ideal.nD) → Buf (Elt Ideal) ((c.tc : Thread Cert.Kernel2Ideal.nD Cert.Kernel2Ideal.τ).loc Cert.Kernel2Ideal.main_v30)) (v11 : (c : Dev Cert.Kernel2Ideal.nD) → Buf (Elt Ideal) ((c.tc : Thread Cert.Kernel2Ideal.nD Cert.Kernel2Ideal.τ).loc Cert.Kernel2Ideal.main_v31)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_v21) = v1 c
          ∧ r.2.mem ((c.tc : Thread Cert.Kernel2Ideal.nD Cert.Kernel2Ideal.τ).loc Cert.Kernel2Ideal.main_v22) = v2 c
          ∧ r.2.mem ((c.tc : Thread Cert.Kernel2Ideal.nD Cert.Kernel2Ideal.τ).loc Cert.Kernel2Ideal.main_v23) = v3 c
          ∧ r.2.mem ((c.tc : Thread Cert.Kernel2Ideal.nD Cert.Kernel2Ideal.τ).loc Cert.Kernel2Ideal.main_v24) = v4 c
          ∧ r.2.mem ((c.tc : Thread Cert.Kernel2Ideal.nD Cert.Kernel2Ideal.τ).loc Cert.Kernel2Ideal.main_v25) = v5 c
          ∧ r.2.mem ((c.tc : Thread Cert.Kernel2Ideal.nD Cert.Kernel2Ideal.τ).loc Cert.Kernel2Ideal.main_v26) = v6 c
          ∧ r.2.mem ((c.tc : Thread Cert.Kernel2Ideal.nD Cert.Kernel2Ideal.τ).loc Cert.Kernel2Ideal.main_v27) = v7 c
          ∧ r.2.mem ((c.tc : Thread Cert.Kernel2Ideal.nD Cert.Kernel2Ideal.τ).loc Cert.Kernel2Ideal.main_v28) = v8 c
          ∧ r.2.mem ((c.tc : Thread Cert.Kernel2Ideal.nD Cert.Kernel2Ideal.τ).loc Cert.Kernel2Ideal.main_v29) = v9 c
          ∧ r.2.mem ((c.tc : Thread Cert.Kernel2Ideal.nD Cert.Kernel2Ideal.τ).loc Cert.Kernel2Ideal.main_v30) = v10 c
          ∧ r.2.mem ((c.tc : Thread Cert.Kernel2Ideal.nD Cert.Kernel2Ideal.τ).loc Cert.Kernel2Ideal.main_v31) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_v2) = v1 c
          ∧ r.2.mem ((c.tc : Thread Cert.Reference2Ideal.nD Cert.Reference2Ideal.τ).loc Cert.Reference2Ideal.main_v3) = v2 c
          ∧ r.2.mem ((c.tc : Thread Cert.Reference2Ideal.nD Cert.Reference2Ideal.τ).loc Cert.Reference2Ideal.main_v4) = v3 c
          ∧ r.2.mem ((c.tc : Thread Cert.Reference2Ideal.nD Cert.Reference2Ideal.τ).loc Cert.Reference2Ideal.main_v5) = v4 c
          ∧ r.2.mem ((c.tc : Thread Cert.Reference2Ideal.nD Cert.Reference2Ideal.τ).loc Cert.Reference2Ideal.main_v6) = v5 c
          ∧ r.2.mem ((c.tc : Thread Cert.Reference2Ideal.nD Cert.Reference2Ideal.τ).loc Cert.Reference2Ideal.main_v7) = v6 c
          ∧ r.2.mem ((c.tc : Thread Cert.Reference2Ideal.nD Cert.Reference2Ideal.τ).loc Cert.Reference2Ideal.main_v8) = v7 c
          ∧ r.2.mem ((c.tc : Thread Cert.Reference2Ideal.nD Cert.Reference2Ideal.τ).loc Cert.Reference2Ideal.main_v9) = v8 c
          ∧ r.2.mem ((c.tc : Thread Cert.Reference2Ideal.nD Cert.Reference2Ideal.τ).loc Cert.Reference2Ideal.main_v10) = v9 c
          ∧ r.2.mem ((c.tc : Thread Cert.Reference2Ideal.nD Cert.Reference2Ideal.τ).loc Cert.Reference2Ideal.main_v11) = v10 c
          ∧ r.2.mem ((c.tc : Thread Cert.Reference2Ideal.nD Cert.Reference2Ideal.τ).loc Cert.Reference2Ideal.main_v12) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v44_0)) (v1 : (c : Dev Cert.Kernel7Ideal.nD) → Buf (Elt Ideal) ((c.tc : Thread Cert.Kernel7Ideal.nD Cert.Kernel7Ideal.τ).loc Cert.Kernel7Ideal.main_v44_1)) (v2 : (c : Dev Cert.Kernel7Ideal.nD) → Buf (Elt Ideal) ((c.tc : Thread Cert.Kernel7Ideal.nD Cert.Kernel7Ideal.τ).loc Cert.Kernel7Ideal.main_v45)) (v3 : (c : Dev Cert.Kernel7Ideal.nD) → Buf (Elt Ideal) ((c.tc : Thread Cert.Kernel7Ideal.nD Cert.Kernel7Ideal.τ).loc Cert.Kernel7Ideal.main_v44_3)) (v4 : (c : Dev Cert.Kernel7Ideal.nD) → Buf (Elt Ideal) ((c.tc : Thread Cert.Kernel7Ideal.nD Cert.Kernel7Ideal.τ).loc Cert.Kernel7Ideal.main_v44_4)) (v5 : (c : Dev Cert.Kernel7Ideal.nD) → Buf (Elt Ideal) ((c.tc : Thread Cert.Kernel7Ideal.nD Cert.Kernel7Ideal.τ).loc Cert.Kernel7Ideal.main_v44_5)) (v6 : (c : Dev Cert.Kernel7Ideal.nD) → Buf (Elt Ideal) ((c.tc : Thread Cert.Kernel7Ideal.nD Cert.Kernel7Ideal.τ).loc Cert.Kernel7Ideal.main_v44_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v44_0) = v0 c
          ∧ r.2.mem ((c.tc : Thread Cert.Kernel7Ideal.nD Cert.Kernel7Ideal.τ).loc Cert.Kernel7Ideal.main_v44_1) = v1 c
          ∧ r.2.mem ((c.tc : Thread Cert.Kernel7Ideal.nD Cert.Kernel7Ideal.τ).loc Cert.Kernel7Ideal.main_v45) = v2 c
          ∧ r.2.mem ((c.tc : Thread Cert.Kernel7Ideal.nD Cert.Kernel7Ideal.τ).loc Cert.Kernel7Ideal.main_v44_3) = v3 c
          ∧ r.2.mem ((c.tc : Thread Cert.Kernel7Ideal.nD Cert.Kernel7Ideal.τ).loc Cert.Kernel7Ideal.main_v44_4) = v4 c
          ∧ r.2.mem ((c.tc : Thread Cert.Kernel7Ideal.nD Cert.Kernel7Ideal.τ).loc Cert.Kernel7Ideal.main_v44_5) = v5 c
          ∧ r.2.mem ((c.tc : Thread Cert.Kernel7Ideal.nD Cert.Kernel7Ideal.τ).loc Cert.Kernel7Ideal.main_v44_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v109) = v1 c
          ∧ r.2.mem ((c.tc : Thread Cert.Reference7Ideal.nD Cert.Reference7Ideal.τ).loc Cert.Reference7Ideal.main_v110) = v2 c
          ∧ r.2.mem ((c.tc : Thread Cert.Reference7Ideal.nD Cert.Reference7Ideal.τ).loc Cert.Reference7Ideal.main_v114) = v3 c
          ∧ r.2.mem ((c.tc : Thread Cert.Reference7Ideal.nD Cert.Reference7Ideal.τ).loc Cert.Reference7Ideal.main_v115) = v4 c
          ∧ r.2.mem ((c.tc : Thread Cert.Reference7Ideal.nD Cert.Reference7Ideal.τ).loc Cert.Reference7Ideal.main_v117) = v5 c
          ∧ r.2.mem ((c.tc : Thread Cert.Reference7Ideal.nD Cert.Reference7Ideal.τ).loc Cert.Reference7Ideal.main_v118) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] [hPre_blocks_named : Cert.Pre_blocks_named.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v55) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite_prompt [hKernel11Ideal : Cert.Kernel11Ideal.Facts] [hReference11Ideal : Cert.Reference11Ideal.Facts] [hPre_finite_prompt : Cert.Pre_finite_prompt.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_prompt m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v26) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_v13) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite_latent [hKernel13Ideal : Cert.Kernel13Ideal.Facts] [hReference13Ideal : Cert.Reference13Ideal.Facts] [hPre_finite_latent : Cert.Pre_finite_latent.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_latent m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v28) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite_latent [hKernel14Ideal : Cert.Kernel14Ideal.Facts] [hReference14Ideal : Cert.Reference14Ideal.Facts] [hPre_finite_latent : Cert.Pre_finite_latent.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_latent m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_qk : Cert.Pre_finite_qk.Facts) (hPre_blocks_named : Cert.Pre_blocks_named.Facts) (hPre_finite_prompt : Cert.Pre_finite_prompt.Facts) (hPre_finite_latent : Cert.Pre_finite_latent.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_blocks_named := hPre_blocks_named)
    ∧ quiescent_Kernel8Ideal (hKernel8Ideal := hKernel8Ideal) (hPre_blocks_named := hPre_blocks_named)
    ∧ quiescent_Reference8Ideal (hReference8Ideal := hReference8Ideal)
    ∧ quiescent_Reference8Ideal_pre_blocks_named (hReference8Ideal := hReference8Ideal) (hPre_blocks_named := hPre_blocks_named)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_prompt (hKernel11Ideal := hKernel11Ideal) (hPre_finite_prompt := hPre_finite_prompt)
    ∧ quiescent_Reference11Ideal (hReference11Ideal := hReference11Ideal)
    ∧ quiescent_Reference11Ideal_pre_finite_prompt (hReference11Ideal := hReference11Ideal) (hPre_finite_prompt := hPre_finite_prompt)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_latent (hKernel13Ideal := hKernel13Ideal) (hPre_finite_latent := hPre_finite_latent)
    ∧ quiescent_Reference13Ideal (hReference13Ideal := hReference13Ideal)
    ∧ quiescent_Reference13Ideal_pre_finite_latent (hReference13Ideal := hReference13Ideal) (hPre_finite_latent := hPre_finite_latent)
    ∧ quiescent_Kernel14 (hKernel14 := hKernel14)
    ∧ quiescent_Kernel14Ideal (hKernel14Ideal := hKernel14Ideal)
    ∧ quiescent_Kernel14Ideal_pre_finite_latent (hKernel14Ideal := hKernel14Ideal) (hPre_finite_latent := hPre_finite_latent)
    ∧ quiescent_Reference14Ideal (hReference14Ideal := hReference14Ideal)
    ∧ quiescent_Reference14Ideal_pre_finite_latent (hReference14Ideal := hReference14Ideal) (hPre_finite_latent := hPre_finite_latent)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_blocks_named := hPre_blocks_named)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_prompt (hKernel11Ideal := hKernel11Ideal) (hReference11Ideal := hReference11Ideal) (hPre_finite_prompt := hPre_finite_prompt)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_latent (hKernel13Ideal := hKernel13Ideal) (hReference13Ideal := hReference13Ideal) (hPre_finite_latent := hPre_finite_latent)
    ∧ preserves_Kernel14_Kernel14Ideal
    ∧ algebraic_Kernel14Ideal_Reference14Ideal_pre_finite_latent (hKernel14Ideal := hKernel14Ideal) (hReference14Ideal := hReference14Ideal) (hPre_finite_latent := hPre_finite_latent)
-- ==== Pre_blocks_named.lean ====
abbrev S224 : Shape := ⟨1, ![224]⟩
abbrev S1 : Shape := ⟨1, ![1]⟩
abbrev S114688x2048 : Shape := ⟨2, ![114688, 2048]⟩
abbrev S2x32x2048x4096 : Shape := ⟨4, ![2, 32, 2048, 4096]⟩
abbrev S2x32x1x4096 : Shape := ⟨4, ![2, 32, 1, 4096]⟩
abbrev S_ : Shape := ⟨0, ![]⟩

class Facts : Prop where
  bcast_S_S224 : S_.BroadcastsInDim S224 (![] : Fin 0 → Fin S224.rank)
  reducesTo_S224_S_d0 : S224.ReducesTo [0] S_
  h_S_ : 0 < S_.numel
  shapeCasts_S1_S_ : S1.ShapeCasts S_

variable [Facts]

def fn {F : FTy → Type} [FloatOps F] (main_arg0 : IVec S224 32) (main_arg1 : IVec S1 32) (main_arg2 : FVec F S114688x2048 .bf16) (main_arg3 : FVec F S2x32x2048x4096 .bf16) (main_arg4 : FVec F S2x32x1x4096 .f32) : IVec S_ 1 :=
  let main_c : IVec S_ 32 := constantI S_ 32 0#32
  let main_v0 : IVec S224 32 := broadcastInDim S224 ![] bcast_S_S224 main_c
  let main_v1 : IVec S224 1 := cmpi .sge main_arg0 main_v0
  let main_c_0 : IVec S_ 32 := constantI S_ 32 32#32
  let main_v2 : IVec S224 32 := broadcastInDim S224 ![] bcast_S_S224 main_c_0
  let main_v3 : IVec S224 1 := cmpi .slt main_arg0 main_v2
  let main_v4 : IVec S224 1 := andi main_v1 main_v3
  let main_c_1 : IVec S_ 1 := constantI S_ 1 1#1
  let main_v5 : IVec S_ 1 := (fun x v => Host.reduce IntOp.andi x v reducesTo_S224_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_finite_latent.lean ====
abbrev S24576x1024 : Shape := ⟨2, ![24576, 1024]⟩
abbrev S24576x1536 : Shape := ⟨2, ![24576, 1536]⟩
abbrev S28672x2048 : Shape := ⟨2, ![28672, 2048]⟩
abbrev S28672x1024 : Shape := ⟨2, ![28672, 1024]⟩
abbrev S_ : Shape := ⟨0, ![]⟩

class Facts : Prop where
  bcast_S_S24576x1536 : S_.BroadcastsInDim S24576x1536 (![] : Fin 0 → Fin S24576x1536.rank)
  reducesTo_S24576x1536_S_d0_1 : S24576x1536.ReducesTo [0, 1] S_
  h_S_ : 0 < S_.numel
  bitsLt_bf16_f32 : FTy.bits .bf16 < FTy.bits .f32
  bcast_S_S28672x2048 : S_.BroadcastsInDim S28672x2048 (![] : Fin 0 → Fin S28672x2048.rank)
  reducesTo_S28672x2048_S_d0_1 : S28672x2048.ReducesTo [0, 1] S_

variable [Facts]

def fn {F : FTy → Type} [FloatOps F] (main_arg0 : FVec F S24576x1024 .bf16) (main_arg1 : FVec F S24576x1536 .f32) (main_arg2 : FVec F S28672x2048 .bf16) (main_arg3 : FVec F S28672x1024 .bf16) : IVec S_ 1 :=
  let main_v0 : FVec F S24576x1536 .f32 := Host.absf main_arg1
  let main_cst : FVec F S_ .f32 := constant S_ .f32 0x7F800000#32
  let main_v1 : FVec F S24576x1536 .f32 := broadcastInDim S24576x1536 ![] bcast_S_S24576x1536 main_cst
  let main_v2 : IVec S24576x1536 1 := cmpf .olt main_v0 main_v1
  let main_c : IVec S_ 1 := constantI S_ 1 1#1
  let main_v3 : IVec S_ 1 := (fun x v => Host.reduce IntOp.andi x v reducesTo_S24576x1536_S_d0_1 h_S_) main_v2 main_c
  let main_v4 : FVec F S28672x2048 .f32 := (extf .f32 · bitsLt_bf16_f32) main_arg2
  let main_v5 : FVec F S28672x2048 .f32 := Host.absf main_v4
  let main_cst_0 : FVec F S_ .f32 := constant S_ .f32 0x7F800000#32
  let main_v6 : FVec F S28672x2048 .f32 := broadcastInDim S28672x2048 ![] bcast_S_S28672x2048 main_cst_0
  let main_v7 : IVec S28672x2048 1 := cmpf .olt main_v5 main_v6
  let main_c_1 : IVec S_ 1 := constantI S_ 1 1#1
  let main_v8 : IVec S_ 1 := (fun x v => Host.reduce IntOp.andi x v reducesTo_S28672x2048_S_d0_1 h_S_) main_v7 main_c_1
  let main_v9 : IVec S_ 1 := andi main_v3 main_v8
  main_v9
-- ==== Pre_finite_prompt.lean ====
abbrev S24576x2048 : Shape := ⟨2, ![24576, 2048]⟩
abbrev S24576x512 : Shape := ⟨2, ![24576, 512]⟩
abbrev S_ : Shape := ⟨0, ![]⟩

class Facts : Prop where
  bcast_S_S24576x2048 : S_.BroadcastsInDim S24576x2048 (![] : Fin 0 → Fin S24576x2048.rank)
  reducesTo_S24576x2048_S_d0_1 : S24576x2048.ReducesTo [0, 1] S_
  h_S_ : 0 < S_.numel
  bcast_S_S24576x512 : S_.BroadcastsInDim S24576x512 (![] : Fin 0 → Fin S24576x512.rank)
  reducesTo_S24576x512_S_d0_1 : S24576x512.ReducesTo [0, 1] S_

variable [Facts]

def fn {F : FTy → Type} [FloatOps F] (main_arg0 : FVec F S24576x2048 .bf16) (main_arg1 : FVec F S24576x2048 .f32) (main_arg2 : FVec F S24576x512 .f32) (main_arg3 : FVec F S24576x512 .f32) : IVec S_ 1 :=
  let main_v0 : FVec F S24576x2048 .f32 := Host.absf main_arg1
  let main_cst : FVec F S_ .f32 := constant S_ .f32 0x7F800000#32
  let main_v1 : FVec F S24576x2048 .f32 := broadcastInDim S24576x2048 ![] bcast_S_S24576x2048 main_cst
  let main_v2 : IVec S24576x2048 1 := cmpf .olt main_v0 main_v1
  let main_c : IVec S_ 1 := constantI S_ 1 1#1
  let main_v3 : IVec S_ 1 := (fun x v => Host.reduce IntOp.andi x v reducesTo_S24576x2048_S_d0_1 h_S_) main_v2 main_c
  let main_v4 : FVec F S24576x512 .f32 := Host.absf main_arg2
  let main_cst_0 : FVec F S_ .f32 := constant S_ .f32 0x7F800000#32
  let main_v5 : FVec F S24576x512 .f32 := broadcastInDim S24576x512 ![] bcast_S_S24576x512 main_cst_0
  let main_v6 : IVec S24576x512 1 := cmpf .olt main_v4 main_v5
  let main_c_1 : IVec S_ 1 := constantI S_ 1 1#1
  let main_v7 : IVec S_ 1 := (fun x v => Host.reduce IntOp.andi x v reducesTo_S24576x512_S_d0_1 h_S_) main_v6 main_c_1
  let main_v8 : IVec S_ 1 := andi main_v3 main_v7
  main_v8
-- ==== Pre_finite_qk.lean ====
abbrev S24576x2048 : Shape := ⟨2, ![24576, 2048]⟩
abbrev S24576x512 : Shape := ⟨2, ![24576, 512]⟩
abbrev S8x512x4x128 : Shape := ⟨4, ![8, 512, 4, 128]⟩
abbrev S_ : Shape := ⟨0, ![]⟩

class Facts : Prop where
  bcast_S_S24576x2048 : S_.BroadcastsInDim S24576x2048 (![] : Fin 0 → Fin S24576x2048.rank)
  reducesTo_S24576x2048_S_d0_1 : S24576x2048.ReducesTo [0, 1] S_
  h_S_ : 0 < S_.numel
  bcast_S_S24576x512 : S_.BroadcastsInDim S24576x512 (![] : Fin 0 → Fin S24576x512.rank)
  reducesTo_S24576x512_S_d0_1 : S24576x512.ReducesTo [0, 1] S_
  bcast_S_S8x512x4x128 : S_.BroadcastsInDim S8x512x4x128 (![] : Fin 0 → Fin S8x512x4x128.rank)
  reducesTo_S8x512x4x128_S_d0_1_2_3 : S8x512x4x128.ReducesTo [0, 1, 2, 3] S_

variable [Facts]

def fn {F : FTy → Type} [FloatOps F] (main_arg0 : FVec F S24576x2048 .bf16) (main_arg1 : FVec F S24576x2048 .f32) (main_arg2 : FVec F S24576x512 .f32) (main_arg3 : FVec F S24576x512 .f32) (main_arg4 : FVec F S8x512x4x128 .f32) (main_arg5 : FVec F S8x512x4x128 .f32) : IVec S_ 1 :=
  let main_v0 : FVec F S24576x2048 .f32 := Host.absf main_arg1
  let main_cst : FVec F S_ .f32 := constant S_ .f32 0x7F800000#32
  let main_v1 : FVec F S24576x2048 .f32 := broadcastInDim S24576x2048 ![] bcast_S_S24576x2048 main_cst
  let main_v2 : IVec S24576x2048 1 := cmpf .olt main_v0 main_v1
  let main_c : IVec S_ 1 := constantI S_ 1 1#1
  let main_v3 : IVec S_ 1 := (fun x v => Host.reduce IntOp.andi x v reducesTo_S24576x2048_S_d0_1 h_S_) main_v2 main_c
  let main_v4 : FVec F S24576x512 .f32 := Host.absf main_arg2
  let main_cst_0 : FVec F S_ .f32 := constant S_ .f32 0x7F800000#32
  let main_v5 : FVec F S24576x512 .f32 := broadcastInDim S24576x512 ![] bcast_S_S24576x512 main_cst_0
  let main_v6 : IVec S24576x512 1 := cmpf .olt main_v4 main_v5
  let main_c_1 : IVec S_ 1 := constantI S_ 1 1#1
  let main_v7 : IVec S_ 1 := (fun x v => Host.reduce IntOp.andi x v reducesTo_S24576x512_S_d0_1 h_S_) main_v6 main_c_1
  let main_v8 : IVec S_ 1 := andi main_v3 main_v7
  let main_v9 : FVec F S8x512x4x128 .f32 := Host.absf main_arg4
  let main_cst_2 : FVec F S_ .f32 := constant S_ .f32 0x7F800000#32
  let main_v10 : FVec F S8x512x4x128 .f32 := broadcastInDim S8x512x4x128 ![] bcast_S_S8x512x4x128 main_cst_2
  let main_v11 : IVec S8x512x4x128 1 := cmpf .olt main_v9 main_v10
  let main_c_3 : IVec S_ 1 := constantI S_ 1 1#1
  let main_v12 : IVec S_ 1 := (fun x v => Host.reduce IntOp.andi x v reducesTo_S8x512x4x128_S_d0_1_2_3 h_S_) main_v11 main_c_3
  let main_v13 : IVec S_ 1 := andi main_v8 main_v12
  main_v13
-- ==== Kernel.lean ====
abbrev S24576x2048 : Shape := ⟨2, ![24576, 2048]⟩
abbrev S24576x512 : Shape := ⟨2, ![24576, 512]⟩
abbrev S8x512x4x128 : Shape := ⟨4, ![8, 512, 4, 128]⟩
abbrev S_ : Shape := ⟨0, ![]⟩
abbrev S16384x512 : Shape := ⟨2, ![16384, 512]⟩
abbrev S8x2048x512 : Shape := ⟨3, ![8, 2048, 512]⟩
abbrev S8x512x512 : Shape := ⟨3, ![8, 512, 512]⟩
abbrev S8x2560x512 : Shape := ⟨3, ![8, 2560, 512]⟩
abbrev S20480x512 : Shape := ⟨2, ![20480, 512]⟩
abbrev S256x512 : Shape := ⟨2, ![256, 512]⟩
abbrev S2560x128 : Shape := ⟨2, ![2560, 128]⟩
abbrev S256x128 : Shape := ⟨2, ![256, 128]⟩
abbrev S256x2560 : Shape := ⟨2, ![256, 2560]⟩
abbrev S256 : Shape := ⟨1, ![256]⟩
abbrev S256x1 : Shape := ⟨2, ![256, 1]⟩

abbrev nBuf : Space → Nat
  | .hbm => 25
  | .vmem => 8
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .f32⟩
  | .hbm, ⟨2, _⟩ => ⟨S24576x512, .f32⟩
  | .hbm, ⟨3, _⟩ => ⟨S24576x512, .f32⟩
  | .hbm, ⟨4, _⟩ => ⟨S8x512x4x128, .f32⟩
  | .hbm, ⟨5, _⟩ => ⟨S8x512x4x128, .f32⟩
  | .hbm, ⟨6, _⟩ => ⟨S24576x512, .bf16⟩
  | .hbm, ⟨7, _⟩ => ⟨S24576x512, .bf16⟩
  | .hbm, ⟨8, _⟩ => ⟨S_, .f32⟩
  | .hbm, ⟨9, _⟩ => ⟨S24576x2048, .f32⟩
  | .hbm, ⟨10, _⟩ => ⟨S24576x2048, .f32⟩
  | .hbm, ⟨11, _⟩ => ⟨S24576x2048, .bf16⟩
  | .hbm, ⟨12, _⟩ => ⟨S16384x512, .bf16⟩
  | .hbm, ⟨13, _⟩ => ⟨S8x2048x512, .bf16⟩
  | .hbm, ⟨14, _⟩ => ⟨S8x512x512, .f32⟩
  | .hbm, ⟨15, _⟩ => ⟨S8x512x512, .bf16⟩
  | .hbm, ⟨16, _⟩ => ⟨S8x2560x512, .bf16⟩
  | .hbm, ⟨17, _⟩ => ⟨S20480x512, .bf16⟩
  | .hbm, ⟨18, _⟩ => ⟨S16384x512, .bf16⟩
  | .hbm, ⟨19, _⟩ => ⟨S8x2048x512, .bf16⟩
  | .hbm, ⟨20, _⟩ => ⟨S8x512x512, .f32⟩
  | .hbm, ⟨21, _⟩ => ⟨S8x512x512, .bf16⟩
  | .hbm, ⟨22, _⟩ => ⟨S8x2560x512, .bf16⟩
  | .hbm, ⟨23, _⟩ => ⟨S20480x512, .bf16⟩
  | .hbm, ⟨24, _⟩ => ⟨S24576x2048, .bf16⟩
  | .local _ .vmem, ⟨0, _⟩ => ⟨S256x512, .bf16⟩
  | .local _ .vmem, ⟨1, _⟩ => ⟨S256x512, .bf16⟩
  | .local _ .vmem, ⟨2, _⟩ => ⟨S2560x128, .bf16⟩
  | .local _ .vmem, ⟨3, _⟩ => ⟨S2560x128, .bf16⟩
  | .local _ .vmem, ⟨4, _⟩ => ⟨S2560x128, .bf16⟩
  | .local _ .vmem, ⟨5, _⟩ => ⟨S2560x128, .bf16⟩
  | .local _ .vmem, ⟨6, _⟩ => ⟨S256x512, .bf16⟩
  | .local _ .vmem, ⟨7, _⟩ => ⟨S256x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S24576x2048 : Shape := ⟨2, ![24576, 2048]⟩
abbrev S24576x512 : Shape := ⟨2, ![24576, 512]⟩
abbrev S8x512x4x128 : Shape := ⟨4, ![8, 512, 4, 128]⟩
abbrev S16384x2048 : Shape := ⟨2, ![16384, 2048]⟩
abbrev S8x2048x4x4x128 : Shape := ⟨5, ![8, 2048, 4, 4, 128]⟩
abbrev S16384x512 : Shape := ⟨2, ![16384, 512]⟩
abbrev S8x2048x4x128 : Shape := ⟨4, ![8, 2048, 4, 128]⟩
abbrev S8x2560x4x128 : Shape := ⟨4, ![8, 2560, 4, 128]⟩
abbrev S8x4x2560x2048x4 : Shape := ⟨5, ![8, 4, 2560, 2048, 4]⟩
abbrev S8x4x4x2048x2560 : Shape := ⟨5, ![8, 4, 4, 2048, 2560]⟩
abbrev S_ : Shape := ⟨0, ![]⟩
abbrev S8x4x4x2048 : Shape := ⟨4, ![8, 4, 4, 2048]⟩
abbrev S8x4x4x2048x1 : Shape := ⟨5, ![8, 4, 4, 2048, 1]⟩
abbrev S8x4x128x4x2048 : Shape := ⟨5, ![8, 4, 128, 4, 2048]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .f32⟩
  | .hbm, ⟨2, _⟩ => ⟨S24576x512, .f32⟩
  | .hbm, ⟨3, _⟩ => ⟨S24576x512, .f32⟩
  | .hbm, ⟨4, _⟩ => ⟨S8x512x4x128, .f32⟩
  | .hbm, ⟨5, _⟩ => ⟨S8x512x4x128, .f32⟩
  | .hbm, ⟨6, _⟩ => ⟨S16384x2048, .f32⟩
  | .hbm, ⟨7, _⟩ => ⟨S8x2048x4x4x128, .f32⟩
  | .hbm, ⟨8, _⟩ => ⟨S16384x512, .f32⟩
  | .hbm, ⟨9, _⟩ => ⟨S8x2048x4x128, .f32⟩
  | .hbm, ⟨10, _⟩ => ⟨S8x2560x4x128, .f32⟩
  | .hbm, ⟨11, _⟩ => ⟨S16384x512, .f32⟩
  | .hbm, ⟨12, _⟩ => ⟨S8x2048x4x128, .f32⟩
  | .hbm, ⟨13, _⟩ => ⟨S8x2560x4x128, .f32⟩
  | .hbm, ⟨14, _⟩ => ⟨S8x4x2560x2048x4, .f32⟩
  | .hbm, ⟨15, _⟩ => ⟨S8x4x4x2048x2560, .f32⟩
  | .hbm, ⟨16, _⟩ => ⟨S_, .f32⟩
  | .hbm, ⟨17, _⟩ => ⟨S8x4x4x2048x2560, .f32⟩
  | .hbm, ⟨18, _⟩ => ⟨S8x4x4x2048x2560, .f32⟩
  | .hbm, ⟨19, _⟩ => ⟨S_, .f32⟩
  | .hbm, ⟨20, _⟩ => ⟨S8x4x4x2048, .f32⟩
  | .hbm, ⟨21, _⟩ => ⟨S_, .f32⟩
  | .hbm, ⟨22, _⟩ => ⟨S8x4x4x2048, .f32⟩
  | .hbm, ⟨23, _⟩ => ⟨S8x4x4x2048, .f32⟩
  | .hbm, ⟨24, _⟩ => ⟨S8x4x4x2048x1, .f32⟩
  | .hbm, ⟨25, _⟩ => ⟨S8x4x4x2048x2560, .f32⟩
  | .hbm, ⟨26, _⟩ => ⟨S8x4x4x2048x2560, .f32⟩
  | .hbm, ⟨27, _⟩ => ⟨S8x4x4x2048x2560, .f32⟩
  | .hbm, ⟨28, _⟩ => ⟨S_, .f32⟩
  | .hbm, ⟨29, _⟩ => ⟨S8x4x4x2048, .f32⟩
  | .hbm, ⟨30, _⟩ => ⟨S8x4x4x2048x1, .f32⟩
  | .hbm, ⟨31, _⟩ => ⟨S8x4x4x2048x2560, .f32⟩
  | .hbm, ⟨32, _⟩ => ⟨S8x4x4x2048x2560, .f32⟩
  | .hbm, ⟨33, _⟩ => ⟨S8x4x128x4x2048, .f32⟩
  | .hbm, ⟨34, _⟩ => ⟨S8x2048x4x4x128, .f32⟩
  | .hbm, ⟨35, _⟩ => ⟨S16384x2048, .f32⟩
  | .hbm, ⟨36, _⟩ => ⟨S8192x2048, .bf16⟩
  | .hbm, ⟨37, _⟩ => ⟨S16384x2048, .bf16⟩
  | .hbm, ⟨38, _⟩ => ⟨S24576x2048, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel2.lean ====
abbrev S24576x4096 : Shape := ⟨2, ![24576, 4096]⟩
abbrev S4096x20960 : Shape := ⟨2, ![4096, 20960]⟩
abbrev S4096x12288 : Shape := ⟨2, ![4096, 12288]⟩
abbrev S4096x2048 : Shape := ⟨2, ![4096, 2048]⟩
abbrev S4096x1024 : Shape := ⟨2, ![4096, 1024]⟩
abbrev S4096x896 : Shape := ⟨2, ![4096, 896]⟩
abbrev S_ : Shape := ⟨0, ![]⟩
abbrev S4096x128 : Shape := ⟨2, ![4096, 128]⟩
abbrev S4096x512 : Shape := ⟨2, ![4096, 512]⟩
abbrev S4096x64 : Shape := ⟨2, ![4096, 64]⟩
abbrev S4096x32 : Shape := ⟨2, ![4096, 32]⟩
abbrev S4096x96 : Shape := ⟨2, ![4096, 96]⟩
abbrev S4096x256 : Shape := ⟨2, ![4096, 256]⟩
abbrev S4096x21504 : Shape := ⟨2, ![4096, 21504]⟩
abbrev S24576x21504 : Shape := ⟨2, ![24576, 21504]⟩
abbrev S1024x4096 : Shape := ⟨2, ![1024, 4096]⟩
abbrev S1024x512 : Shape := ⟨2, ![1024, 512]⟩
abbrev S24576x896 : Shape := ⟨2, ![24576, 896]⟩
abbrev S24576x512 : Shape := ⟨2, ![24576, 512]⟩
abbrev S24576x64 : Shape := ⟨2, ![24576, 64]⟩
abbrev S24576x2048 : Shape := ⟨2, ![24576, 2048]⟩
abbrev S24576x1024 : Shape := ⟨2, ![24576, 1024]⟩
abbrev S24576x32 : Shape := ⟨2, ![24576, 32]⟩
abbrev S24576x12288 : Shape := ⟨2, ![24576, 12288]⟩

abbrev nBuf : Space → Nat
  | .hbm => 38
  | .vmem => 6
  | .smem => 0
  | _ => 0

abbrev bufTy : (tb : Table) → Fin (tcTables nBuf tb) → BufTy
  | .hbm, ⟨0, _⟩ => ⟨S24576x4096, .f32⟩
  | .hbm, ⟨1, _⟩ => ⟨S4096x20960, .f32⟩
  | .hbm, ⟨2, _⟩ => ⟨S24576x4096, .bf16⟩
  | .hbm, ⟨3, _⟩ => ⟨S4096x20960, .bf16⟩
  | .hbm, ⟨4, _⟩ => ⟨S4096x12288, .bf16⟩
  | .hbm, ⟨5, _⟩ => ⟨S4096x2048, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x896, .bf16⟩
  | .hbm, ⟨11, _⟩ => ⟨S_, .bf16⟩
  | .hbm, ⟨12, _⟩ => ⟨S4096x128, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x64, .bf16⟩
  | .hbm, ⟨17, _⟩ => ⟨S_, .bf16⟩
  | .hbm, ⟨18, _⟩ => ⟨S4096x64, .bf16⟩
  | .hbm, ⟨19, _⟩ => ⟨S4096x32, .bf16⟩
  | .hbm, ⟨20, _⟩ => ⟨S_, .bf16⟩
  | .hbm, ⟨21, _⟩ => ⟨S4096x96, .bf16⟩
  | .hbm, ⟨22, _⟩ => ⟨S_, .bf16⟩
  | .hbm, ⟨23, _⟩ => ⟨S4096x256, .bf16⟩
  | .hbm, ⟨24, _⟩ => ⟨S4096x21504, .bf16⟩
  | .hbm, ⟨25, _⟩ => ⟨S24576x21504, .f32⟩
  | .hbm, ⟨26, _⟩ => ⟨S24576x896, .f32⟩
  | .hbm, ⟨27, _⟩ => ⟨S24576x512, .f32⟩
  | .hbm, ⟨28, _⟩ => ⟨S24576x64, .f32⟩
  | .hbm, ⟨29, _⟩ => ⟨S24576x2048, .f32⟩
  | .hbm, ⟨30, _⟩ => ⟨S24576x512, .f32⟩
  | .hbm, ⟨31, _⟩ => ⟨S24576x512, .f32⟩
  | .hbm, ⟨32, _⟩ => ⟨S24576x1024, .f32⟩
  | .hbm, ⟨33, _⟩ => ⟨S24576x1024, .f32⟩
  | .hbm, ⟨34, _⟩ => ⟨S24576x1024, .f32⟩
  | .hbm, ⟨35, _⟩ => ⟨S24576x1024, .f32⟩
  | .hbm, ⟨36, _⟩ => ⟨S24576x32, .f32⟩
  | .hbm, ⟨37, _⟩ => ⟨S24576x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 42], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S24576x4096 : Shape := ⟨2, ![24576, 4096]⟩
abbrev S4096x20960 : Shape := ⟨2, ![4096, 20960]⟩
abbrev S24576x20960 : Shape := ⟨2, ![24576, 20960]⟩
abbrev S24576x896 : Shape := ⟨2, ![24576, 896]⟩
abbrev S24576x512 : Shape := ⟨2, ![24576, 512]⟩
abbrev S24576x64 : Shape := ⟨2, ![24576, 64]⟩
abbrev S24576x2048 : Shape := ⟨2, ![24576, 2048]⟩
abbrev S24576x1024 : Shape := ⟨2, ![24576, 1024]⟩
abbrev S24576x32 : Shape := ⟨2, ![24576, 32]⟩
abbrev S24576x12288 : Shape := ⟨2, ![24576, 12288]⟩

abbrev nBuf : Space → Nat
  | .hbm => 15
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096x20960, .f32⟩
  | .hbm, ⟨2, _⟩ => ⟨S24576x20960, .f32⟩
  | .hbm, ⟨3, _⟩ => ⟨S24576x896, .f32⟩
  | .hbm, ⟨4, _⟩ => ⟨S24576x512, .f32⟩
  | .hbm, ⟨5, _⟩ => ⟨S24576x64, .f32⟩
  | .hbm, ⟨6, _⟩ => ⟨S24576x2048, .f32⟩
  | .hbm, ⟨7, _⟩ => ⟨S24576x512, .f32⟩
  | .hbm, ⟨8, _⟩ => ⟨S24576x512, .f32⟩
  | .hbm, ⟨9, _⟩ => ⟨S24576x1024, .f32⟩
  | .hbm, ⟨10, _⟩ => ⟨S24576x1024, .f32⟩
  | .hbm, ⟨11, _⟩ => ⟨S24576x1024, .f32⟩
  | .hbm, ⟨12, _⟩ => ⟨S24576x1024, .f32⟩
  | .hbm, ⟨13, _⟩ => ⟨S24576x32, .f32⟩
  | .hbm, ⟨14, _⟩ => ⟨S24576x12288, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel3.lean ====
abbrev S24576x1024 : Shape := ⟨2, ![24576, 1024]⟩
abbrev S24576x2048 : Shape := ⟨2, ![24576, 2048]⟩
abbrev S24576x21504 : Shape := ⟨2, ![24576, 21504]⟩
abbrev S4096x4096 : Shape := ⟨2, ![4096, 4096]⟩
abbrev S2048x4096 : Shape := ⟨2, ![2048, 4096]⟩
abbrev S1024x4096 : Shape := ⟨2, ![1024, 4096]⟩
abbrev S24576x4096 : Shape := ⟨2, ![24576, 4096]⟩
abbrev S512x2048 : Shape := ⟨2, ![512, 2048]⟩
abbrev S512x1024 : Shape := ⟨2, ![512, 1024]⟩
abbrev S512x512 : Shape := ⟨2, ![512, 512]⟩
abbrev S2048x512 : Shape := ⟨2, ![2048, 512]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S24576x1024, .bf16⟩
  | .hbm, ⟨1, _⟩ => ⟨S24576x2048, .bf16⟩
  | .hbm, ⟨2, _⟩ => ⟨S24576x1024, .bf16⟩
  | .hbm, ⟨3, _⟩ => ⟨S24576x21504, .f32⟩
  | .hbm, ⟨4, _⟩ => ⟨S4096x4096, .f32⟩
  | .hbm, ⟨5, _⟩ => ⟨S4096x4096, .bf16⟩
  | .hbm, ⟨6, _⟩ => ⟨S2048x4096, .bf16⟩
  | .hbm, ⟨7, _⟩ => ⟨S1024x4096, .bf16⟩
  | .hbm, ⟨8, _⟩ => ⟨S1024x4096, .bf16⟩
  | .hbm, ⟨9, _⟩ => ⟨S4096x4096, .bf16⟩
  | .hbm, ⟨10, _⟩ => ⟨S24576x4096, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S2048x512, .bf16⟩
  | .local _ .vmem, ⟨13, _⟩ => ⟨S2048x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S512x512, .bf16⟩
  | .local _ .vmem, ⟨19, _⟩ => ⟨S512x512, .bf16⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![48, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S24576x1024 : Shape := ⟨2, ![24576, 1024]⟩
abbrev S24576x2048 : Shape := ⟨2, ![24576, 2048]⟩
abbrev S24576x21504 : Shape := ⟨2, ![24576, 21504]⟩
abbrev S4096x4096 : Shape := ⟨2, ![4096, 4096]⟩
abbrev S24576x12288 : Shape := ⟨2, ![24576, 12288]⟩
abbrev S_ : Shape := ⟨0, ![]⟩
abbrev S24576x3x4096 : Shape := ⟨3, ![24576, 3, 4096]⟩
abbrev S24576x1x4096 : Shape := ⟨3, ![24576, 1, 4096]⟩
abbrev S24576x4096 : Shape := ⟨2, ![24576, 4096]⟩
abbrev S1024x4096 : Shape := ⟨2, ![1024, 4096]⟩
abbrev S2048x4096 : Shape := ⟨2, ![2048, 4096]⟩

abbrev nBuf : Space → Nat
  | .hbm => 36
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S24576x2048, .bf16⟩
  | .hbm, ⟨2, _⟩ => ⟨S24576x1024, .bf16⟩
  | .hbm, ⟨3, _⟩ => ⟨S24576x21504, .f32⟩
  | .hbm, ⟨4, _⟩ => ⟨S4096x4096, .f32⟩
  | .hbm, ⟨5, _⟩ => ⟨S24576x1024, .f32⟩
  | .hbm, ⟨6, _⟩ => ⟨S24576x2048, .f32⟩
  | .hbm, ⟨7, _⟩ => ⟨S24576x1024, .f32⟩
  | .hbm, ⟨8, _⟩ => ⟨S24576x12288, .f32⟩
  | .hbm, ⟨9, _⟩ => ⟨S24576x12288, .f32⟩
  | .hbm, ⟨10, _⟩ => ⟨S24576x12288, .f32⟩
  | .hbm, ⟨11, _⟩ => ⟨S_, .f32⟩
  | .hbm, ⟨12, _⟩ => ⟨S24576x12288, .f32⟩
  | .hbm, ⟨13, _⟩ => ⟨S24576x12288, .f32⟩
  | .hbm, ⟨14, _⟩ => ⟨S_, .f32⟩
  | .hbm, ⟨15, _⟩ => ⟨S24576x12288, .f32⟩
  | .hbm, ⟨16, _⟩ => ⟨S24576x12288, .f32⟩
  | .hbm, ⟨17, _⟩ => ⟨S24576x3x4096, .f32⟩
  | .hbm, ⟨18, _⟩ => ⟨S24576x1x4096, .f32⟩
  | .hbm, ⟨19, _⟩ => ⟨S24576x4096, .f32⟩
  | .hbm, ⟨20, _⟩ => ⟨S1024x4096, .f32⟩
  | .hbm, ⟨21, _⟩ => ⟨S24576x4096, .f32⟩
  | .hbm, ⟨22, _⟩ => ⟨S24576x4096, .f32⟩
  | .hbm, ⟨23, _⟩ => ⟨S24576x1x4096, .f32⟩
  | .hbm, ⟨24, _⟩ => ⟨S24576x4096, .f32⟩
  | .hbm, ⟨25, _⟩ => ⟨S2048x4096, .f32⟩
  | .hbm, ⟨26, _⟩ => ⟨S24576x4096, .f32⟩
  | .hbm, ⟨27, _⟩ => ⟨S24576x4096, .f32⟩
  | .hbm, ⟨28, _⟩ => ⟨S24576x4096, .f32⟩
  | .hbm, ⟨29, _⟩ => ⟨S24576x1x4096, .f32⟩
  | .hbm, ⟨30, _⟩ => ⟨S24576x4096, .f32⟩
  | .hbm, ⟨31, _⟩ => ⟨S1024x4096, .f32⟩
  | .hbm, ⟨32, _⟩ => ⟨S24576x4096, .f32⟩
  | .hbm, ⟨33, _⟩ => ⟨S24576x4096, .f32⟩
  | .hbm, ⟨34, _⟩ => ⟨S24576x4096, .f32⟩
  | .hbm, ⟨35, _⟩ => ⟨S24576x4096, .bf16⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel4.lean ====
abbrev S24576x4096 : Shape := ⟨2, ![24576, 4096]⟩
abbrev S4096x4096 : Shape := ⟨2, ![4096, 4096]⟩
abbrev S16x24576 : Shape := ⟨2, ![16, 24576]⟩
abbrev S16x1x24576 : Shape := ⟨3, ![16, 1, 24576]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .f32⟩
  | .hbm, ⟨2, _⟩ => ⟨S24576x4096, .f32⟩
  | .hbm, ⟨3, _⟩ => ⟨S16x24576, .f32⟩
  | .hbm, ⟨4, _⟩ => ⟨S4096x4096, .bf16⟩
  | .hbm, ⟨5, _⟩ => ⟨S16x1x24576, .f32⟩
  | .hbm, ⟨6, _⟩ => ⟨S24576x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c16_i32 : BitVec 32 := 16#32
  let v22 : BitVec 32 := Scalar.addi c16_i32 arg1
  let c0_i32_7 : BitVec 32 := 0#32
  let c0_i32_8 : BitVec 32 := 0#32
  ![v21.toNat, c0_i32_7.toNat, v22.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S24576x4096 : Shape := ⟨2, ![24576, 4096]⟩
abbrev S4096x4096 : Shape := ⟨2, ![4096, 4096]⟩
abbrev S16x24576 : Shape := ⟨2, ![16, 24576]⟩
abbrev S16x4096 : Shape := ⟨2, ![16, 4096]⟩
abbrev S8192x4096 : Shape := ⟨2, ![8192, 4096]⟩
abbrev S1x4096 : Shape := ⟨2, ![1, 4096]⟩
abbrev S16384x4096 : Shape := ⟨2, ![16384, 4096]⟩
abbrev S8x2048x4096 : Shape := ⟨3, ![8, 2048, 4096]⟩
abbrev S8x4096 : Shape := ⟨2, ![8, 4096]⟩
abbrev S8x1x4096 : Shape := ⟨3, ![8, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .f32⟩
  | .hbm, ⟨2, _⟩ => ⟨S24576x4096, .f32⟩
  | .hbm, ⟨3, _⟩ => ⟨S16x24576, .f32⟩
  | .hbm, ⟨4, _⟩ => ⟨S16x4096, .f32⟩
  | .hbm, ⟨5, _⟩ => ⟨S16x4096, .f32⟩
  | .hbm, ⟨6, _⟩ => ⟨S16x4096, .f32⟩
  | .hbm, ⟨7, _⟩ => ⟨S16x4096, .f32⟩
  | .hbm, ⟨8, _⟩ => ⟨S16x4096, .f32⟩
  | .hbm, ⟨9, _⟩ => ⟨S16x4096, .f32⟩
  | .hbm, ⟨10, _⟩ => ⟨S24576x4096, .f32⟩
  | .hbm, ⟨11, _⟩ => ⟨S24576x4096, .f32⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S16384x4096, .f32⟩
  | .hbm, ⟨19, _⟩ => ⟨S8x2048x4096, .f32⟩
  | .hbm, ⟨20, _⟩ => ⟨S8x4096, .f32⟩
  | .hbm, ⟨21, _⟩ => ⟨S8x1x4096, .f32⟩
  | .hbm, ⟨22, _⟩ => ⟨S16384x4096, .f32⟩
  | .hbm, ⟨23, _⟩ => ⟨S8x2048x4096, .f32⟩
  | .hbm, ⟨24, _⟩ => ⟨S8x2048x4096, .f32⟩
  | .hbm, ⟨25, _⟩ => ⟨S8x2048x4096, .f32⟩
  | .hbm, ⟨26, _⟩ => ⟨S8x2048x4096, .f32⟩
  | .hbm, ⟨27, _⟩ => ⟨S16384x4096, .f32⟩
  | .hbm, ⟨28, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Kernel5.lean ====
abbrev S24576x4096 : Shape := ⟨2, ![24576, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S24576x4096 : Shape := ⟨2, ![24576, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S24576x4096 : Shape := ⟨2, ![24576, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S24576x4096 : Shape := ⟨2, ![24576, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S24576x20960 : Shape := ⟨2, ![24576, 20960]⟩
abbrev S2048x64 : Shape := ⟨2, ![2048, 64]⟩
abbrev S2048x128 : Shape := ⟨2, ![2048, 128]⟩
abbrev S512 : Shape := ⟨1, ![512]⟩
abbrev S128 : Shape := ⟨1, ![128]⟩
abbrev S_ : Shape := ⟨0, ![]⟩
abbrev S8192x128 : Shape := ⟨2, ![8192, 128]⟩
abbrev S1x2048x1x128 : Shape := ⟨4, ![1, 2048, 1, 128]⟩
abbrev S8x2048x1x128 : Shape := ⟨4, ![8, 2048, 1, 128]⟩
abbrev S16384x128 : Shape := ⟨2, ![16384, 128]⟩
abbrev S24576x128 : Shape := ⟨2, ![24576, 128]⟩
abbrev S24576x12288 : Shape := ⟨2, ![24576, 12288]⟩
abbrev S24576x2048 : Shape := ⟨2, ![24576, 2048]⟩
abbrev S24576x1024 : Shape := ⟨2, ![24576, 1024]⟩
abbrev S24576x896 : Shape := ⟨2, ![24576, 896]⟩
abbrev S24576x512 : Shape := ⟨2, ![24576, 512]⟩
abbrev S24576x64 : Shape := ⟨2, ![24576, 64]⟩
abbrev S24576x32 : Shape := ⟨2, ![24576, 32]⟩
abbrev S24576x96 : Shape := ⟨2, ![24576, 96]⟩
abbrev S24576x256 : Shape := ⟨2, ![24576, 256]⟩
abbrev S24576x21504 : Shape := ⟨2, ![24576, 21504]⟩
abbrev S1x512 : Shape := ⟨2, ![1, 512]⟩
abbrev S1x128 : Shape := ⟨2, ![1, 128]⟩
abbrev S256x512 : Shape := ⟨2, ![256, 512]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 76
  | .vmem => 35
  | .smem => 0
  | _ => 0

abbrev bufTy : (tb : Table) → Fin (tcTables nBuf tb) → BufTy
  | .hbm, ⟨0, _⟩ => ⟨S24576x20960, .f32⟩
  | .hbm, ⟨1, _⟩ => ⟨S2048x64, .f32⟩
  | .hbm, ⟨2, _⟩ => ⟨S2048x64, .f32⟩
  | .hbm, ⟨3, _⟩ => ⟨S2048x128, .f32⟩
  | .hbm, ⟨4, _⟩ => ⟨S2048x128, .f32⟩
  | .hbm, ⟨5, _⟩ => ⟨S512, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S2048x128, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S_, .f32⟩
  | .hbm, ⟨15, _⟩ => ⟨S8192x128, .f32⟩
  | .hbm, ⟨16, _⟩ => ⟨S1x2048x1x128, .f32⟩
  | .hbm, ⟨17, _⟩ => ⟨S8x2048x1x128, .f32⟩
  | .hbm, ⟨18, _⟩ => ⟨S16384x128, .f32⟩
  | .hbm, ⟨19, _⟩ => ⟨S24576x128, .f32⟩
  | .hbm, ⟨20, _⟩ => ⟨S_, .f32⟩
  | .hbm, ⟨21, _⟩ => ⟨S8192x128, .f32⟩
  | .hbm, ⟨22, _⟩ => ⟨S1x2048x1x128, .f32⟩
  | .hbm, ⟨23, _⟩ => ⟨S8x2048x1x128, .f32⟩
  | .hbm, ⟨24, _⟩ => ⟨S16384x128, .f32⟩
  | .hbm, ⟨25, _⟩ => ⟨S24576x128, .f32⟩
  | .hbm, ⟨26, _⟩ => ⟨S_, .f32⟩
  | .hbm, ⟨27, _⟩ => ⟨S_, .f32⟩
  | .hbm, ⟨28, _⟩ => ⟨S2048x128, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S_, .f32⟩
  | .hbm, ⟨33, _⟩ => ⟨S8192x128, .f32⟩
  | .hbm, ⟨34, _⟩ => ⟨S1x2048x1x128, .f32⟩
  | .hbm, ⟨35, _⟩ => ⟨S8x2048x1x128, .f32⟩
  | .hbm, ⟨36, _⟩ => ⟨S16384x128, .f32⟩
  | .hbm, ⟨37, _⟩ => ⟨S24576x128, .f32⟩
  | .hbm, ⟨38, _⟩ => ⟨S_, .f32⟩
  | .hbm, ⟨39, _⟩ => ⟨S8192x128, .f32⟩
  | .hbm, ⟨40, _⟩ => ⟨S1x2048x1x128, .f32⟩
  | .hbm, ⟨41, _⟩ => ⟨S8x2048x1x128, .f32⟩
  | .hbm, ⟨42, _⟩ => ⟨S16384x128, .f32⟩
  | .hbm, ⟨43, _⟩ => ⟨S24576x128, .f32⟩
  | .hbm, ⟨44, _⟩ => ⟨S24576x12288, .f32⟩
  | .hbm, ⟨45, _⟩ => ⟨S24576x2048, .f32⟩
  | .hbm, ⟨46, _⟩ => ⟨S24576x1024, .f32⟩
  | .hbm, ⟨47, _⟩ => ⟨S24576x1024, .f32⟩
  | .hbm, ⟨48, _⟩ => ⟨S24576x1024, .f32⟩
  | .hbm, ⟨49, _⟩ => ⟨S24576x1024, .f32⟩
  | .hbm, ⟨50, _⟩ => ⟨S24576x896, .f32⟩
  | .hbm, ⟨51, _⟩ => ⟨S_, .f32⟩
  | .hbm, ⟨52, _⟩ => ⟨S24576x128, .f32⟩
  | .hbm, ⟨53, _⟩ => ⟨S24576x512, .f32⟩
  | .hbm, ⟨54, _⟩ => ⟨S24576x512, .f32⟩
  | .hbm, ⟨55, _⟩ => ⟨S24576x512, .f32⟩
  | .hbm, ⟨56, _⟩ => ⟨S24576x64, .f32⟩
  | .hbm, ⟨57, _⟩ => ⟨S_, .f32⟩
  | .hbm, ⟨58, _⟩ => ⟨S24576x64, .f32⟩
  | .hbm, ⟨59, _⟩ => ⟨S24576x32, .f32⟩
  | .hbm, ⟨60, _⟩ => ⟨S_, .f32⟩
  | .hbm, ⟨61, _⟩ => ⟨S24576x96, .f32⟩
  | .hbm, ⟨62, _⟩ => ⟨S_, .f32⟩
  | .hbm, ⟨63, _⟩ => ⟨S24576x256, .f32⟩
  | .hbm, ⟨64, _⟩ => ⟨S24576x21504, .f32⟩
  | .hbm, ⟨65, _⟩ => ⟨S1x512, .f32⟩
  | .hbm, ⟨66, _⟩ => ⟨S1x128, .f32⟩
  | .hbm, ⟨67, _⟩ => ⟨S1x128, .f32⟩
  | .hbm, ⟨68, _⟩ => ⟨S24576x512, .f32⟩
  | .hbm, ⟨69, _⟩ => ⟨S24576x512, .bf16⟩
  | .hbm, ⟨70, _⟩ => ⟨S24576x128, .bf16⟩
  | .hbm, ⟨71, _⟩ => ⟨S24576x2048, .bf16⟩
  | .hbm, ⟨72, _⟩ => ⟨S24576x512, .f32⟩
  | .hbm, ⟨73, _⟩ => ⟨S24576x512, .bf16⟩
  | .hbm, ⟨74, _⟩ => ⟨S24576x512, .bf16⟩
  | .hbm, ⟨75, _⟩ => ⟨S24576x64, .bf16⟩
  | .local _ .vmem, ⟨0, _⟩ => ⟨S256x512, .f32⟩
  | .local _ .vmem, ⟨1, _⟩ => ⟨S256x512, .f32⟩
  | .local _ .vmem, ⟨2, _⟩ => ⟨S256x2048, .f32⟩
  | .local _ .vmem, ⟨3, _⟩ => ⟨S256x2048, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S1x512, .f32⟩
  | .local _ .vmem, ⟨19, _⟩ => ⟨S1x128, .f32⟩
  | .local _ .vmem, ⟨20, _⟩ => ⟨S1x128, .f32⟩
  | .local _ .vmem, ⟨21, _⟩ => ⟨S256x512, .f32⟩
  | .local _ .vmem, ⟨22, _⟩ => ⟨S256x512, .f32⟩
  | .local _ .vmem, ⟨23, _⟩ => ⟨S256x512, .bf16⟩
  | .local _ .vmem, ⟨24, _⟩ => ⟨S256x512, .bf16⟩
  | .local _ .vmem, ⟨25, _⟩ => ⟨S256x128, .bf16⟩
  | .local _ .vmem, ⟨26, _⟩ => ⟨S256x128, .bf16⟩
  | .local _ .vmem, ⟨27, _⟩ => ⟨S256x2048, .bf16⟩
  | .local _ .vmem, ⟨28, _⟩ => ⟨S256x2048, .bf16⟩
  | .local _ .vmem, ⟨29, _⟩ => ⟨S256x512, .f32⟩
  | .local _ .vmem, ⟨30, _⟩ => ⟨S256x512, .f32⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | _, _ => ⟨S24576x20960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_call0_v0 : Ref sig .tc := ⟨.hbm, 9, rfl⟩
abbrev main_v0 : Ref sig .tc := ⟨.hbm, 10, rfl⟩
abbrev main_c : Ref sig .tc := ⟨.hbm, 11, rfl⟩
abbrev main_call1_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_call2_v0 : Ref sig .tc := ⟨.hbm, 27, rfl⟩
abbrev main_v12 : Ref sig .tc := ⟨.hbm, 28, rfl⟩
abbrev main_c_3 : Ref sig .tc := ⟨.hbm, 29, rfl⟩
abbrev main_call3_v0 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44_0 : Ref sig .tc := ⟨.hbm, 68, rfl⟩
abbrev main_v44_1 : Ref sig .tc := ⟨.hbm, 69, rfl⟩
abbrev main_v44_2 : Ref sig .tc := ⟨.hbm, 70, rfl⟩
abbrev main_v44_3 : Ref sig .tc := ⟨.hbm, 71, rfl⟩
abbrev main_v44_4 : Ref sig .tc := ⟨.hbm, 72, rfl⟩
abbrev main_v44_5 : Ref sig .tc := ⟨.hbm, 73, rfl⟩
abbrev main_v44_6 : Ref sig .tc := ⟨.hbm, 74, rfl⟩
abbrev main_v45 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c39_i32 : BitVec 32 := 39#32
  let c0_i32 : BitVec 32 := 0#32
  ![arg0.toNat, c39_i32.toNat]

def cc0_transform_3 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_4 (i : grid0.Coords) : Fin 2 → Nat :=
  let arg0 : BitVec 32 := BitVec.ofNat 32 (i 0).val
  let c164_i32 : BitVec 32 := 164#32
  let c0_i32 : BitVec 32 := 0#32
  ![arg0.toNat, c164_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference7Ideal.lean ====
abbrev S24576x20960 : Shape := ⟨2, ![24576, 20960]⟩
abbrev S2048x64 : Shape := ⟨2, ![2048, 64]⟩
abbrev S2048x128 : Shape := ⟨2, ![2048, 128]⟩
abbrev S512 : Shape := ⟨1, ![512]⟩
abbrev S128 : Shape := ⟨1, ![128]⟩
abbrev S24576x896 : Shape := ⟨2, ![24576, 896]⟩
abbrev S24576x512 : Shape := ⟨2, ![24576, 512]⟩
abbrev S24576x64 : Shape := ⟨2, ![24576, 64]⟩
abbrev S24576x2048 : Shape := ⟨2, ![24576, 2048]⟩
abbrev S24576x16416 : Shape := ⟨2, ![24576, 16416]⟩
abbrev S_ : Shape := ⟨0, ![]⟩
abbrev S24576 : Shape := ⟨1, ![24576]⟩
abbrev S24576x1 : Shape := ⟨2, ![24576, 1]⟩
abbrev S1x512 : Shape := ⟨2, ![1, 512]⟩
abbrev S16384x64 : Shape := ⟨2, ![16384, 64]⟩
abbrev S8x2048x64 : Shape := ⟨3, ![8, 2048, 64]⟩
abbrev S8192x64 : Shape := ⟨2, ![8192, 64]⟩
abbrev S8x2048x16 : Shape := ⟨3, ![8, 2048, 16]⟩
abbrev S1x2048x64 : Shape := ⟨3, ![1, 2048, 64]⟩
abbrev S24576x16x128 : Shape := ⟨3, ![24576, 16, 128]⟩
abbrev S24576x16 : Shape := ⟨2, ![24576, 16]⟩
abbrev S24576x16x1 : Shape := ⟨3, ![24576, 16, 1]⟩
abbrev S1x1x128 : Shape := ⟨3, ![1, 1, 128]⟩
abbrev S24576x4x128 : Shape := ⟨3, ![24576, 4, 128]⟩
abbrev S24576x4 : Shape := ⟨2, ![24576, 4]⟩
abbrev S24576x4x1 : Shape := ⟨3, ![24576, 4, 1]⟩
abbrev S2048x1x128 : Shape := ⟨3, ![2048, 1, 128]⟩
abbrev S16384x16x128 : Shape := ⟨3, ![16384, 16, 128]⟩
abbrev S8x2048x16x128 : Shape := ⟨4, ![8, 2048, 16, 128]⟩
abbrev S8192x16x128 : Shape := ⟨3, ![8192, 16, 128]⟩
abbrev S8x2048x16x32 : Shape := ⟨4, ![8, 2048, 16, 32]⟩
abbrev S1x2048x1x128 : Shape := ⟨4, ![1, 2048, 1, 128]⟩
abbrev S16384x4x128 : Shape := ⟨3, ![16384, 4, 128]⟩
abbrev S8x2048x4x128 : Shape := ⟨4, ![8, 2048, 4, 128]⟩
abbrev S8192x4x128 : Shape := ⟨3, ![8192, 4, 128]⟩
abbrev S8x2048x4x32 : Shape := ⟨4, ![8, 2048, 4, 32]⟩

abbrev nBuf : Space → Nat
  | .hbm => 137
  | .vmem => 0
  | .smem => 0
  | _ => 0

abbrev hbmTy0_0 (i : Nat) : BufTy := match i % 128 with
  | 0 => ⟨S24576x20960, .f32⟩
  | 1 => ⟨S2048x64, .f32⟩
  | 2 => ⟨S2048x64, .f32⟩
  | 3 => ⟨S2048x128, .f32⟩
  | 4 => ⟨S2048x128, .f32⟩
  | 5 => ⟨S512, .f32⟩
  | 6 => ⟨S128, .f32⟩
  | 7 => ⟨S128, .f32⟩
  | 8 => ⟨S24576x896, .f32⟩
  | 9 => ⟨S24576x512, .f32⟩
  | 10 => ⟨S24576x64, .f32⟩
  | 11 => ⟨S24576x2048, .f32⟩
  | 12 => ⟨S24576x512, .f32⟩
  | 13 => ⟨S24576x512, .f32⟩
  | 14 => ⟨S24576x16416, .f32⟩
  | 15 => ⟨S24576x512, .f32⟩
  | 16 => ⟨S_, .f32⟩
  | 17 => ⟨S24576, .f32⟩
  | 18 => ⟨S24576x1, .f32⟩
  | 19 => ⟨S_, .f32⟩
  | 20 => ⟨S24576x1, .f32⟩
  | 21 => ⟨S24576x1, .f32⟩
  | 22 => ⟨S_, .f32⟩
  | 23 => ⟨S24576x1, .f32⟩
  | 24 => ⟨S24576x1, .f32⟩
  | 25 => ⟨S24576x1, .f32⟩
  | 26 => ⟨S24576x512, .f32⟩
  | 27 => ⟨S24576x512, .f32⟩
  | 28 => ⟨S1x512, .f32⟩
  | 29 => ⟨S24576x512, .f32⟩
  | 30 => ⟨S24576x512, .f32⟩
  | 31 => ⟨S16384x64, .f32⟩
  | 32 => ⟨S8x2048x64, .f32⟩
  | 33 => ⟨S8192x64, .f32⟩
  | 34 => ⟨S8x2048x16, .f32⟩
  | 35 => ⟨S8x2048x16, .f32⟩
  | 36 => ⟨S8x2048x16, .f32⟩
  | 37 => ⟨S8x2048x16, .f32⟩
  | 38 => ⟨S8x2048x16, .f32⟩
  | 39 => ⟨S8x2048x16, .f32⟩
  | 40 => ⟨S8x2048x64, .f32⟩
  | 41 => ⟨S1x2048x64, .f32⟩
  | 42 => ⟨S8x2048x64, .f32⟩
  | 43 => ⟨S8x2048x64, .f32⟩
  | 44 => ⟨S1x2048x64, .f32⟩
  | 45 => ⟨S8x2048x64, .f32⟩
  | 46 => ⟨S8x2048x64, .f32⟩
  | 47 => ⟨S8x2048x64, .f32⟩
  | 48 => ⟨S16384x64, .f32⟩
  | 49 => ⟨S24576x64, .f32⟩
  | 50 => ⟨S24576x16x128, .f32⟩
  | 51 => ⟨S24576x16x128, .f32⟩
  | 52 => ⟨S_, .f32⟩
  | 53 => ⟨S24576x16, .f32⟩
  | 54 => ⟨S24576x16x1, .f32⟩
  | 55 => ⟨S_, .f32⟩
  | 56 => ⟨S24576x16x1, .f32⟩
  | 57 => ⟨S24576x16x1, .f32⟩
  | 58 => ⟨S_, .f32⟩
  | 59 => ⟨S24576x16x1, .f32⟩
  | 60 => ⟨S24576x16x1, .f32⟩
  | 61 => ⟨S24576x16x1, .f32⟩
  | 62 => ⟨S24576x16x128, .f32⟩
  | 63 => ⟨S24576x16x128, .f32⟩
  | 64 => ⟨S1x1x128, .f32⟩
  | 65 => ⟨S24576x16x128, .f32⟩
  | 66 => ⟨S24576x16x128, .f32⟩
  | 67 => ⟨S24576x4x128, .f32⟩
  | 68 => ⟨S24576x4x128, .f32⟩
  | 69 => ⟨S_, .f32⟩
  | 70 => ⟨S24576x4, .f32⟩
  | 71 => ⟨S24576x4x1, .f32⟩
  | 72 => ⟨S_, .f32⟩
  | 73 => ⟨S24576x4x1, .f32⟩
  | 74 => ⟨S24576x4x1, .f32⟩
  | 75 => ⟨S_, .f32⟩
  | 76 => ⟨S24576x4x1, .f32⟩
  | 77 => ⟨S24576x4x1, .f32⟩
  | 78 => ⟨S24576x4x1, .f32⟩
  | 79 => ⟨S24576x4x128, .f32⟩
  | 80 => ⟨S24576x4x128, .f32⟩
  | 81 => ⟨S1x1x128, .f32⟩
  | 82 => ⟨S24576x4x128, .f32⟩
  | 83 => ⟨S24576x4x128, .f32⟩
  | 84 => ⟨S2048x1x128, .f32⟩
  | 85 => ⟨S2048x1x128, .f32⟩
  | 86 => ⟨S16384x16x128, .f32⟩
  | 87 => ⟨S8x2048x16x128, .f32⟩
  | 88 => ⟨S8192x16x128, .f32⟩
  | 89 => ⟨S8x2048x16x32, .f32⟩
  | 90 => ⟨S8x2048x16x32, .f32⟩
  | 91 => ⟨S8x2048x16x32, .f32⟩
  | 92 => ⟨S8x2048x16x32, .f32⟩
  | 93 => ⟨S8x2048x16x32, .f32⟩
  | 94 => ⟨S8x2048x16x32, .f32⟩
  | 95 => ⟨S8x2048x16x128, .f32⟩
  | 96 => ⟨S1x2048x1x128, .f32⟩
  | 97 => ⟨S8x2048x16x128, .f32⟩
  | 98 => ⟨S8x2048x16x128, .f32⟩
  | 99 => ⟨S1x2048x1x128, .f32⟩
  | 100 => ⟨S8x2048x16x128, .f32⟩
  | 101 => ⟨S8x2048x16x128, .f32⟩
  | 102 => ⟨S8x2048x16x128, .f32⟩
  | 103 => ⟨S16384x16x128, .f32⟩
  | 104 => ⟨S24576x16x128, .f32⟩
  | 105 => ⟨S2048x1x128, .f32⟩
  | 106 => ⟨S2048x1x128, .f32⟩
  | 107 => ⟨S16384x4x128, .f32⟩
  | 108 => ⟨S8x2048x4x128, .f32⟩
  | 109 => ⟨S8192x4x128, .f32⟩
  | 110 => ⟨S8x2048x4x32, .f32⟩
  | 111 => ⟨S8x2048x4x32, .f32⟩
  | 112 => ⟨S8x2048x4x32, .f32⟩
  | 113 => ⟨S8x2048x4x32, .f32⟩
  | 114 => ⟨S8x2048x4x32, .f32⟩
  | 115 => ⟨S8x2048x4x32, .f32⟩
  | 116 => ⟨S8x2048x4x128, .f32⟩
  | 117 => ⟨S1x2048x1x128, .f32⟩
  | 118 => ⟨S8x2048x4x128, .f32⟩
  | 119 => ⟨S8x2048x4x128, .f32⟩
  | 120 => ⟨S1x2048x1x128, .f32⟩
  | 121 => ⟨S8x2048x4x128, .f32⟩
  | 122 => ⟨S8x2048x4x128, .f32⟩
  | 123 => ⟨S8x2048x4x128, .f32⟩
  | 124 => ⟨S16384x4x128, .f32⟩
  | 125 => ⟨S24576x4x128, .f32⟩
  | 126 => ⟨S24576x512, .bf16⟩
  | 127 => ⟨S24576x64, .bf16⟩
  | _ => ⟨S24576x20960, .f32⟩

abbrev hbmTy0_1 (i : Nat) : BufTy := match i % 128 with
  | 0 => ⟨S_, .f32⟩
  | 1 => ⟨S24576x16x128, .f32⟩
  | 2 => ⟨S24576x16x128, .f32⟩
  | 3 => ⟨S24576x16x128, .bf16⟩
  | 4 => ⟨S24576x2048, .bf16⟩
  | 5 => ⟨S24576x512, .f32⟩
  | 6 => ⟨S24576x4x128, .bf16⟩
  | 7 => ⟨S24576x512, .bf16⟩
  | 8 => ⟨S24576x512, .bf16⟩
  | _ => ⟨S24576x20960, .f32⟩

abbrev hbmTy (i : Nat) : BufTy := match i / 128 with
  | 0 => hbmTy0_0 i
  | 1 => hbmTy0_1 i
  | _ => ⟨S24576x20960, .f32⟩

abbrev bufTy : (tb : Table) → Fin (tcTables nBuf tb) → BufTy
  | .hbm, ⟨i, _⟩ => hbmTy i
  | _, _ => ⟨S24576x20960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_2 : Ref sig .tc := ⟨.hbm, 52, rfl⟩
abbrev main_v41 : Ref sig .tc := ⟨.hbm, 53, rfl⟩
abbrev main_v42 : Ref sig .tc := ⟨.hbm, 54, rfl⟩
abbrev main_cst_3 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_8 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩

abbrev nD : Nat := 1
abbrev τ : Topo := Topo.v7x

variable {F : FTy → Type} [FloatOps F]
-- ==== Kernel8.lean ====
abbrev S224 : Shape := ⟨1, ![224]⟩
abbrev S1 : Shape := ⟨1, ![1]⟩
abbrev S114688x2048 : Shape := ⟨2, ![114688, 2048]⟩
abbrev S2x32x2048x4096 : Shape := ⟨4, ![2, 32, 2048, 4096]⟩
abbrev S2x32x1x4096 : Shape := ⟨4, ![2, 32, 1, 4096]⟩
abbrev S114688x1x4096 : Shape := ⟨3, ![114688, 1, 4096]⟩
abbrev S512x2048 : Shape := ⟨2, ![512, 2048]⟩
abbrev S1x1x2048x2048 : Shape := ⟨4, ![1, 1, 2048, 2048]⟩
abbrev S1x1x1x2048 : Shape := ⟨4, ![1, 1, 1, 2048]⟩
abbrev S512x1x2048 : Shape := ⟨3, ![512, 1, 2048]⟩
abbrev S2048x2048 : Shape := ⟨2, ![2048, 2048]⟩
abbrev S1x2048 : Shape := ⟨2, ![1, 2048]⟩

abbrev nBuf : Space → Nat
  | .hbm => 4
  | .vmem => 8
  | .smem => 2
  | _ => 0

abbrev bufTy : (tb : Table) → Fin (tcTables nBuf tb) → BufTy
  | .hbm, ⟨0, _⟩ => ⟨S114688x2048, .bf16⟩
  | .hbm, ⟨1, _⟩ => ⟨S2x32x2048x4096, .bf16⟩
  | .hbm, ⟨2, _⟩ => ⟨S2x32x1x4096, .f32⟩
  | .hbm, ⟨3, _⟩ => ⟨S114688x1x4096, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x2048, .bf16⟩
  | .local _ .vmem, ⟨3, _⟩ => ⟨S1x1x2048x2048, .bf16⟩
  | .local _ .vmem, ⟨4, _⟩ => ⟨S1x1x1x2048, .f32⟩
  | .local _ .vmem, ⟨5, _⟩ => ⟨S1x1x1x2048, .f32⟩
  | .local _ .vmem, ⟨6, _⟩ => ⟨S512x1x2048, .f32⟩
  | .local _ .vmem, ⟨7, _⟩ => ⟨S512x1x2048, .f32⟩
  | .local _ .smem, ⟨0, _⟩ => ⟨S224, .i32⟩
  | .local _ .smem, ⟨1, _⟩ => ⟨S1, .i32⟩
  | _, _ => ⟨S114688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![224, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S224.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S224) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S224.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S224) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S224 : Shape := ⟨1, ![224]⟩
abbrev S1 : Shape := ⟨1, ![1]⟩
abbrev S114688x2048 : Shape := ⟨2, ![114688, 2048]⟩
abbrev S2x32x2048x4096 : Shape := ⟨4, ![2, 32, 2048, 4096]⟩
abbrev S2x32x1x4096 : Shape := ⟨4, ![2, 32, 1, 4096]⟩
abbrev S1x32x2048x4096 : Shape := ⟨4, ![1, 32, 2048, 4096]⟩
abbrev S32x2048x4096 : Shape := ⟨3, ![32, 2048, 4096]⟩
abbrev S1x32x1x4096 : Shape := ⟨4, ![1, 32, 1, 4096]⟩
abbrev S32x4096 : Shape := ⟨2, ![32, 4096]⟩
abbrev S224x512x2048 : Shape := ⟨3, ![224, 512, 2048]⟩
abbrev S_ : Shape := ⟨0, ![]⟩
abbrev S224x1 : Shape := ⟨2, ![224, 1]⟩
abbrev S224x3 : Shape := ⟨2, ![224, 3]⟩
abbrev S224x1x2048x4096 : Shape := ⟨4, ![224, 1, 2048, 4096]⟩
abbrev S224x2048x4096 : Shape := ⟨3, ![224, 2048, 4096]⟩
abbrev S224x512x4096 : Shape := ⟨3, ![224, 512, 4096]⟩
abbrev S224x2 : Shape := ⟨2, ![224, 2]⟩
abbrev S224x1x4096 : Shape := ⟨3, ![224, 1, 4096]⟩
abbrev S224x4096 : Shape := ⟨2, ![224, 4096]⟩
abbrev S224x1x1 : Shape := ⟨3, ![224, 1, 1]⟩
abbrev S114688x1x4096 : Shape := ⟨3, ![114688, 1, 4096]⟩

abbrev nBuf : Space → Nat
  | .hbm => 75
  | .vmem => 0
  | .smem => 0
  | _ => 0

abbrev bufTy : (tb : Table) → Fin (tcTables nBuf tb) → BufTy
  | .hbm, ⟨0, _⟩ => ⟨S224, .i32⟩
  | .hbm, ⟨1, _⟩ => ⟨S1, .i32⟩
  | .hbm, ⟨2, _⟩ => ⟨S114688x2048, .bf16⟩
  | .hbm, ⟨3, _⟩ => ⟨S2x32x2048x4096, .bf16⟩
  | .hbm, ⟨4, _⟩ => ⟨S2x32x1x4096, .f32⟩
  | .hbm, ⟨5, _⟩ => ⟨S1x32x2048x4096, .bf16⟩
  | .hbm, ⟨6, _⟩ => ⟨S32x2048x4096, .bf16⟩
  | .hbm, ⟨7, _⟩ => ⟨S1x32x1x4096, .f32⟩
  | .hbm, ⟨8, _⟩ => ⟨S32x4096, .f32⟩
  | .hbm, ⟨9, _⟩ => ⟨S224x512x2048, .bf16⟩
  | .hbm, ⟨10, _⟩ => ⟨S224x512x2048, .f32⟩
  | .hbm, ⟨11, _⟩ => ⟨S_, .i32⟩
  | .hbm, ⟨12, _⟩ => ⟨S224, .i32⟩
  | .hbm, ⟨13, _⟩ => ⟨S224, .i1⟩
  | .hbm, ⟨14, _⟩ => ⟨S_, .i32⟩
  | .hbm, ⟨15, _⟩ => ⟨S224, .i32⟩
  | .hbm, ⟨16, _⟩ => ⟨S224, .i32⟩
  | .hbm, ⟨17, _⟩ => ⟨S224, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S224x1, .i32⟩
  | .hbm, ⟨35, _⟩ => ⟨S224x1, .i32⟩
  | .hbm, ⟨36, _⟩ => ⟨S224x1, .i32⟩
  | .hbm, ⟨37, _⟩ => ⟨S224x3, .i32⟩
  | .hbm, ⟨38, _⟩ => ⟨S224x1x2048x4096, .bf16⟩
  | .hbm, ⟨39, _⟩ => ⟨S224x2048x4096, .bf16⟩
  | .hbm, ⟨40, _⟩ => ⟨S224x2048x4096, .f32⟩
  | .hbm, ⟨41, _⟩ => ⟨S224x512x4096, .f32⟩
  | .hbm, ⟨42, _⟩ => ⟨S_, .i32⟩
  | .hbm, ⟨43, _⟩ => ⟨S224, .i32⟩
  | .hbm, ⟨44, _⟩ => ⟨S224, .i1⟩
  | .hbm, ⟨45, _⟩ => ⟨S_, .i32⟩
  | .hbm, ⟨46, _⟩ => ⟨S224, .i32⟩
  | .hbm, ⟨47, _⟩ => ⟨S224, .i32⟩
  | .hbm, ⟨48, _⟩ => ⟨S224, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S224x1, .i32⟩
  | .hbm, ⟨58, _⟩ => ⟨S224x1, .i32⟩
  | .hbm, ⟨59, _⟩ => ⟨S224x2, .i32⟩
  | .hbm, ⟨60, _⟩ => ⟨S224x1x4096, .f32⟩
  | .hbm, ⟨61, _⟩ => ⟨S224x4096, .f32⟩
  | .hbm, ⟨62, _⟩ => ⟨S224x1x4096, .f32⟩
  | .hbm, ⟨63, _⟩ => ⟨S224x512x4096, .f32⟩
  | .hbm, ⟨64, _⟩ => ⟨S224x512x4096, .f32⟩
  | .hbm, ⟨65, _⟩ => ⟨S224, .i32⟩
  | .hbm, ⟨66, _⟩ => ⟨S224, .i32⟩
  | .hbm, ⟨67, _⟩ => ⟨S224, .i1⟩
  | .hbm, ⟨68, _⟩ => ⟨S224x1x1, .i1⟩
  | .hbm, ⟨69, _⟩ => ⟨S_, .f32⟩
  | .hbm, ⟨70, _⟩ => ⟨S_, .f32⟩
  | .hbm, ⟨71, _⟩ => ⟨S224x512x4096, .i1⟩
  | .hbm, ⟨72, _⟩ => ⟨S224x512x4096, .f32⟩
  | .hbm, ⟨73, _⟩ => ⟨S224x512x4096, .f32⟩
  | .hbm, ⟨74, _⟩ => ⟨S114688x1x4096, .f32⟩
  | _, _ => ⟨S224, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_c_2 : Ref sig .tc := ⟨.hbm, 19, rfl⟩
abbrev main_v11 : Ref sig .tc := ⟨.hbm, 20, rfl⟩
abbrev main_c_3 : Ref sig .tc := ⟨.hbm, 21, rfl⟩
abbrev main_c_4 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_c_6 : Ref sig .tc := ⟨.hbm, 26, rfl⟩
abbrev main_c_7 : Ref sig .tc := ⟨.hbm, 27, rfl⟩
abbrev main_v14 : Ref sig .tc := ⟨.hbm, 28, rfl⟩
abbrev main_c_8 : Ref sig .tc := ⟨.hbm, 29, rfl⟩
abbrev main_c_9 : Ref sig .tc := ⟨.hbm, 30, rfl⟩
abbrev main_v15 : Ref sig .tc := ⟨.hbm, 31, rfl⟩
abbrev main_c_10 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_11 : Ref sig .tc := ⟨.hbm, 42, rfl⟩
abbrev main_v25 : Ref sig .tc := ⟨.hbm, 43, rfl⟩
abbrev main_v26 : Ref sig .tc := ⟨.hbm, 44, rfl⟩
abbrev main_c_12 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_13 : Ref sig .tc := ⟨.hbm, 49, rfl⟩
abbrev main_c_14 : Ref sig .tc := ⟨.hbm, 50, rfl⟩
abbrev main_v30 : Ref sig .tc := ⟨.hbm, 51, rfl⟩
abbrev main_c_15 : Ref sig .tc := ⟨.hbm, 52, rfl⟩
abbrev main_c_16 : Ref sig .tc := ⟨.hbm, 53, rfl⟩
abbrev main_v31 : Ref sig .tc := ⟨.hbm, 54, rfl⟩
abbrev main_c_17 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Kernel9.lean ====
abbrev S16x4096 : Shape := ⟨2, ![16, 4096]⟩
abbrev S4096x24576 : Shape := ⟨2, ![4096, 24576]⟩
abbrev S24576 : Shape := ⟨1, ![24576]⟩
abbrev S1x24576 : Shape := ⟨2, ![1, 24576]⟩
abbrev S16x24576 : Shape := ⟨2, ![16, 24576]⟩
abbrev S4096x512 : Shape := ⟨2, ![4096, 512]⟩
abbrev S1x512 : Shape := ⟨2, ![1, 512]⟩
abbrev S16x512 : Shape := ⟨2, ![16, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x4096, .f32⟩
  | .hbm, ⟨1, _⟩ => ⟨S4096x24576, .f32⟩
  | .hbm, ⟨2, _⟩ => ⟨S24576, .f32⟩
  | .hbm, ⟨3, _⟩ => ⟨S1x24576, .f32⟩
  | .hbm, ⟨4, _⟩ => ⟨S16x24576, .f32⟩
  | .local _ .vmem, ⟨0, _⟩ => ⟨S16x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S16x4096 : Shape := ⟨2, ![16, 4096]⟩
abbrev S4096x24576 : Shape := ⟨2, ![4096, 24576]⟩
abbrev S24576 : Shape := ⟨1, ![24576]⟩
abbrev S_ : Shape := ⟨0, ![]⟩
abbrev S16x24576 : Shape := ⟨2, ![16, 24576]⟩
abbrev S1x24576 : Shape := ⟨2, ![1, 24576]⟩

abbrev nBuf : Space → Nat
  | .hbm => 16
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x24576, .f32⟩
  | .hbm, ⟨2, _⟩ => ⟨S24576, .f32⟩
  | .hbm, ⟨3, _⟩ => ⟨S16x4096, .f32⟩
  | .hbm, ⟨4, _⟩ => ⟨S16x4096, .f32⟩
  | .hbm, ⟨5, _⟩ => ⟨S_, .f32⟩
  | .hbm, ⟨6, _⟩ => ⟨S16x4096, .f32⟩
  | .hbm, ⟨7, _⟩ => ⟨S16x4096, .f32⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .f32⟩
  | .hbm, ⟨12, _⟩ => ⟨S16x24576, .f32⟩
  | .hbm, ⟨13, _⟩ => ⟨S1x24576, .f32⟩
  | .hbm, ⟨14, _⟩ => ⟨S16x24576, .f32⟩
  | .hbm, ⟨15, _⟩ => ⟨S16x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel10.lean ====
abbrev S24576x4096 : Shape := ⟨2, ![24576, 4096]⟩
abbrev S4096 : Shape := ⟨1, ![4096]⟩
abbrev S16x24576 : Shape := ⟨2, ![16, 24576]⟩
abbrev S16x1x24576 : Shape := ⟨3, ![16, 1, 24576]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S16x24576, .f32⟩
  | .hbm, ⟨3, _⟩ => ⟨S16x1x24576, .f32⟩
  | .hbm, ⟨4, _⟩ => ⟨S1x4096, .f32⟩
  | .hbm, ⟨5, _⟩ => ⟨S24576x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c1_i32_8 : BitVec 32 := 1#32
  let c0_i32_9 : BitVec 32 := 0#32
  ![v21.toNat, c0_i32_7.toNat, c1_i32_8.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S24576x4096 : Shape := ⟨2, ![24576, 4096]⟩
abbrev S4096 : Shape := ⟨1, ![4096]⟩
abbrev S16x24576 : Shape := ⟨2, ![16, 24576]⟩
abbrev S16x4096 : Shape := ⟨2, ![16, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S16384x4096 : Shape := ⟨2, ![16384, 4096]⟩
abbrev S8x2048x4096 : Shape := ⟨3, ![8, 2048, 4096]⟩
abbrev S8x2048 : Shape := ⟨2, ![8, 2048]⟩
abbrev S8x2048x1 : Shape := ⟨3, ![8, 2048, 1]⟩
abbrev S1x1x4096 : Shape := ⟨3, ![1, 1, 4096]⟩
abbrev S8x4096 : Shape := ⟨2, ![8, 4096]⟩
abbrev S8x1x4096 : Shape := ⟨3, ![8, 1, 4096]⟩

abbrev nBuf : Space → Nat
  | .hbm => 67
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S16x24576, .f32⟩
  | .hbm, ⟨3, _⟩ => ⟨S16x4096, .f32⟩
  | .hbm, ⟨4, _⟩ => ⟨S16x4096, .f32⟩
  | .hbm, ⟨5, _⟩ => ⟨S16x4096, .f32⟩
  | .hbm, ⟨6, _⟩ => ⟨S16x4096, .f32⟩
  | .hbm, ⟨7, _⟩ => ⟨S16x4096, .f32⟩
  | .hbm, ⟨8, _⟩ => ⟨S16x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S16384x4096, .f32⟩
  | .hbm, ⟨36, _⟩ => ⟨S8x2048x4096, .f32⟩
  | .hbm, ⟨37, _⟩ => ⟨S8x2048x4096, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S8x2048x1, .f32⟩
  | .hbm, ⟨48, _⟩ => ⟨S8x2048x4096, .f32⟩
  | .hbm, ⟨49, _⟩ => ⟨S8x2048x4096, .f32⟩
  | .hbm, ⟨50, _⟩ => ⟨S1x1x4096, .f32⟩
  | .hbm, ⟨51, _⟩ => ⟨S8x2048x4096, .f32⟩
  | .hbm, ⟨52, _⟩ => ⟨S8x2048x4096, .f32⟩
  | .hbm, ⟨53, _⟩ => ⟨S8x4096, .f32⟩
  | .hbm, ⟨54, _⟩ => ⟨S8x1x4096, .f32⟩
  | .hbm, ⟨55, _⟩ => ⟨S_, .f32⟩
  | .hbm, ⟨56, _⟩ => ⟨S8x1x4096, .f32⟩
  | .hbm, ⟨57, _⟩ => ⟨S8x1x4096, .f32⟩
  | .hbm, ⟨58, _⟩ => ⟨S8x2048x4096, .f32⟩
  | .hbm, ⟨59, _⟩ => ⟨S8x2048x4096, .f32⟩
  | .hbm, ⟨60, _⟩ => ⟨S8x4096, .f32⟩
  | .hbm, ⟨61, _⟩ => ⟨S8x1x4096, .f32⟩
  | .hbm, ⟨62, _⟩ => ⟨S8x2048x4096, .f32⟩
  | .hbm, ⟨63, _⟩ => ⟨S8x2048x4096, .f32⟩
  | .hbm, ⟨64, _⟩ => ⟨S16384x4096, .f32⟩
  | .hbm, ⟨65, _⟩ => ⟨S24576x4096, .f32⟩
  | .hbm, ⟨66, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩

abbrev nD : Nat := 1
abbrev τ : Topo := Topo.v7x

variable {F : FTy → Type} [FloatOps F]
-- ==== Kernel11.lean ====
abbrev S24576x2048 : Shape := ⟨2, ![24576, 2048]⟩
abbrev S24576x512 : Shape := ⟨2, ![24576, 512]⟩
abbrev S_ : Shape := ⟨0, ![]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 8
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .f32⟩
  | .hbm, ⟨2, _⟩ => ⟨S24576x512, .f32⟩
  | .hbm, ⟨3, _⟩ => ⟨S24576x512, .f32⟩
  | .hbm, ⟨4, _⟩ => ⟨S24576x512, .bf16⟩
  | .hbm, ⟨5, _⟩ => ⟨S24576x512, .bf16⟩
  | .hbm, ⟨6, _⟩ => ⟨S_, .f32⟩
  | .hbm, ⟨7, _⟩ => ⟨S24576x2048, .f32⟩
  | .hbm, ⟨8, _⟩ => ⟨S24576x2048, .f32⟩
  | .hbm, ⟨9, _⟩ => ⟨S24576x2048, .bf16⟩
  | .hbm, ⟨10, _⟩ => ⟨S24576x2048, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference11Ideal.lean ====
abbrev S24576x2048 : Shape := ⟨2, ![24576, 2048]⟩
abbrev S24576x512 : Shape := ⟨2, ![24576, 512]⟩
abbrev S8192x2048 : Shape := ⟨2, ![8192, 2048]⟩
abbrev S32x256x4x4x128 : Shape := ⟨5, ![32, 256, 4, 4, 128]⟩
abbrev S8192x512 : Shape := ⟨2, ![8192, 512]⟩
abbrev S32x256x4x128 : Shape := ⟨4, ![32, 256, 4, 128]⟩
abbrev S32x4x256x256x4 : Shape := ⟨5, ![32, 4, 256, 256, 4]⟩
abbrev S32x4x4x256x256 : Shape := ⟨5, ![32, 4, 4, 256, 256]⟩
abbrev S_ : Shape := ⟨0, ![]⟩
abbrev S32x4x4x256 : Shape := ⟨4, ![32, 4, 4, 256]⟩
abbrev S32x4x4x256x1 : Shape := ⟨5, ![32, 4, 4, 256, 1]⟩
abbrev S32x4x128x4x256 : Shape := ⟨5, ![32, 4, 128, 4, 256]⟩
abbrev S16384x2048 : Shape := ⟨2, ![16384, 2048]⟩

abbrev nBuf : Space → Nat
  | .hbm => 35
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .f32⟩
  | .hbm, ⟨2, _⟩ => ⟨S24576x512, .f32⟩
  | .hbm, ⟨3, _⟩ => ⟨S24576x512, .f32⟩
  | .hbm, ⟨4, _⟩ => ⟨S8192x2048, .f32⟩
  | .hbm, ⟨5, _⟩ => ⟨S32x256x4x4x128, .f32⟩
  | .hbm, ⟨6, _⟩ => ⟨S8192x512, .f32⟩
  | .hbm, ⟨7, _⟩ => ⟨S32x256x4x128, .f32⟩
  | .hbm, ⟨8, _⟩ => ⟨S8192x512, .f32⟩
  | .hbm, ⟨9, _⟩ => ⟨S32x256x4x128, .f32⟩
  | .hbm, ⟨10, _⟩ => ⟨S32x4x256x256x4, .f32⟩
  | .hbm, ⟨11, _⟩ => ⟨S32x4x4x256x256, .f32⟩
  | .hbm, ⟨12, _⟩ => ⟨S_, .f32⟩
  | .hbm, ⟨13, _⟩ => ⟨S32x4x4x256x256, .f32⟩
  | .hbm, ⟨14, _⟩ => ⟨S32x4x4x256x256, .f32⟩
  | .hbm, ⟨15, _⟩ => ⟨S_, .f32⟩
  | .hbm, ⟨16, _⟩ => ⟨S32x4x4x256, .f32⟩
  | .hbm, ⟨17, _⟩ => ⟨S_, .f32⟩
  | .hbm, ⟨18, _⟩ => ⟨S32x4x4x256, .f32⟩
  | .hbm, ⟨19, _⟩ => ⟨S32x4x4x256, .f32⟩
  | .hbm, ⟨20, _⟩ => ⟨S32x4x4x256x1, .f32⟩
  | .hbm, ⟨21, _⟩ => ⟨S32x4x4x256x256, .f32⟩
  | .hbm, ⟨22, _⟩ => ⟨S32x4x4x256x256, .f32⟩
  | .hbm, ⟨23, _⟩ => ⟨S32x4x4x256x256, .f32⟩
  | .hbm, ⟨24, _⟩ => ⟨S_, .f32⟩
  | .hbm, ⟨25, _⟩ => ⟨S32x4x4x256, .f32⟩
  | .hbm, ⟨26, _⟩ => ⟨S32x4x4x256x1, .f32⟩
  | .hbm, ⟨27, _⟩ => ⟨S32x4x4x256x256, .f32⟩
  | .hbm, ⟨28, _⟩ => ⟨S32x4x4x256x256, .f32⟩
  | .hbm, ⟨29, _⟩ => ⟨S32x4x128x4x256, .f32⟩
  | .hbm, ⟨30, _⟩ => ⟨S32x256x4x4x128, .f32⟩
  | .hbm, ⟨31, _⟩ => ⟨S8192x2048, .f32⟩
  | .hbm, ⟨32, _⟩ => ⟨S8192x2048, .bf16⟩
  | .hbm, ⟨33, _⟩ => ⟨S16384x2048, .bf16⟩
  | .hbm, ⟨34, _⟩ => ⟨S24576x2048, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel12.lean ====
abbrev S28672x512 : Shape := ⟨2, ![28672, 512]⟩
abbrev S28672x64 : Shape := ⟨2, ![28672, 64]⟩
abbrev S512x2048 : Shape := ⟨2, ![512, 2048]⟩
abbrev S_ : Shape := ⟨0, ![]⟩
abbrev S28672x128 : Shape := ⟨2, ![28672, 128]⟩
abbrev S512x8x256 : Shape := ⟨3, ![512, 8, 256]⟩
abbrev S512x8x128 : Shape := ⟨3, ![512, 8, 128]⟩
abbrev S512x1024 : Shape := ⟨2, ![512, 1024]⟩
abbrev S28672x2048 : Shape := ⟨2, ![28672, 2048]⟩
abbrev S28672x1024 : Shape := ⟨2, ![28672, 1024]⟩
abbrev S512x512 : Shape := ⟨2, ![512, 512]⟩
abbrev S512x128 : Shape := ⟨2, ![512, 128]⟩

abbrev nBuf : Space → Nat
  | .hbm => 15
  | .vmem => 10
  | .smem => 0
  | _ => 0

abbrev bufTy : (tb : Table) → Fin (tcTables nBuf tb) → BufTy
  | .hbm, ⟨0, _⟩ => ⟨S28672x512, .bf16⟩
  | .hbm, ⟨1, _⟩ => ⟨S28672x64, .bf16⟩
  | .hbm, ⟨2, _⟩ => ⟨S512x2048, .f32⟩
  | .hbm, ⟨3, _⟩ => ⟨S_, .i32⟩
  | .hbm, ⟨4, _⟩ => ⟨S_, .bf16⟩
  | .hbm, ⟨5, _⟩ => ⟨S28672x128, .bf16⟩
  | .hbm, ⟨6, _⟩ => ⟨S512x2048, .bf16⟩
  | .hbm, ⟨7, _⟩ => ⟨S512x8x256, .bf16⟩
  | .hbm, ⟨8, _⟩ => ⟨S512x8x128, .bf16⟩
  | .hbm, ⟨9, _⟩ => ⟨S512x1024, .bf16⟩
  | .hbm, ⟨10, _⟩ => ⟨S512x8x128, .bf16⟩
  | .hbm, ⟨11, _⟩ => ⟨S512x1024, .bf16⟩
  | .hbm, ⟨12, _⟩ => ⟨S512x2048, .bf16⟩
  | .hbm, ⟨13, _⟩ => ⟨S28672x2048, .bf16⟩
  | .hbm, ⟨14, _⟩ => ⟨S28672x1024, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | _, _ => ⟨S28672x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S28672x512 : Shape := ⟨2, ![28672, 512]⟩
abbrev S28672x64 : Shape := ⟨2, ![28672, 64]⟩
abbrev S512x2048 : Shape := ⟨2, ![512, 2048]⟩
abbrev S28672x2048 : Shape := ⟨2, ![28672, 2048]⟩
abbrev S28672x8x256 : Shape := ⟨3, ![28672, 8, 256]⟩
abbrev S28672x8x128 : Shape := ⟨3, ![28672, 8, 128]⟩
abbrev S28672x1x64 : Shape := ⟨3, ![28672, 1, 64]⟩
abbrev S28672x8x64 : Shape := ⟨3, ![28672, 8, 64]⟩
abbrev S28672x8x192 : Shape := ⟨3, ![28672, 8, 192]⟩
abbrev S_ : Shape := ⟨0, ![]⟩
abbrev S28672x1024 : Shape := ⟨2, ![28672, 1024]⟩

abbrev nBuf : Space → Nat
  | .hbm => 19
  | .vmem => 0
  | .smem => 0
  | _ => 0

abbrev bufTy : (tb : Table) → Fin (tcTables nBuf tb) → BufTy
  | .hbm, ⟨0, _⟩ => ⟨S28672x512, .bf16⟩
  | .hbm, ⟨1, _⟩ => ⟨S28672x64, .bf16⟩
  | .hbm, ⟨2, _⟩ => ⟨S512x2048, .f32⟩
  | .hbm, ⟨3, _⟩ => ⟨S28672x512, .f32⟩
  | .hbm, ⟨4, _⟩ => ⟨S28672x2048, .f32⟩
  | .hbm, ⟨5, _⟩ => ⟨S28672x8x256, .f32⟩
  | .hbm, ⟨6, _⟩ => ⟨S28672x8x128, .f32⟩
  | .hbm, ⟨7, _⟩ => ⟨S28672x64, .f32⟩
  | .hbm, ⟨8, _⟩ => ⟨S28672x1x64, .f32⟩
  | .hbm, ⟨9, _⟩ => ⟨S28672x8x64, .f32⟩
  | .hbm, ⟨10, _⟩ => ⟨S28672x8x192, .f32⟩
  | .hbm, ⟨11, _⟩ => ⟨S_, .i32⟩
  | .hbm, ⟨12, _⟩ => ⟨S_, .f32⟩
  | .hbm, ⟨13, _⟩ => ⟨S28672x8x256, .f32⟩
  | .hbm, ⟨14, _⟩ => ⟨S28672x8x256, .bf16⟩
  | .hbm, ⟨15, _⟩ => ⟨S28672x2048, .bf16⟩
  | .hbm, ⟨16, _⟩ => ⟨S28672x8x128, .f32⟩
  | .hbm, ⟨17, _⟩ => ⟨S28672x8x128, .bf16⟩
  | .hbm, ⟨18, _⟩ => ⟨S28672x1024, .bf16⟩
  | _, _ => ⟨S28672x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel13.lean ====
abbrev S24576x1024 : Shape := ⟨2, ![24576, 1024]⟩
abbrev S24576x1536 : Shape := ⟨2, ![24576, 1536]⟩
abbrev S28672x2048 : Shape := ⟨2, ![28672, 2048]⟩
abbrev S28672x1024 : Shape := ⟨2, ![28672, 1024]⟩
abbrev S24576x8x192 : Shape := ⟨3, ![24576, 8, 192]⟩
abbrev S_ : Shape := ⟨0, ![]⟩
abbrev S24576x8x64 : Shape := ⟨3, ![24576, 8, 64]⟩
abbrev S24576x8x256 : Shape := ⟨3, ![24576, 8, 256]⟩
abbrev S24576x2048 : Shape := ⟨2, ![24576, 2048]⟩
abbrev S256x512 : Shape := ⟨2, ![256, 512]⟩
abbrev S2560x512 : Shape := ⟨2, ![2560, 512]⟩
abbrev S2560x256 : Shape := ⟨2, ![2560, 256]⟩
abbrev S256x256 : Shape := ⟨2, ![256, 256]⟩
abbrev S256x2560 : Shape := ⟨2, ![256, 2560]⟩
abbrev S256 : Shape := ⟨1, ![256]⟩
abbrev S256x1 : Shape := ⟨2, ![256, 1]⟩
abbrev S2560x128 : Shape := ⟨2, ![2560, 128]⟩
abbrev S256x128 : Shape := ⟨2, ![256, 128]⟩

abbrev nBuf : Space → Nat
  | .hbm => 14
  | .vmem => 8
  | .smem => 0
  | _ => 0

abbrev bufTy : (tb : Table) → Fin (tcTables nBuf tb) → BufTy
  | .hbm, ⟨0, _⟩ => ⟨S24576x1024, .bf16⟩
  | .hbm, ⟨1, _⟩ => ⟨S24576x1536, .f32⟩
  | .hbm, ⟨2, _⟩ => ⟨S28672x2048, .bf16⟩
  | .hbm, ⟨3, _⟩ => ⟨S28672x1024, .bf16⟩
  | .hbm, ⟨4, _⟩ => ⟨S24576x8x192, .f32⟩
  | .hbm, ⟨5, _⟩ => ⟨S_, .f32⟩
  | .hbm, ⟨6, _⟩ => ⟨S24576x8x192, .f32⟩
  | .hbm, ⟨7, _⟩ => ⟨S24576x8x192, .f32⟩
  | .hbm, ⟨8, _⟩ => ⟨S_, .f32⟩
  | .hbm, ⟨9, _⟩ => ⟨S24576x8x64, .f32⟩
  | .hbm, ⟨10, _⟩ => ⟨S24576x8x256, .f32⟩
  | .hbm, ⟨11, _⟩ => ⟨S24576x2048, .f32⟩
  | .hbm, ⟨12, _⟩ => ⟨S24576x2048, .bf16⟩
  | .hbm, ⟨13, _⟩ => ⟨S24576x1024, .bf16⟩
  | .local _ .vmem, ⟨0, _⟩ => ⟨S256x512, .bf16⟩
  | .local _ .vmem, ⟨1, _⟩ => ⟨S256x512, .bf16⟩
  | .local _ .vmem, ⟨2, _⟩ => ⟨S2560x512, .bf16⟩
  | .local _ .vmem, ⟨3, _⟩ => ⟨S2560x512, .bf16⟩
  | .local _ .vmem, ⟨4, _⟩ => ⟨S2560x256, .bf16⟩
  | .local _ .vmem, ⟨5, _⟩ => ⟨S2560x256, .bf16⟩
  | .local _ .vmem, ⟨6, _⟩ => ⟨S256x256, .bf16⟩
  | .local _ .vmem, ⟨7, _⟩ => ⟨S256x256, .bf16⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c32_i32 : BitVec 32 := 32#32
  let v1 : BitVec 32 := Scalar.addi c32_i32 v0
  let v2 : BitVec 32 := Scalar.addi v1 arg2
  let c0_i32 : BitVec 32 := 0#32
  ![v2.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2560x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2560x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference13Ideal.lean ====
abbrev S24576x1024 : Shape := ⟨2, ![24576, 1024]⟩
abbrev S24576x1536 : Shape := ⟨2, ![24576, 1536]⟩
abbrev S28672x2048 : Shape := ⟨2, ![28672, 2048]⟩
abbrev S28672x1024 : Shape := ⟨2, ![28672, 1024]⟩
abbrev S16384x1536 : Shape := ⟨2, ![16384, 1536]⟩
abbrev S8x2048x8x192 : Shape := ⟨4, ![8, 2048, 8, 192]⟩
abbrev S20480x2048 : Shape := ⟨2, ![20480, 2048]⟩
abbrev S8x2560x8x256 : Shape := ⟨4, ![8, 2560, 8, 256]⟩
abbrev S8x2560x8x192 : Shape := ⟨4, ![8, 2560, 8, 192]⟩
abbrev S20480x1024 : Shape := ⟨2, ![20480, 1024]⟩
abbrev S8x2560x8x128 : Shape := ⟨4, ![8, 2560, 8, 128]⟩
abbrev S8x8x2048x2560 : Shape := ⟨4, ![8, 8, 2048, 2560]⟩
abbrev S_ : Shape := ⟨0, ![]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S8x2048x8x128 : Shape := ⟨4, ![8, 2048, 8, 128]⟩
abbrev S16384x1024 : Shape := ⟨2, ![16384, 1024]⟩
abbrev S8192x1024 : Shape := ⟨2, ![8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S24576x1536, .f32⟩
  | .hbm, ⟨2, _⟩ => ⟨S28672x2048, .bf16⟩
  | .hbm, ⟨3, _⟩ => ⟨S28672x1024, .bf16⟩
  | .hbm, ⟨4, _⟩ => ⟨S16384x1536, .f32⟩
  | .hbm, ⟨5, _⟩ => ⟨S8x2048x8x192, .f32⟩
  | .hbm, ⟨6, _⟩ => ⟨S20480x2048, .bf16⟩
  | .hbm, ⟨7, _⟩ => ⟨S20480x2048, .f32⟩
  | .hbm, ⟨8, _⟩ => ⟨S8x2560x8x256, .f32⟩
  | .hbm, ⟨9, _⟩ => ⟨S8x2560x8x192, .f32⟩
  | .hbm, ⟨10, _⟩ => ⟨S20480x1024, .bf16⟩
  | .hbm, ⟨11, _⟩ => ⟨S20480x1024, .f32⟩
  | .hbm, ⟨12, _⟩ => ⟨S8x2560x8x128, .f32⟩
  | .hbm, ⟨13, _⟩ => ⟨S8x8x2048x2560, .f32⟩
  | .hbm, ⟨14, _⟩ => ⟨S_, .f32⟩
  | .hbm, ⟨15, _⟩ => ⟨S8x8x2048x2560, .f32⟩
  | .hbm, ⟨16, _⟩ => ⟨S8x8x2048x2560, .f32⟩
  | .hbm, ⟨17, _⟩ => ⟨S_, .f32⟩
  | .hbm, ⟨18, _⟩ => ⟨S8x8x2048, .f32⟩
  | .hbm, ⟨19, _⟩ => ⟨S_, .f32⟩
  | .hbm, ⟨20, _⟩ => ⟨S8x8x2048, .f32⟩
  | .hbm, ⟨21, _⟩ => ⟨S8x8x2048, .f32⟩
  | .hbm, ⟨22, _⟩ => ⟨S8x8x2048x1, .f32⟩
  | .hbm, ⟨23, _⟩ => ⟨S8x8x2048x2560, .f32⟩
  | .hbm, ⟨24, _⟩ => ⟨S8x8x2048x2560, .f32⟩
  | .hbm, ⟨25, _⟩ => ⟨S8x8x2048x2560, .f32⟩
  | .hbm, ⟨26, _⟩ => ⟨S_, .f32⟩
  | .hbm, ⟨27, _⟩ => ⟨S8x8x2048, .f32⟩
  | .hbm, ⟨28, _⟩ => ⟨S8x8x2048x1, .f32⟩
  | .hbm, ⟨29, _⟩ => ⟨S8x8x2048x2560, .f32⟩
  | .hbm, ⟨30, _⟩ => ⟨S8x8x2048x2560, .f32⟩
  | .hbm, ⟨31, _⟩ => ⟨S8x8x128x2048, .f32⟩
  | .hbm, ⟨32, _⟩ => ⟨S8x2048x8x128, .f32⟩
  | .hbm, ⟨33, _⟩ => ⟨S16384x1024, .f32⟩
  | .hbm, ⟨34, _⟩ => ⟨S8192x1024, .bf16⟩
  | .hbm, ⟨35, _⟩ => ⟨S16384x1024, .bf16⟩
  | .hbm, ⟨36, _⟩ => ⟨S24576x1024, .bf16⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel14.lean ====
abbrev S24576x1024 : Shape := ⟨2, ![24576, 1024]⟩
abbrev S24576x1536 : Shape := ⟨2, ![24576, 1536]⟩
abbrev S28672x2048 : Shape := ⟨2, ![28672, 2048]⟩
abbrev S28672x1024 : Shape := ⟨2, ![28672, 1024]⟩
abbrev S24576x8x192 : Shape := ⟨3, ![24576, 8, 192]⟩
abbrev S_ : Shape := ⟨0, ![]⟩
abbrev S24576x8x64 : Shape := ⟨3, ![24576, 8, 64]⟩
abbrev S24576x8x256 : Shape := ⟨3, ![24576, 8, 256]⟩
abbrev S24576x2048 : Shape := ⟨2, ![24576, 2048]⟩
abbrev S256x2048 : Shape := ⟨2, ![256, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 14
  | .vmem => 8
  | .smem => 0
  | _ => 0

abbrev bufTy : (tb : Table) → Fin (tcTables nBuf tb) → BufTy
  | .hbm, ⟨0, _⟩ => ⟨S24576x1024, .bf16⟩
  | .hbm, ⟨1, _⟩ => ⟨S24576x1536, .f32⟩
  | .hbm, ⟨2, _⟩ => ⟨S28672x2048, .bf16⟩
  | .hbm, ⟨3, _⟩ => ⟨S28672x1024, .bf16⟩
  | .hbm, ⟨4, _⟩ => ⟨S24576x8x192, .f32⟩
  | .hbm, ⟨5, _⟩ => ⟨S_, .f32⟩
  | .hbm, ⟨6, _⟩ => ⟨S24576x8x192, .f32⟩
  | .hbm, ⟨7, _⟩ => ⟨S24576x8x192, .f32⟩
  | .hbm, ⟨8, _⟩ => ⟨S_, .f32⟩
  | .hbm, ⟨9, _⟩ => ⟨S24576x8x64, .f32⟩
  | .hbm, ⟨10, _⟩ => ⟨S24576x8x256, .f32⟩
  | .hbm, ⟨11, _⟩ => ⟨S24576x2048, .f32⟩
  | .hbm, ⟨12, _⟩ => ⟨S24576x2048, .bf16⟩
  | .hbm, ⟨13, _⟩ => ⟨S24576x1024, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | _, _ => ⟨S24576x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c80_i32 : BitVec 32 := 80#32
  let v0 : BitVec 32 := Scalar.addi c80_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference14Ideal.lean ====
abbrev S24576x1024 : Shape := ⟨2, ![24576, 1024]⟩
abbrev S24576x1536 : Shape := ⟨2, ![24576, 1536]⟩
abbrev S28672x2048 : Shape := ⟨2, ![28672, 2048]⟩
abbrev S28672x1024 : Shape := ⟨2, ![28672, 1024]⟩
abbrev S8192x1536 : Shape := ⟨2, ![8192, 1536]⟩
abbrev S32x256x8x192 : Shape := ⟨4, ![32, 256, 8, 192]⟩
abbrev S8192x2048 : Shape := ⟨2, ![8192, 2048]⟩
abbrev S32x256x8x256 : Shape := ⟨4, ![32, 256, 8, 256]⟩
abbrev S8192x1024 : Shape := ⟨2, ![8192, 1024]⟩
abbrev S32x256x8x128 : Shape := ⟨4, ![32, 256, 8, 128]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S32x8x128x256 : Shape := ⟨4, ![32, 8, 128, 256]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S24576x1024, .bf16⟩
  | .hbm, ⟨1, _⟩ => ⟨S24576x1536, .f32⟩
  | .hbm, ⟨2, _⟩ => ⟨S28672x2048, .bf16⟩
  | .hbm, ⟨3, _⟩ => ⟨S28672x1024, .bf16⟩
  | .hbm, ⟨4, _⟩ => ⟨S8192x1536, .f32⟩
  | .hbm, ⟨5, _⟩ => ⟨S32x256x8x192, .f32⟩
  | .hbm, ⟨6, _⟩ => ⟨S8192x2048, .bf16⟩
  | .hbm, ⟨7, _⟩ => ⟨S8192x2048, .f32⟩
  | .hbm, ⟨8, _⟩ => ⟨S32x256x8x256, .f32⟩
  | .hbm, ⟨9, _⟩ => ⟨S32x256x8x192, .f32⟩
  | .hbm, ⟨10, _⟩ => ⟨S8192x1024, .bf16⟩
  | .hbm, ⟨11, _⟩ => ⟨S8192x1024, .f32⟩
  | .hbm, ⟨12, _⟩ => ⟨S32x256x8x128, .f32⟩
  | .hbm, ⟨13, _⟩ => ⟨S32x8x256x256, .f32⟩
  | .hbm, ⟨14, _⟩ => ⟨S_, .f32⟩
  | .hbm, ⟨15, _⟩ => ⟨S32x8x256x256, .f32⟩
  | .hbm, ⟨16, _⟩ => ⟨S32x8x256x256, .f32⟩
  | .hbm, ⟨17, _⟩ => ⟨S_, .f32⟩
  | .hbm, ⟨18, _⟩ => ⟨S32x8x256, .f32⟩
  | .hbm, ⟨19, _⟩ => ⟨S_, .f32⟩
  | .hbm, ⟨20, _⟩ => ⟨S32x8x256, .f32⟩
  | .hbm, ⟨21, _⟩ => ⟨S32x8x256, .f32⟩
  | .hbm, ⟨22, _⟩ => ⟨S32x8x256x1, .f32⟩
  | .hbm, ⟨23, _⟩ => ⟨S32x8x256x256, .f32⟩
  | .hbm, ⟨24, _⟩ => ⟨S32x8x256x256, .f32⟩
  | .hbm, ⟨25, _⟩ => ⟨S32x8x256x256, .f32⟩
  | .hbm, ⟨26, _⟩ => ⟨S_, .f32⟩
  | .hbm, ⟨27, _⟩ => ⟨S32x8x256, .f32⟩
  | .hbm, ⟨28, _⟩ => ⟨S32x8x256x1, .f32⟩
  | .hbm, ⟨29, _⟩ => ⟨S32x8x256x256, .f32⟩
  | .hbm, ⟨30, _⟩ => ⟨S32x8x256x256, .f32⟩
  | .hbm, ⟨31, _⟩ => ⟨S32x8x128x256, .f32⟩
  | .hbm, ⟨32, _⟩ => ⟨S32x256x8x128, .f32⟩
  | .hbm, ⟨33, _⟩ => ⟨S8192x1024, .f32⟩
  | .hbm, ⟨34, _⟩ => ⟨S8192x1024, .bf16⟩
  | .hbm, ⟨35, _⟩ => ⟨S16384x1024, .bf16⟩
  | .hbm, ⟨36, _⟩ => ⟨S24576x1024, .bf16⟩
  | _, _ => ⟨S24576x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.GqaRef.lean ====
/-
  The grouped attention of the sample batch on the reference's side, element by element.
-/
module

public import proofs.«01_k».proof.Proof.Gen.ReferenceIdeal.Read
public import Idealize.ShloMosaic.Lib.Pointwise

@[expose] public section

set_option maxRecDepth 16384

noncomputable section

namespace Cert.ReferenceIdeal.Read

open Idealize.ShloMosaic Idealize.SL.Sem Cert.ReferenceIdeal.Gen

/-- The keys (or the values) of group `h` of batch `b`: the sample's new rows, then the cached ones. -/
def kv (x : FVec Ideal S24576x512 .f32) (y : FVec Ideal S8x512x4x128 .f32) (b : Fin 8) (h : Fin 4) (j : Fin 2560) (e : Fin 128) : EReal :=
  if hj : j.val < 2048 then x (ix2 ⟨8192 + (b.val * 2048 + j.val), by omega⟩ ⟨h.val * 128 + e.val, by omega⟩)
  else y (ix4 b ⟨j.val - 2048, by omega⟩ h e)

variable (x0 : FVec Ideal S24576x2048 .bf16) (x1 : FVec Ideal S24576x2048 .f32) (x2 x3 : FVec Ideal S24576x512 .f32) (x4 x5 : FVec Ideal S8x512x4x128 .f32)
variable (b : Fin 8) (h g : Fin 4) (q : Fin 2048) (k : Fin 2560)

/-- The scaled score of query head `(h, g)`, position `q` of batch `b`, against key `k`. -/
def score : EReal :=
  (∑ e, kv x2 x4 b h k e * x1 (ix2 ⟨8192 + (b.val * 2048 + q.val), by omega⟩ ⟨h.val * 512 + g.val * 128 + e.val, by omega⟩))
    * Ideal.ofBits FTy.f32 1035273459#32

theorem score_eq : val_main_v11 (F := Ideal) x1 x2 x4 (ix5 b h g q k) = score x1 x2 x4 b h g q k := by
  pointwise [val_main_v11, val_main_v9, val_main_v8, val_main_v10, val_main_cst, val_main_v4, val_main_v3, val_main_v2, val_main_v1, val_main_v0]
  rfl

theorem max_eq (y : FVec Ideal S8x4x4x2048x2560 .f32) :
    Host.reduce (FloatOps.maximumf (F := Ideal)) y (constant S_ .f32 0xFF800000#32) reducesTo_S8x4x4x2048x2560_S8x4x4x2048_d4 h_S_ (ix4 b h g q)
      = Finset.fold max (Ideal.ofBits FTy.f32 4286578688#32) (fun x => y (ix5 b h g q x)) Finset.univ := by
  pointwise

theorem v12_eq : val_main_v12 (F := Ideal) x1 x2 x4 (ix4 b h g q)
    = Finset.fold max (Ideal.ofBits FTy.f32 4286578688#32) (fun x => score x1 x2 x4 b h g q x) Finset.univ := by
  unfold val_main_v12
  simp only [← score_eq]
  generalize val_main_v11 (F := Ideal) x1 x2 x4 = y
  exact max_eq b h g q y

theorem top_eq (z : FVec Ideal S8x4x4x2048 .f32) : maximumf (val_main_v13 (F := Ideal)) z (ix4 b h g q) = max (Ideal.ofBits FTy.f32 4286578688#32) (z (ix4 b h g q)) := by
  pointwise [val_main_v13, val_main_cst_1]

theorem row_eq (z : FVec Ideal S8x4x4x2048 .f32) : broadcastInDim S8x4x4x2048x2560 ![0, 1, 2, 3, 4] bcast_S8x4x4x2048x1_S8x4x4x2048x2560_0_1_2_3_4
    (broadcastInDim S8x4x4x2048x1 ![0, 1, 2, 3] bcast_S8x4x4x2048_S8x4x4x2048x1_0_1_2_3 z) (ix5 b h g q k) = z (ix4 b h g q) := by
  pointwise

theorem v16_eq : val_main_v16 (F := Ideal) x1 x2 x4 (ix5 b h g q k)
    = max (Ideal.ofBits FTy.f32 4286578688#32) (val_main_v12 (F := Ideal) x1 x2 x4 (ix4 b h g q)) := by
  unfold val_main_v16 val_main_v15 val_main_v14
  generalize val_main_v12 (F := Ideal) x1 x2 x4 = z
  rw [row_eq, top_eq]

theorem v18_eq : val_main_v18 (F := Ideal) x1 x2 x4 (ix5 b h g q k)
    = Ideal.exp (score x1 x2 x4 b h g q k - max (Ideal.ofBits FTy.f32 4286578688#32)
      (Finset.fold max (Ideal.ofBits FTy.f32 4286578688#32) (fun x => score x1 x2 x4 b h g q x) Finset.univ)) := by
  rw [val_main_v18_apply, val_main_v17_apply, v16_eq, v12_eq, score_eq, Ideal.hostUnary_exp_def, Ideal.subf_def]

theorem v22_eq : val_main_v22 (F := Ideal) x1 x2 x4 (ix5 b h g q k)
    = Ideal.div (val_main_v18 (F := Ideal) x1 x2 x4 (ix5 b h g q k)) (∑ x, val_main_v18 (F := Ideal) x1 x2 x4 (ix5 b h g q x)) := by
  pointwise [val_main_v22, val_main_v21, val_main_v20, val_main_v19, val_main_cst_2]

theorem v7_eq (e : Fin 128) : val_main_v7 (F := Ideal) x3 x5 (ix4 b k h e) = kv x3 x5 b h k e := by
  pointwise [val_main_v7, val_main_v6, val_main_v5]
  rfl

theorem v25_eq (r : Fin 16384) (l : Fin 2048) : val_main_v25 (F := Ideal) x1 x2 x3 x4 x5 (ix2 r l)
    = ∑ k, val_main_v7 (F := Ideal) x3 x5 (ix4 ⟨r.val / 2048, by omega⟩ k ⟨l.val / 512, by omega⟩ ⟨l.val % 128, by omega⟩)
      * val_main_v22 (F := Ideal) x1 x2 x4 (ix5 ⟨r.val / 2048, by omega⟩ ⟨l.val / 512, by omega⟩ ⟨l.val / 128 % 4, by omega⟩ ⟨r.val % 2048, by omega⟩ k) := by
  pointwise [val_main_v25, val_main_v24, val_main_v23]

theorem v28_eq (r : Fin 24576) (l : Fin 2048) : val_main_v28 (F := Ideal) x0 x1 x2 x3 x4 x5 (ix2 r l)
    = if hr : r.val < 8192 then x0 (ix2 r l) else val_main_v25 (F := Ideal) x1 x2 x3 x4 x5 (ix2 ⟨r.val - 8192, by omega⟩ l) := by
  pointwise [val_main_v28, val_main_v27, val_main_v26]

end Cert.ReferenceIdeal.Read

end
-- ==== Proof.GqaKernel.lean ====
/-
  The grouped attention of the sample batch on the kernel's side: what each head's stored piece holds, the
  operands its blocks are cut from, and the result array after the run.
-/
module

public import proofs.«01_k».proof.Proof.Gen.KernelIdeal.Value
public import proofs.«01_k».proof.Proof.GqaRef
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Value

open Idealize.ShloMosaic Idealize.SL.Sem Cert.KernelIdeal.Gen
open Cert.ReferenceIdeal.Read (kv)

/-- One query row against the keys, one column of the values: the exponentials' weighted sum over their sum. -/
def att (q : Fin 128 → EReal) (k : Fin 2560 → Fin 128 → EReal) (v : Fin 2560 → EReal) : EReal :=
  Ideal.div
    (∑ x, Ideal.exp ((∑ e, q e * k x e) - Finset.fold max (Ideal.ofBits FTy.f32 4286578688#32) (fun x => ∑ e, q e * k x e) Finset.univ) * v x)
    (∑ x, Ideal.exp ((∑ e, q e * k x e) - Finset.fold max (Ideal.ofBits FTy.f32 4286578688#32) (fun x => ∑ e, q e * k x e) Finset.univ))

variable (q : Vec Ideal S256x128 .bf16) (k v : Vec Ideal S2560x128 .bf16) (r : Fin 256) (d : Fin 128)

theorem head0 : k0_pay2 q k v (ix2 r d) = att (fun e => q (ix2 r e)) (fun j e => k (ix2 j e)) (fun j => v (ix2 j d)) := by
  pointwise [k0_pay2]; rfl

theorem head1 : k0_pay7 (k0_pay4 q k) (k0_pay5 q k) (k0_pay6 v) (ix2 r d)
    = att (fun e => q (ix2 r e)) (fun j e => k (ix2 j e)) (fun j => v (ix2 j d)) := by
  pointwise [k0_pay7, k0_pay6, k0_pay5, k0_pay4, k0_pay3]; rfl

theorem head2 : k0_pay8 q k v (ix2 r d) = att (fun e => q (ix2 r e)) (fun j e => k (ix2 j e)) (fun j => v (ix2 j d)) := by
  pointwise [k0_pay8]; rfl

theorem head3 : k0_pay1 (k0_pay9 q k) (k0_pay10 q k) v (ix2 r d)
    = att (fun e => q (ix2 r e)) (fun j e => k (ix2 j e)) (fun j => v (ix2 j d)) := by
  pointwise [k0_pay1, k0_pay10, k0_pay9]; rfl

variable (m : (ℓ : Loc nD τ sig) → Buf (Elt Ideal) ℓ)

theorem V_q (c : Dev nD) (r : Fin 24576) (l : Fin 2048) :
    V m c main_v4 (ix2 r l) = (show FVec Ideal S24576x2048 .f32 from m ((c.tc : Thread nD τ).loc main_arg1)) (ix2 r l) * Ideal.ofBits FTy.f32 1035273459#32 := by
  entry_read
  pointwise

theorem grp_div (h : Fin 4) (e : Fin 128) (p) : (⟨(h.val * 128 + e.val) / 128, p⟩ : Fin 4) = h := Fin.ext (by simp only; omega)
theorem grp_mod (h : Fin 4) (e : Fin 128) (p) : (⟨(h.val * 128 + e.val) % 128, p⟩ : Fin 128) = e := Fin.ext (by simp only; omega)

theorem V_k (c : Dev nD) (b : Fin 8) (h : Fin 4) (j : Fin 2560) (e : Fin 128) (hr : b.val * 2560 + j.val < 20480) (hl : h.val * 128 + e.val < 512) :
    V m c main_v10 (ix2 ⟨b.val * 2560 + j.val, hr⟩ ⟨h.val * 128 + e.val, hl⟩)
      = kv (m ((c.tc : Thread nD τ).loc main_arg2)) (m ((c.tc : Thread nD τ).loc main_arg4)) b h j e := by
  entry_read
  pointwise [kv]
  simp only [grp_div, grp_mod]

theorem V_v (c : Dev nD) (b : Fin 8) (h : Fin 4) (j : Fin 2560) (e : Fin 128) (hr : b.val * 2560 + j.val < 20480) (hl : h.val * 128 + e.val < 512) :
    V m c main_v16 (ix2 ⟨b.val * 2560 + j.val, hr⟩ ⟨h.val * 128 + e.val, hl⟩)
      = kv (m ((c.tc : Thread nD τ).loc main_arg3)) (m ((c.tc : Thread nD τ).loc main_arg5)) b h j e := by
  entry_read
  pointwise [kv]
  simp only [grp_div, grp_mod]

theorem V_y (c : Dev nD) : V m c main_v17 = m ((c.tc : Thread nD τ).loc main_arg0) := by
  entry_read
  rfl

theorem idx : ∀ t : Fin cfg0.N,
    win0_0.index t = ![32 + t.val / 32 * 8 + t.val % 8, t.val / 8 % 4] ∧ win0_1.index t = ![t.val / 32, t.val / 8 % 4] ∧
    win0_2.index t = ![t.val / 32, t.val / 8 % 4] ∧ win0_3.index t = ![32 + t.val / 32 * 8 + t.val % 8, t.val / 8 % 4] :=
  (by decide +kernel : ∀ t : Fin grid0.N, _)

/-- The kernel's value at a sample row, by its batch, group and coordinates. -/
def REF (x1 : FVec Ideal S24576x2048 .f32) (x2 x3 : FVec Ideal S24576x512 .f32) (x4 x5 : FVec Ideal S8x512x4x128 .f32) (r : Fin 24576) (l : Fin 2048) : EReal :=
  att (fun e => x1 (ix2 r ⟨l.val / 128 * 128 + e.val, by omega⟩) * Ideal.ofBits FTy.f32 1035273459#32)
    (kv x2 x4 ⟨(r.val - 8192) / 2048, by omega⟩ ⟨l.val / 512, by omega⟩)
    (fun j => kv x3 x5 ⟨(r.val - 8192) / 2048, by omega⟩ ⟨l.val / 512, by omega⟩ j ⟨l.val % 128, by omega⟩)

theorem blk_q (c : Dev nD) (t : Fin cfg0.N) (ht : t.val < 256) (r : Fin 256) (l : Fin 512) :
    iblk m c 0 t (ix2 r l) = V m c main_v4 (ix2 ⟨8192 + (t.val / 32 * 8 + t.val % 8) * 256 + r.val, by omega⟩ ⟨t.val / 8 % 4 * 512 + l.val, by omega⟩) := by
  blk_ext [iblk, idx t]

theorem blk_k (c : Dev nD) (t : Fin cfg0.N) (ht : t.val < 256) (j : Fin 2560) (e : Fin 128) :
    iblk m c 1 t (ix2 j e) = V m c main_v10 (ix2 ⟨t.val / 32 * 2560 + j.val, by omega⟩ ⟨t.val / 8 % 4 * 128 + e.val, by omega⟩) := by
  blk_ext [iblk, idx t]

theorem blk_v (c : Dev nD) (t : Fin cfg0.N) (ht : t.val < 256) (j : Fin 2560) (e : Fin 128) :
    iblk m c 2 t (ix2 j e) = V m c main_v16 (ix2 ⟨t.val / 32 * 2560 + j.val, by omega⟩ ⟨t.val / 8 % 4 * 128 + e.val, by omega⟩) := by
  blk_ext [iblk, idx t]

/-- One element of a grid point's block, over the whole arrays: head `a` of the point's group. -/
theorem core (c : Dev nD) (t : Fin cfg0.N) (ht : t.val < 256) (a : ℕ) (ha : a < 4) (r : Fin 256) (d : Fin 128) (R : Fin 24576) (L : Fin 2048)
    (hR : R.val = 8192 + (t.val / 32 * 8 + t.val % 8) * 256 + r.val) (hL : L.val = t.val / 8 % 4 * 512 + a * 128 + d.val) :
    att (fun e => iblk m c 0 t (ix2 r ⟨a * 128 + e.val, by omega⟩)) (fun j e => iblk m c 1 t (ix2 j e)) (fun j => iblk m c 2 t (ix2 j d))
      = REF (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) R L := by
  have hb : (⟨(R.val - 8192) / 2048, by omega⟩ : Fin 8) = ⟨t.val / 32, by omega⟩ := Fin.ext (by simp only; omega)
  have hh : (⟨L.val / 512, by omega⟩ : Fin 4) = ⟨t.val / 8 % 4, by omega⟩ := Fin.ext (by simp only; omega)
  have hd : (⟨L.val % 128, by omega⟩ : Fin 128) = d := Fin.ext (by simp only; omega)
  unfold REF
  rw [hb, hh, hd]
  congr 1
  · funext e
    rw [blk_q m c t ht, V_q]
    congr 3
    · exact Fin.ext (by simp only; omega)
    · exact Fin.ext (by simp only; omega)
  · funext j e
    rw [blk_k m c t ht]
    exact V_k m c ⟨t.val / 32, by omega⟩ ⟨t.val / 8 % 4, by omega⟩ j e _ _
  · funext j
    rw [blk_v m c t ht]
    exact V_v m c ⟨t.val / 32, by omega⟩ ⟨t.val / 8 % 4, by omega⟩ j d _ _

theorem final (c : Dev nD) : (dats m 0 c).arrAt 3 cfg0.N = fun i => if 32 * 256 ≤ (i 0 : ℕ) then
    REF (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (i 0) (i 1) else V m c main_v17 i := by
  refine (dats m 0 c).arrAt_eq_of_coversWhere 3 _ (fun β => 32 ≤ β 0) (by decide +kernel) (fun t hf y => ?_) (fun j => by blk_simp [Pipeline.Window.cell_apply]; omega)
  blk_simp
  rw [after0_3]
  unfold Gen.outsAt0
  frame_out
  have ht : t.val < 256 := lt_of_lt_of_eq t.isLt N_0
  canon_tiles y h
  all_goals obtain ⟨r, d, rfl⟩ : ∃ r d, y = ix2 r d := ⟨y 0, y 1, eq_ix2 y⟩
  all_goals simp only [head0, head1, head2, head3]
  · refine Eq.trans ?_ (core m c t ht 3 (by norm_num) r d _ _ ?_ ?_)
    · pointwise
    · have e0 : (y 0).val = r.val := h0
      blk_simp [idx t]; omega
    · have e1 : (y 1).val = 384 + d.val := h1
      blk_simp [idx t]; omega
  · refine Eq.trans ?_ (core m c t ht 2 (by norm_num) r d _ _ ?_ ?_)
    · pointwise
    · have e0 : (y 0).val = r.val := h0
      blk_simp [idx t]; omega
    · have e1 : (y 1).val = 256 + d.val := h1
      blk_simp [idx t]; omega
  · refine Eq.trans ?_ (core m c t ht 1 (by norm_num) r d _ _ ?_ ?_)
    · pointwise
    · have e0 : (y 0).val = r.val := h0
      blk_simp [idx t]; omega
    · have e1 : (y 1).val = 128 + d.val := h1
      blk_simp [idx t]; omega
  · refine Eq.trans ?_ (core m c t ht 0 (by norm_num) r d _ _ ?_ ?_)
    · pointwise
    · have e0 : (y 0).val = r.val := h0
      blk_simp [idx t]; omega
    · have e1 : (y 1).val = d.val := h1
      blk_simp [idx t]; omega

end Cert.KernelIdeal.Value

end
-- ==== Proof.Soft.lean ====
/-
  The softmax of a row of real scores, on the extended reals: its greatest score is a real, its
  normalizer a positive real, so dividing the weighted sum by the normalizer is the weighted sum of
  the divided terms.
-/
module

public import Idealize.ShloMosaic.PureOps.Ideal.Laws
public import Idealize.ShloMosaic.Lib.Pointwise

@[expose] public section

namespace Cert.Soft

open Idealize.ShloMosaic

/-- A product by a real that is not negative goes into a finite sum. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A finite sum of reals is a real. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (h : ∀ i, IsReal (f i)) : IsReal (∑ i ∈ s, f i) := by
  choose g hg using h
  exact ⟨∑ i ∈ s, g i, by rw [← sum_coe]; exact Finset.sum_congr rfl fun i _ => hg i⟩

/-- What is below `⊤` in absolute value is a real. -/
theorem IsReal.of_abs_lt {x : EReal} (h : max x (-x) < ⊤) : IsReal x := by
  induction x using EReal.rec with
  | bot => simp at h
  | top => simp at h
  | coe r => exact ⟨r, rfl⟩

/-- The f32 pattern of minus infinity. -/
theorem ofBits_bot : Ideal.ofBits .f32 0xFF800000#32 = ⊥ := by simp [Ideal.ofBits, Ideal.ieee]

/-- The greatest of finitely many reals, at least one of them, is a real. -/
theorem IsReal.fold_max {ι : Type} [Fintype ι] [Nonempty ι] (s : ι → EReal) (hs : ∀ i, IsReal (s i)) :
    IsReal (Finset.fold max (Ideal.ofBits .f32 0xFF800000#32) s Finset.univ) := by
  rw [ofBits_bot]
  have h1 : Finset.fold max ⊥ s Finset.univ < ⊤ :=
    (Finset.fold_max_lt (⊤ : EReal)).2 ⟨bot_lt_top, fun x _ => by obtain ⟨r, hr⟩ := hs x; rw [hr]; exact EReal.coe_lt_top r⟩
  have h2 : ⊥ < Finset.fold max ⊥ s Finset.univ :=
    (Finset.lt_fold_max (⊥ : EReal)).2 (.inr ⟨Classical.arbitrary ι, Finset.mem_univ _, by
      obtain ⟨r, hr⟩ := hs (Classical.arbitrary ι); rw [hr]; exact EReal.bot_lt_coe r⟩)
  exact ⟨_, (EReal.coe_toReal h1.ne h2.ne').symm⟩

/-- A row of real scores: the weighted sum of the exponentials divided by their sum is the weighted sum of
    the divided exponentials. -/
theorem attend {ι : Type} [Fintype ι] [Nonempty ι] (s v : ι → EReal) (hs : ∀ i, IsReal (s i)) (m : EReal) (hm : IsReal m) :
    Ideal.div (∑ x, Ideal.exp (s x - m) * v x) (∑ x, Ideal.exp (s x - m))
      = ∑ x, v x * Ideal.div (Ideal.exp (s x - m)) (∑ y, Ideal.exp (s y - m)) := by
  choose g hg using hs
  obtain ⟨M, rfl⟩ := hm
  have he : ∀ x, Ideal.exp (s x - (M : EReal)) = ((Real.exp (g x - M) : ℝ) : EReal) := fun x => by
    rw [hg x, ← EReal.coe_sub, Ideal.exp_coe]
  have hp : 0 < ∑ x, Real.exp (g x - M) := Finset.sum_pos (fun x _ => Real.exp_pos _) Finset.univ_nonempty
  have hl : (∑ x, Ideal.exp (s x - (M : EReal))) = ((∑ x, Real.exp (g x - M) : ℝ) : EReal) := by
    rw [← sum_coe]; exact Finset.sum_congr rfl fun x _ => he x
  rw [hl, Ideal.div_coe hp.ne', sum_mul_coe _ _ (one_div_nonneg.mpr hp.le)]
  refine Finset.sum_congr rfl fun x _ => ?_
  rw [Ideal.div_coe hp.ne', mul_comm (Ideal.exp _) (v x), mul_assoc]

/-- Scaling the queries by a real that is not negative scales the scores. -/
theorem scores {ι : Type} [Fintype ι] (q k : ι → EReal) {c : EReal} (hc : ∃ r : ℝ, 0 ≤ r ∧ c = (r : EReal)) :
    (∑ d, q d * c * k d) = (∑ d, k d * q d) * c := by
  obtain ⟨r, hr, rfl⟩ := hc
  rw [sum_mul_coe _ _ hr]
  refine Finset.sum_congr rfl fun d _ => ?_
  rw [mul_right_comm, mul_comm (q d)]

end Cert.Soft

end
-- ==== Proof.Gqa.lean ====
/-
  The grouped attention of the sample batch: with finite queries and keys the kernel's array is the
  reference's.
-/
module

public import proofs.«01_k».proof.Proof.GqaKernel
public import proofs.«01_k».proof.Proof.Soft

@[expose] public section

set_option maxRecDepth 16384

noncomputable section

namespace Cert.Gqa

open Idealize.ShloMosaic Cert.ReferenceIdeal Cert.ReferenceIdeal.Read Cert.Soft

theorem scale : ∃ r : ℝ, 0 ≤ r ∧ Ideal.ofBits FTy.f32 1035273459#32 = (r : EReal) :=
  ⟨11863283 / 134217728, by norm_num, by simp [Ideal.ofBits, Ideal.ieee, -EReal.coe_mul]; norm_num⟩

variable (x0 : FVec Ideal S24576x2048 .bf16) (x1 : FVec Ideal S24576x2048 .f32) (x2 x3 : FVec Ideal S24576x512 .f32) (x4 x5 : FVec Ideal S8x512x4x128 .f32)

theorem kv_real (h2 : ∀ i, IsReal (x2 i)) (h4 : ∀ i, IsReal (x4 i)) (b : Fin 8) (h : Fin 4) (j : Fin 2560) (e : Fin 128) :
    IsReal (kv x2 x4 b h j e) := by
  unfold kv
  split
  · exact h2 _
  · exact h4 _

theorem score_real (h1 : ∀ i, IsReal (x1 i)) (h2 : ∀ i, IsReal (x2 i)) (h4 : ∀ i, IsReal (x4 i)) (b : Fin 8) (h g : Fin 4) (q : Fin 2048) (k : Fin 2560) :
    IsReal (score x1 x2 x4 b h g q k) := by
  obtain ⟨r, _, hr⟩ := scale
  exact (IsReal.sum _ _ fun e => (kv_real x2 x4 h2 h4 b h k e).mul (h1 _)).mul ⟨r, hr⟩

theorem out_eq (h1 : ∀ i, IsReal (x1 i)) (h2 : ∀ i, IsReal (x2 i)) (h4 : ∀ i, IsReal (x4 i)) (r : Fin 24576) (l : Fin 2048) (hr : 8192 ≤ r.val) :
    Cert.KernelIdeal.Value.REF x1 x2 x3 x4 x5 r l = val_main_v25 (F := Ideal) x1 x2 x3 x4 x5 (ix2 ⟨r.val - 8192, by omega⟩ l) := by
  rw [v25_eq]
  simp only [v22_eq, v18_eq, v7_eq]
  generalize hb : (⟨(r.val - 8192) / 2048, by omega⟩ : Fin 8) = b
  generalize hh : (⟨l.val / 512, by omega⟩ : Fin 4) = h
  generalize hg : (⟨l.val / 128 % 4, by omega⟩ : Fin 4) = g
  generalize hq : (⟨(r.val - 8192) % 2048, by omega⟩ : Fin 2048) = q
  have hs : ∀ k, (∑ e : Fin 128, x1 (ix2 r ⟨l.val / 128 * 128 + e.val, by omega⟩) * Ideal.ofBits FTy.f32 1035273459#32 * kv x2 x4 b h k e)
      = score x1 x2 x4 b h g q k := fun k => by
    rw [scores _ _ scale]
    unfold score
    congr 1
    refine Finset.sum_congr rfl fun e _ => ?_
    congr 2
    subst hb hh hg hq
    exact congrArg₂ ix2 (Fin.ext (by simp only; omega)) (Fin.ext (by simp only; omega))
  have hm := IsReal.fold_max (fun x => score x1 x2 x4 b h g q x) fun k => score_real x1 x2 x4 h1 h2 h4 b h g q k
  unfold Cert.KernelIdeal.Value.REF Cert.KernelIdeal.Value.att
  rw [hb, hh]
  simp only [hs]
  rw [show ∀ y : EReal, max (Ideal.ofBits FTy.f32 4286578688#32) y = y from fun y => by
    rw [show Ideal.ofBits FTy.f32 4286578688#32 = ⊥ from ofBits_bot]; exact max_eq_right bot_le]
  exact attend _ _ (fun k => score_real x1 x2 x4 h1 h2 h4 b h g q k) _ hm

theorem eq_ref (h1 : ∀ i, IsReal (x1 i)) (h2 : ∀ i, IsReal (x2 i)) (h4 : ∀ i, IsReal (x4 i)) :
    (fun i : S24576x2048.Idx => if 32 * 256 ≤ (i 0 : ℕ) then Cert.KernelIdeal.Value.REF x1 x2 x3 x4 x5 (i 0) (i 1) else x0 i)
      = val_main_v28 (F := Ideal) x0 x1 x2 x3 x4 x5 := by
  funext i
  obtain ⟨r, l, rfl⟩ : ∃ r l, i = ix2 r l := ⟨i 0, i 1, eq_ix2 i⟩
  rw [v28_eq]
  show (if 32 * 256 ≤ r.val then Cert.KernelIdeal.Value.REF x1 x2 x3 x4 x5 r l else x0 (ix2 r l)) = _
  by_cases hr : r.val < 8192
  · rw [if_neg (by omega), dif_pos hr]
  · rw [if_pos (by omega), dif_neg hr]
    exact out_eq x1 x2 x3 x4 x5 h1 h2 h4 r l (by omega)

end Cert.Gqa

end
-- ==== Proof.Prep.lean ====
/-
  The kernels' preparation of the attention operands without the latent queries: the latent and its rotary key, the
  grouped queries and keys normalised and rotated, the values; each array is the reference's, whatever the arguments.
-/
module

public import proofs.«01_k».proof.Proof.Gen.Kernel7Ideal.Frame
public import proofs.«01_k».proof.Proof.Gen.Reference7Ideal.Read
public import Idealize.ShloMosaic.Lib.Pointwise
public import Idealize.ShloMosaic.Lib.Pipeline.ValueKit
public import Idealize.ShloMosaic.Lib.Claim

@[expose] public section

set_option maxRecDepth 16384

noncomputable section

namespace Cert.Prep

open Idealize.ShloMosaic

/-- One element of a normalised row of `n` entries: the entry over the root of the row's mean square, times the weight. -/
def nrm {n : ℕ} (x : Fin n → EReal) (N : EReal) (l : Fin n) (g : EReal) : EReal :=
  x l * Ideal.rsqrt (Ideal.div (∑ k, x k * x k) N + Ideal.ofBits FTy.f32 897988541#32) * g

/-- A row turned by a quarter within each group of `2 * h` entries. -/
def turn (n h : ℕ) (y : Fin n → EReal) (l : Fin n) : EReal :=
  if l.val % (2 * h) < h then -(y ⟨(l.val + h) % n, Nat.mod_lt _ (Nat.zero_lt_of_lt l.isLt)⟩)
  else y ⟨(l.val - h) % n, Nat.mod_lt _ (Nat.zero_lt_of_lt l.isLt)⟩

/-- One element of a row rotated by the angles with cosine `c` and sine `s`. -/
def rope (n h : ℕ) (y : Fin n → EReal) (l : Fin n) (c s : EReal) : EReal :=
  y l * c + turn n h y l * s

/-- A table of the sample positions read at a row: the given entry on the prompt's rows. -/
def tab {d : ℕ} (p : EReal) (t : FVec Ideal ⟨2, ![2048, d]⟩ .f32) (r : Fin 24576) (l : Fin d) : EReal :=
  if r.val < 8192 then p else t (ix2 ⟨(r.val - 8192) % 2048, by omega⟩ l)

end Cert.Prep

namespace Cert.Kernel7Ideal.Value

open Idealize.ShloMosaic Idealize.SL.Sem Cert.Kernel7Ideal.Gen Cert.Prep

/-- The packed rows: the parts of the projection in the order the kernel reads them, padded with zero columns. -/
def packed (x : FVec Ideal S24576x20960 .f32) : FVec Ideal S24576x21504 .f32 :=
  concatenate S24576x21504 1
    [
      ⟨S24576x12288, extractStridedSlice S24576x12288 ![0, 8672] x slices_S24576x20960_S24576x12288_0_8672⟩,
      ⟨S24576x2048, extractStridedSlice S24576x2048 ![0, 1472] x slices_S24576x20960_S24576x2048_0_1472⟩,
      ⟨S24576x1024, extractStridedSlice S24576x1024 ![0, 4544] x slices_S24576x20960_S24576x1024_0_4544⟩,
      ⟨S24576x1024, extractStridedSlice S24576x1024 ![0, 5568] x slices_S24576x20960_S24576x1024_0_5568⟩,
      ⟨S24576x1024, extractStridedSlice S24576x1024 ![0, 6592] x slices_S24576x20960_S24576x1024_0_6592⟩,
      ⟨S24576x1024, extractStridedSlice S24576x1024 ![0, 7616] x slices_S24576x20960_S24576x1024_0_7616⟩,
      ⟨S24576x896, extractStridedSlice S24576x896 ![0, 0] x slices_S24576x20960_S24576x896_0_0⟩,
      ⟨S24576x128, broadcastInDim S24576x128 ![] bcast_S_S24576x128 (constant (F := Ideal) S_ .f32 0x00000000#32)⟩,
      ⟨S24576x512, extractStridedSlice S24576x512 ![0, 896] x slices_S24576x20960_S24576x512_0_896⟩,
      ⟨S24576x512, extractStridedSlice S24576x512 ![0, 3520] x slices_S24576x20960_S24576x512_0_3520⟩,
      ⟨S24576x512, extractStridedSlice S24576x512 ![0, 4032] x slices_S24576x20960_S24576x512_0_4032⟩,
      ⟨S24576x64, extractStridedSlice S24576x64 ![0, 1408] x slices_S24576x20960_S24576x64_0_1408⟩,
      ⟨S24576x64, broadcastInDim S24576x64 ![] bcast_S_S24576x64 (constant (F := Ideal) S_ .f32 0x00000000#32)⟩,
      ⟨S24576x32, extractStridedSlice S24576x32 ![0, 8640] x slices_S24576x20960_S24576x32_0_8640⟩,
      ⟨S24576x96, broadcastInDim S24576x96 ![] bcast_S_S24576x96 (constant (F := Ideal) S_ .f32 0x00000000#32)⟩,
      ⟨S24576x256, broadcastInDim S24576x256 ![] bcast_S_S24576x256 (constant (F := Ideal) S_ .f32 0x00000000#32)⟩]
    concatenates_S24576x12288_S24576x2048_S24576x1024_S24576x1024_S24576x1024_S24576x1024_S24576x896_S24576x128_S24576x512_S24576x512_S24576x512_S24576x64_S24576x64_S24576x32_S24576x96_S24576x256_S24576x21504_d1

/-- Where the slices lie: the first packed column, the width and the first column in the projection. -/
def lay : List (ℕ × ℕ × ℕ) :=
  [(0, 12288, 8672), (12288, 2048, 1472), (14336, 1024, 4544), (15360, 1024, 5568), (16384, 1024, 6592), (17408, 1024, 7616), (18432, 896, 0), (19456, 512, 896), (19968, 512, 3520), (20480, 512, 4032), (20992, 64, 1408), (21120, 32, 8640)]

theorem packed_at (x : FVec Ideal S24576x20960 .f32) (p n o : ℕ) (hm : (p, n, o) ∈ lay) (k : Fin 24576) (l : Fin 21504) (j : Fin 20960)
    (h : p ≤ l.val ∧ l.val < p + n ∧ j.val + p = l.val + o) : packed x (ix2 k l) = x (ix2 k j) := by
  revert p n o
  pointwise [packed]
  intro p n o hm h
  simp only [lay, List.mem_cons, List.not_mem_nil, or_false, Prod.mk.injEq] at hm
  obtain ⟨h1, h2, h3⟩ := h
  rcases hm with ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩
  all_goals
    repeat first | rw [dif_pos (by omega)] | rw [dif_neg (by omega)]
    exact congrArg (fun R => x (ix2 k R)) (Fin.ext (by simp only; omega))

theorem pay_kv (x : Vec Ideal S256x512 .f32) (g : Vec Ideal S1x512 .f32) (r : Fin 256) (l : Fin 512) :
    k0_pay6 (F := Ideal) x g (ix2 r l) = nrm (fun k => x (ix2 r k)) (Ideal.ofBits FTy.f32 1140850688#32) l (g (ix2 0 l)) := by
  pointwise [k0_pay6, nrm]

theorem pay_k (x : Vec Ideal S256x128 .f32) (g : Vec Ideal S1x128 .f32) (r : Fin 256) (l : Fin 128) :
    k0_pay84 (F := Ideal) g x (ix2 r l) = nrm (fun k => x (ix2 r k)) (Ideal.ofBits FTy.f32 1124073472#32) l (g (ix2 0 l)) := by
  pointwise [k0_pay84, nrm]

/-- Which entries lie in the first half of their group of `n`: the kernel's test, on the whole block. -/
def quarter (n h : BitVec 32) : IVec S256x128 1 :=
  cmpi .slt (select (andi (xori (cmpi .slt (remsi (iota .tc S256x128 32 [1] iota_S256x128_d1_w32) (broadcast S256x128 n)) (broadcast S256x128 0#32))
      (broadcastTo S256x128 (broadcast S256x128 (Scalar.cmpi .slt n 0#32)) broadcasts_S256x128_S256x128))
      (cmpi .ne (remsi (iota .tc S256x128 32 [1] iota_S256x128_d1_w32) (broadcast S256x128 n)) (broadcast S256x128 0#32)))
      (addi (remsi (iota .tc S256x128 32 [1] iota_S256x128_d1_w32) (broadcast S256x128 n)) (broadcast S256x128 n))
      (remsi (iota .tc S256x128 32 [1] iota_S256x128_d1_w32) (broadcast S256x128 n))) (broadcast S256x128 h)

theorem quarter_32 (r : Fin 256) (l : Fin 128) : quarter 64#32 32#32 (ix2 r l) = if l.val % (2 * 32) < 32 then 1#1 else 0#1 := by
  pointwise [quarter]
  revert l
  decide

theorem quarter_16 (r : Fin 256) (l : Fin 128) : quarter 32#32 16#32 (ix2 r l) = if l.val % (2 * 16) < 16 then 1#1 else 0#1 := by
  pointwise [quarter]
  revert l
  decide

/-- A block of rows rotated by its cosines and sines. -/
def roped (q : IVec S256x128 1) (a b : BitVec 32) (y c s : FVec Ideal S256x128 .f32) : FVec Ideal S256x128 .f32 :=
  addf (mulf y c) (mulf (select q (subf (broadcast S256x128 (Scalar.ofBits .f32 0x00000000#32)) (dynamicRotate 1 a none y rotates_S256x128_d1))
      (dynamicRotate 1 b none y rotates_S256x128_d1)) s)

theorem roped_32 (y c s : FVec Ideal S256x128 .f32) (r : Fin 256) (l : Fin 128) :
    roped (quarter 64#32 32#32) 96#32 32#32 y c s (ix2 r l) = rope 128 32 (fun k => y (ix2 r k)) l (c (ix2 r l)) (s (ix2 r l)) := by
  pointwise [roped, rope, turn]
  rw [quarter_32]
  by_cases h : l.val % 64 < 32
  · rw [if_pos h, if_pos h]
    simp [Scalar.select]
  · rw [if_neg h, if_neg h]
    have e : (⟨(l.val + 96) % 128, by omega⟩ : Fin 128) = ⟨(l.val - 32) % 128, by omega⟩ := Fin.ext (by simp only; omega)
    simp [Scalar.select, e]

theorem roped_16 (y c s : FVec Ideal S256x128 .f32) (r : Fin 256) (l : Fin 128) :
    roped (quarter 32#32 16#32) 112#32 16#32 y c s (ix2 r l) = rope 128 16 (fun k => y (ix2 r k)) l (c (ix2 r l)) (s (ix2 r l)) := by
  pointwise [roped, rope, turn]
  rw [quarter_16]
  by_cases h : l.val % 32 < 16
  · rw [if_pos h, if_pos h]
    simp [Scalar.select]
  · rw [if_neg h, if_neg h]
    have e : (⟨(l.val + 112) % 128, by omega⟩ : Fin 128) = ⟨(l.val - 16) % 128, by omega⟩ := Fin.ext (by simp only; omega)
    simp [Scalar.select, e]

/-- One head of the keys, normalised and rotated. -/
def keyHead (c s : FVec Ideal S256x128 .f32) (g : FVec Ideal S1x128 .f32) (x : Vec Ideal S256x128 .f32) : FVec Ideal S256x128 .f32 :=
  roped (quarter 64#32 32#32) 96#32 32#32 (k0_pay84 g x) c s

/-- One head of the queries, normalised, rotated and scaled. -/
def queryHead (c s : FVec Ideal S256x128 .f32) (g : FVec Ideal S1x128 .f32) (x : Vec Ideal S256x128 .f32) : FVec Ideal S256x128 .f32 :=
  mulf (keyHead c s g x) (broadcast S256x128 (Scalar.ofBits .f32 0x3DB504F3#32))

theorem keyHead_apply (c s : FVec Ideal S256x128 .f32) (g : FVec Ideal S1x128 .f32) (x : Vec Ideal S256x128 .f32) (r : Fin 256) (l : Fin 128) :
    keyHead c s g x (ix2 r l) = rope 128 32 (fun k => nrm (fun e => x (ix2 r e)) (Ideal.ofBits FTy.f32 1124073472#32) k (g (ix2 0 k))) l (c (ix2 r l)) (s (ix2 r l)) := by
  unfold keyHead
  rw [roped_32]
  simp only [pay_k]

theorem queryHead_apply (c s : FVec Ideal S256x128 .f32) (g : FVec Ideal S1x128 .f32) (x : Vec Ideal S256x128 .f32) (r : Fin 256) (l : Fin 128) :
    queryHead c s g x (ix2 r l) = keyHead c s g x (ix2 r l) * Ideal.ofBits FTy.f32 1035273459#32 := by
  pointwise [queryHead]

theorem pay_kr (s y c : FVec Ideal S256x128 .f32) :
    k0_pay10 (F := Ideal) s y (mulf y c) (iota .tc S256x128 32 [1] iota_S256x128_d1_w32) 32#32 = roped (quarter 32#32 16#32) 112#32 16#32 y c s := rfl

theorem q_25 (c s : FVec Ideal S256x128 .f32) (g : FVec Ideal S1x128 .f32) (x : Vec Ideal S256x128 .f32) : k0_pay25 (F := Ideal) c s g x = queryHead c s g x := rfl

variable (m : (ℓ : Loc nD τ sig) → Buf (Elt Ideal) ℓ)

theorem V_x (c : Dev nD) : V m c main_v40 = packed (m ((c.tc : Thread nD τ).loc main_arg0)) := by
  unfold packed
  unfold_abbrev_sides
  after_results
  rfl

def rowsOf (p : EReal) (x : FVec Ideal S2048x128 .f32) : FVec Ideal S24576x128 .f32 :=
  concatenate S24576x128 0 [⟨S8192x128, broadcastInDim S8192x128 ![] bcast_S_S8192x128 (fun _ => p : FVec Ideal S_ .f32)⟩,
    ⟨S16384x128, shapeCast S16384x128 (broadcastInDim S8x2048x1x128 ![0, 1, 2, 3] bcast_S1x2048x1x128_S8x2048x1x128_0_1_2_3
      (shapeCast S1x2048x1x128 x shapeCasts_S2048x128_S1x2048x1x128)) shapeCasts_S8x2048x1x128_S16384x128⟩]
    concatenates_S8192x128_S16384x128_S24576x128_d0

theorem tiled (x : FVec Ideal S2048x128 .f32) (q : Fin 16384) (l : Fin 128) :
    shapeCast S16384x128 (broadcastInDim S8x2048x1x128 ![0, 1, 2, 3] bcast_S1x2048x1x128_S8x2048x1x128_0_1_2_3
      (shapeCast S1x2048x1x128 x shapeCasts_S2048x128_S1x2048x1x128)) shapeCasts_S8x2048x1x128_S16384x128 (ix2 q l)
      = x (ix2 ⟨q.val % 2048, by omega⟩ l) := by
  pointwise

theorem rowsOf_apply (p : EReal) (x : FVec Ideal S2048x128 .f32) (r : Fin 24576) (l : Fin 128) : rowsOf p x (ix2 r l) = tab p x r l := by
  have e := tiled x
  unfold rowsOf tab
  generalize shapeCast S16384x128 _ _ = y at *
  by_cases h : r.val < 8192
  · rw [if_pos h]
    refine Eq.trans (b := if h : r.val < 8192 then p else y (ix2 ⟨r.val - 8192, by omega⟩ l)) ?_ ?_
    · pointwise
    · rw [dif_pos h]
  · rw [if_neg h]
    refine Eq.trans (b := if h : r.val < 8192 then p else y (ix2 ⟨r.val - 8192, by omega⟩ l)) ?_ ?_
    · pointwise
    · rw [dif_neg h, e]

theorem padded (x : FVec Ideal S2048x64 .f32) (v : FVec Ideal S_ .f32) (t : Fin 2048) (l : Fin 128) (hl : l.val < 64) :
    pad S2048x128 ![0, 0] ![0, 64] ![0, 0] x v pads_S2048x64_S2048x128_000_0640 h_S_ (ix2 t l) = x (ix2 t ⟨l.val, hl⟩) := by
  pointwise
  exact dif_pos hl

theorem unpadded (x : FVec Ideal S2048x128 .f32) (v : FVec Ideal S_ .f32) :
    pad S2048x128 ![0, 0] ![0, 0] ![0, 0] x v pads_S2048x128_S2048x128_000_000 h_S_ = x := by
  funext i
  obtain ⟨r, l, rfl⟩ : ∃ r l, i = ix2 r l := ⟨i 0, i 1, eq_ix2 i⟩
  pointwise

theorem V_ca (c : Dev nD) : V m c main_v6 = rowsOf (Ideal.ofBits FTy.f32 1065353216#32)
    (pad S2048x128 ![0, 0] ![0, 64] ![0, 0] (m ((c.tc : Thread nD τ).loc main_arg1)) (constant (F := Ideal) S_ .f32 0x3F800000#32) pads_S2048x64_S2048x128_000_0640 h_S_) := by
  unfold rowsOf
  unfold_abbrev_sides
  after_results
  rfl

theorem V_sa (c : Dev nD) : V m c main_v11 = rowsOf (Ideal.ofBits FTy.f32 0#32)
    (pad S2048x128 ![0, 0] ![0, 64] ![0, 0] (m ((c.tc : Thread nD τ).loc main_arg2)) (sitofp (F := Ideal) .f32 (constantI S_ 32 0#32)) pads_S2048x64_S2048x128_000_0640 h_S_) := by
  unfold rowsOf
  unfold_abbrev_sides
  after_results
  rfl

theorem V_cb (c : Dev nD) : V m c main_v18 = rowsOf (Ideal.ofBits FTy.f32 1065353216#32) (m ((c.tc : Thread nD τ).loc main_arg3)) := by
  refine Eq.trans (b := rowsOf (Ideal.ofBits FTy.f32 1065353216#32) (pad S2048x128 ![0, 0] ![0, 0] ![0, 0] (m ((c.tc : Thread nD τ).loc main_arg3))
    (constant (F := Ideal) S_ .f32 0x3F800000#32) pads_S2048x128_S2048x128_000_000 h_S_)) ?_ (congrArg _ (unpadded _ _))
  unfold rowsOf
  unfold_abbrev_sides
  after_results
  rfl

theorem V_sb (c : Dev nD) : V m c main_v23 = rowsOf (Ideal.ofBits FTy.f32 0#32) (m ((c.tc : Thread nD τ).loc main_arg4)) := by
  refine Eq.trans (b := rowsOf (Ideal.ofBits FTy.f32 0#32) (pad S2048x128 ![0, 0] ![0, 0] ![0, 0] (m ((c.tc : Thread nD τ).loc main_arg4))
    (sitofp (F := Ideal) .f32 (constantI S_ 32 0#32)) pads_S2048x128_S2048x128_000_000 h_S_)) ?_ (congrArg _ (unpadded _ _))
  unfold rowsOf
  unfold_abbrev_sides
  after_results
  rfl

theorem V_kvn (c : Dev nD) : V m c main_v41 = shapeCast S1x512 (show FVec Ideal S512 .f32 from m ((c.tc : Thread nD τ).loc main_arg5)) shapeCasts_S512_S1x512 := by
  unfold_abbrev_sides
  after_results
  rfl

theorem V_gqn (c : Dev nD) : V m c main_v42 = shapeCast S1x128 (show FVec Ideal S128 .f32 from m ((c.tc : Thread nD τ).loc main_arg6)) shapeCasts_S128_S1x128 := by
  unfold_abbrev_sides
  after_results
  rfl

theorem V_gkn (c : Dev nD) : V m c main_v43 = shapeCast S1x128 (show FVec Ideal S128 .f32 from m ((c.tc : Thread nD τ).loc main_arg7)) shapeCasts_S128_S1x128 := by
  unfold_abbrev_sides
  after_results
  rfl

theorem idx : ∀ t : Fin cfg0.N, win0_0.index t = ![t.val, 38] ∧ win0_1.index t = ![t.val, 6] ∧ win0_2.index t = ![t.val, 39] ∧ win0_3.index t = ![t.val, 40]
    ∧ win0_4.index t = ![t.val, 164] ∧ win0_5.index t = ![t.val, 0] ∧ win0_6.index t = ![t.val, 0] ∧ win0_7.index t = ![t.val, 0] ∧ win0_8.index t = ![t.val, 0]
    ∧ win0_9.index t = ![0, 0] ∧ win0_10.index t = ![0, 0] ∧ win0_11.index t = ![0, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, _)

theorem blk_kv (c : Dev nD) (t : Fin cfg0.N) (ht : t.val < 96) (r : Fin 256) (k : Fin 512) :
    iblk m c 0 t (ix2 r k) = (show FVec Ideal S24576x20960 .f32 from m ((c.tc : Thread nD τ).loc main_arg0)) (ix2 ⟨t.val * 256 + r.val, by omega⟩ ⟨896 + k.val, by omega⟩) := by
  refine Eq.trans (b := V m c main_v40 (ix2 ⟨t.val * 256 + r.val, by omega⟩ ⟨19456 + k.val, by omega⟩)) ?_ ?_
  · blk_ext [iblk, idx t]
  · rw [V_x]
    exact packed_at _ 19456 512 896 (by decide) _ _ _ ⟨by simp only; omega, by simp only; omega, by simp only; omega⟩

theorem blk_gq (c : Dev nD) (t : Fin cfg0.N) (ht : t.val < 96) (r : Fin 256) (k : Fin 2048) :
    X0_1 m c t (ix2 r k) = (show FVec Ideal S24576x20960 .f32 from m ((c.tc : Thread nD τ).loc main_arg0)) (ix2 ⟨t.val * 256 + r.val, by omega⟩ ⟨1472 + k.val, by omega⟩) := by
  refine Eq.trans (b := V m c main_v40 (ix2 ⟨t.val * 256 + r.val, by omega⟩ ⟨12288 + k.val, by omega⟩)) ?_ ?_
  · unfold X0_1 Pipeline.Window.fill
    rw [dif_pos (moved0_1 t _)]
    blk_ext [iblk, idx t]
  · rw [V_x]
    exact packed_at _ 12288 2048 1472 (by decide) _ _ _ ⟨by simp only; omega, by simp only; omega, by simp only; omega⟩

theorem blk_gk (c : Dev nD) (t : Fin cfg0.N) (ht : t.val < 96) (r : Fin 256) (k : Fin 512) :
    iblk m c 2 t (ix2 r k) = (show FVec Ideal S24576x20960 .f32 from m ((c.tc : Thread nD τ).loc main_arg0)) (ix2 ⟨t.val * 256 + r.val, by omega⟩ ⟨3520 + k.val, by omega⟩) := by
  refine Eq.trans (b := V m c main_v40 (ix2 ⟨t.val * 256 + r.val, by omega⟩ ⟨19968 + k.val, by omega⟩)) ?_ ?_
  · blk_ext [iblk, idx t]
  · rw [V_x]
    exact packed_at _ 19968 512 3520 (by decide) _ _ _ ⟨by simp only; omega, by simp only; omega, by simp only; omega⟩

theorem blk_gv (c : Dev nD) (t : Fin cfg0.N) (ht : t.val < 96) (r : Fin 256) (k : Fin 512) :
    iblk m c 3 t (ix2 r k) = (show FVec Ideal S24576x20960 .f32 from m ((c.tc : Thread nD τ).loc main_arg0)) (ix2 ⟨t.val * 256 + r.val, by omega⟩ ⟨4032 + k.val, by omega⟩) := by
  refine Eq.trans (b := V m c main_v40 (ix2 ⟨t.val * 256 + r.val, by omega⟩ ⟨20480 + k.val, by omega⟩)) ?_ ?_
  · blk_ext [iblk, idx t]
  · rw [V_x]
    exact packed_at _ 20480 512 4032 (by decide) _ _ _ ⟨by simp only; omega, by simp only; omega, by simp only; omega⟩

theorem blk_kr (c : Dev nD) (t : Fin cfg0.N) (ht : t.val < 96) (r : Fin 256) (k : Fin 128) :
    iblk m c 4 t (ix2 r k) = packed (m ((c.tc : Thread nD τ).loc main_arg0)) (ix2 ⟨t.val * 256 + r.val, by omega⟩ ⟨20992 + k.val, by omega⟩) := by
  refine Eq.trans (b := V m c main_v40 (ix2 ⟨t.val * 256 + r.val, by omega⟩ ⟨20992 + k.val, by omega⟩)) ?_ (by rw [V_x])
  blk_ext [iblk, idx t]

theorem blk_ca (c : Dev nD) (t : Fin cfg0.N) (ht : t.val < 96) (r : Fin 256) (k : Fin 128) :
    iblk m c 5 t (ix2 r k) = tab (Ideal.ofBits FTy.f32 1065353216#32) (pad S2048x128 ![0, 0] ![0, 64] ![0, 0] (m ((c.tc : Thread nD τ).loc main_arg1)) (constant (F := Ideal) S_ .f32 0x3F800000#32) pads_S2048x64_S2048x128_000_0640 h_S_) ⟨t.val * 256 + r.val, by omega⟩ k := by
  refine Eq.trans (b := V m c main_v6 (ix2 ⟨t.val * 256 + r.val, by omega⟩ k)) ?_ (by rw [V_ca, rowsOf_apply])
  blk_ext [iblk, idx t]

theorem blk_sa (c : Dev nD) (t : Fin cfg0.N) (ht : t.val < 96) (r : Fin 256) (k : Fin 128) :
    iblk m c 6 t (ix2 r k) = tab (Ideal.ofBits FTy.f32 0#32) (pad S2048x128 ![0, 0] ![0, 64] ![0, 0] (m ((c.tc : Thread nD τ).loc main_arg2)) (sitofp (F := Ideal) .f32 (constantI S_ 32 0#32)) pads_S2048x64_S2048x128_000_0640 h_S_) ⟨t.val * 256 + r.val, by omega⟩ k := by
  refine Eq.trans (b := V m c main_v11 (ix2 ⟨t.val * 256 + r.val, by omega⟩ k)) ?_ (by rw [V_sa, rowsOf_apply])
  blk_ext [iblk, idx t]

theorem blk_cb (c : Dev nD) (t : Fin cfg0.N) (ht : t.val < 96) (r : Fin 256) (k : Fin 128) :
    iblk m c 7 t (ix2 r k) = tab (Ideal.ofBits FTy.f32 1065353216#32) (m ((c.tc : Thread nD τ).loc main_arg3)) ⟨t.val * 256 + r.val, by omega⟩ k := by
  refine Eq.trans (b := V m c main_v18 (ix2 ⟨t.val * 256 + r.val, by omega⟩ k)) ?_ (by rw [V_cb, rowsOf_apply])
  blk_ext [iblk, idx t]

theorem blk_sb (c : Dev nD) (t : Fin cfg0.N) (ht : t.val < 96) (r : Fin 256) (k : Fin 128) :
    iblk m c 8 t (ix2 r k) = tab (Ideal.ofBits FTy.f32 0#32) (m ((c.tc : Thread nD τ).loc main_arg4)) ⟨t.val * 256 + r.val, by omega⟩ k := by
  refine Eq.trans (b := V m c main_v23 (ix2 ⟨t.val * 256 + r.val, by omega⟩ k)) ?_ (by rw [V_sb, rowsOf_apply])
  blk_ext [iblk, idx t]

theorem blk_kvn (c : Dev nD) (t : Fin cfg0.N) (k : Fin 512) :
    iblk m c 9 t (ix2 0 k) = (show FVec Ideal S512 .f32 from m ((c.tc : Thread nD τ).loc main_arg5)) (ix1 k) := by
  refine Eq.trans (b := V m c main_v41 (ix2 0 k)) ?_ ?_
  · blk_ext [iblk, idx t]
  · rw [V_kvn]
    pointwise

theorem blk_gqn (c : Dev nD) (t : Fin cfg0.N) (k : Fin 128) :
    iblk m c 10 t (ix2 0 k) = (show FVec Ideal S128 .f32 from m ((c.tc : Thread nD τ).loc main_arg6)) (ix1 k) := by
  refine Eq.trans (b := V m c main_v42 (ix2 0 k)) ?_ ?_
  · blk_ext [iblk, idx t]
  · rw [V_gqn]
    pointwise

theorem blk_gkn (c : Dev nD) (t : Fin cfg0.N) (k : Fin 128) :
    iblk m c 11 t (ix2 0 k) = (show FVec Ideal S128 .f32 from m ((c.tc : Thread nD τ).loc main_arg7)) (ix1 k) := by
  refine Eq.trans (b := V m c main_v43 (ix2 0 k)) ?_ ?_
  · blk_ext [iblk, idx t]
  · rw [V_gkn]
    pointwise

end Cert.Kernel7Ideal.Value

end
-- ==== Proof.PrepOut.lean ====
/-
  The preparation of the attention operands, array by array: what the kernel's call leaves at each result.
-/
module

public import proofs.«01_k».proof.Proof.Prep
public import Idealize.ShloMosaic.Lib.Pipeline.ValueKit

@[expose] public section

set_option maxRecDepth 16384

noncomputable section

namespace Cert.Prep

open Idealize.ShloMosaic

/-- One element of a head normalised by its weights and rotated. -/
def keyRow (x g : Fin 128 → EReal) (l : Fin 128) (c s : EReal) : EReal :=
  rope 128 32 (fun k => nrm x (Ideal.ofBits FTy.f32 1124073472#32) k (g k)) l c s

/-- The latent: its columns of the projection, normalised. -/
def outKv (x0 : FVec Ideal ⟨2, ![24576, 20960]⟩ .f32) (x5 : FVec Ideal ⟨1, ![512]⟩ .f32) (r : Fin 24576) (l : Fin 512) : EReal :=
  nrm (fun k : Fin 512 => x0 (ix2 r ⟨896 + k.val, by omega⟩)) (Ideal.ofBits FTy.f32 1140850688#32) l (x5 (ix1 l))

/-- The values: their columns of the projection. -/
def outV (x0 : FVec Ideal ⟨2, ![24576, 20960]⟩ .f32) (r : Fin 24576) (l : Fin 512) : EReal :=
  x0 (ix2 r ⟨4032 + l.val, by omega⟩)

/-- The normalised keys, head by head. -/
def outKn (x0 : FVec Ideal ⟨2, ![24576, 20960]⟩ .f32) (x7 : FVec Ideal ⟨1, ![128]⟩ .f32) (r : Fin 24576) (l : Fin 512) : EReal :=
  nrm (fun e : Fin 128 => x0 (ix2 r ⟨3520 + (l.val / 128 * 128 + e.val), by omega⟩)) (Ideal.ofBits FTy.f32 1124073472#32) ⟨l.val % 128, by omega⟩
    (x7 (ix1 ⟨l.val % 128, by omega⟩))

/-- The keys, head by head, rotated. -/
def outK (x0 : FVec Ideal ⟨2, ![24576, 20960]⟩ .f32) (x3 x4 : FVec Ideal ⟨2, ![2048, 128]⟩ .f32) (x7 : FVec Ideal ⟨1, ![128]⟩ .f32)
    (r : Fin 24576) (l : Fin 512) : EReal :=
  keyRow (fun e => x0 (ix2 r ⟨3520 + (l.val / 128 * 128 + e.val), by omega⟩)) (fun k => x7 (ix1 k)) ⟨l.val % 128, by omega⟩
    (tab (Ideal.ofBits FTy.f32 1065353216#32) x3 r ⟨l.val % 128, by omega⟩) (tab (Ideal.ofBits FTy.f32 0#32) x4 r ⟨l.val % 128, by omega⟩)

/-- The queries, head by head, scaled. -/
def outQ (x0 : FVec Ideal ⟨2, ![24576, 20960]⟩ .f32) (x3 x4 : FVec Ideal ⟨2, ![2048, 128]⟩ .f32) (x6 : FVec Ideal ⟨1, ![128]⟩ .f32)
    (r : Fin 24576) (l : Fin 2048) : EReal :=
  keyRow (fun e => x0 (ix2 r ⟨1472 + (l.val / 128 * 128 + e.val), by omega⟩)) (fun k => x6 (ix1 k)) ⟨l.val % 128, by omega⟩
    (tab (Ideal.ofBits FTy.f32 1065353216#32) x3 r ⟨l.val % 128, by omega⟩) (tab (Ideal.ofBits FTy.f32 0#32) x4 r ⟨l.val % 128, by omega⟩)
    * Ideal.ofBits FTy.f32 1035273459#32

/-- The latent's rotary key. -/
def outKr (x0 : FVec Ideal ⟨2, ![24576, 20960]⟩ .f32) (x1 x2 : FVec Ideal ⟨2, ![2048, 64]⟩ .f32) (r : Fin 24576) (l : Fin 64) : EReal :=
  rope 64 16 (fun k => x0 (ix2 r ⟨1408 + k.val, by omega⟩)) l (tab (Ideal.ofBits FTy.f32 1065353216#32) x1 r l) (tab (Ideal.ofBits FTy.f32 0#32) x2 r l)

end Cert.Prep

namespace Cert.Kernel7Ideal.Value

open Idealize.ShloMosaic Idealize.SL.Sem Cert.Kernel7Ideal.Gen Cert.Prep

theorem pay3 (x : Vec Ideal S256x128 .f32) (r : Fin 256) (l : Fin 128) : k0_pay3 (F := Ideal) x (ix2 r l) = x (ix2 r l) := by pointwise [k0_pay3]

theorem pay4 (x : Vec Ideal S256x128 .f32) (r : Fin 256) (l : Fin 128) : k0_pay4 (F := Ideal) x (ix2 r l) = x (ix2 r l) := by pointwise [k0_pay4]

theorem pay5 (x : Vec Ideal S256x128 .f32) (r : Fin 256) (l : Fin 128) : k0_pay5 (F := Ideal) x (ix2 r l) = x (ix2 r l) := by pointwise [k0_pay5]

theorem pay8 (x : Vec Ideal S256x128 .f32) (r : Fin 256) (l : Fin 128) : k0_pay8 (F := Ideal) x (ix2 r l) = x (ix2 r l) := by pointwise [k0_pay8]

theorem pay11 (x : Vec Ideal S1x128 .f32) (l : Fin 128) : k0_pay11 (F := Ideal) x (ix2 0 l) = x (ix2 0 l) := by pointwise [k0_pay11]

theorem pay12 (x : Vec Ideal S1x128 .f32) (l : Fin 128) : k0_pay12 (F := Ideal) x (ix2 0 l) = x (ix2 0 l) := by pointwise [k0_pay12]

theorem pay2 (x : Vec Ideal S256x512 .f32) (r : Fin 256) (l : Fin 512) : k0_pay2 (F := Ideal) x (ix2 r l) = x (ix2 r l) := by pointwise [k0_pay2]

theorem pay7 (x : Vec Ideal S256x512 .f32) (g : Vec Ideal S1x512 .f32) (r : Fin 256) (l : Fin 512) :
    k0_pay7 (F := Ideal) x g (ix2 r l) = k0_pay6 (F := Ideal) x g (ix2 r l) := by pointwise [k0_pay7]

theorem ld_head {n : ℕ} (x : Vec Ideal ⟨2, ![256, n]⟩ .f32) (o : ℕ) (ho : o + 128 ≤ n)
    (inb : ∀ a, (![0, o] : Fin 2 → Nat) a + S256x128.size a ≤ (⟨2, ![256, n]⟩ : Shape).size a) (r : Fin 256) (e : Fin 128) :
    View.ld x (Rect.unit ![0, o] S256x128.size inb) (ix2 r e) = x (ix2 r ⟨o + e.val, by omega⟩) := by
  pointwise
  exact congrArg x ((Shape.Idx.norm2 _).trans (congrArg₂ ix2 (Fin.ext (Nat.zero_add r.val)) rfl))

/-! Each head is computed as the first one is, its operations grouped differently. -/

section

variable (c s : FVec Ideal S256x128 .f32) (g : FVec Ideal S1x128 .f32) (x : Vec Ideal S256x128 .f32)

theorem q_14 : k0_pay14 (F := Ideal) c s g (k0_pay13 x) = queryHead c s g x := rfl

theorem q_18 : k0_pay18 (F := Ideal) c s g (k0_pay15 x) (k0_pay16 x) k0_pay17 = queryHead c s g x := rfl

theorem q_21 : k0_pay21 (F := Ideal) c s g (k0_pay19 x) (k0_pay20 x) (FloatOps.ofBits FTy.f32 1124073472#32) = queryHead c s g x := rfl

theorem q_24 : k0_pay24 (F := Ideal) c s g (k0_pay22 x) (k0_pay23 x) = queryHead c s g x := rfl

theorem q_27 : k0_pay27 (F := Ideal) (k0_pay26 c s g x) (FloatOps.ofBits FTy.f32 1035273459#32) = queryHead c s g x := rfl

theorem q_33 : k0_pay33 (F := Ideal) s (k0_pay29 c g x) k0_pay30 (k0_pay31 g x) (k0_pay32 g x) = queryHead c s g x := rfl

theorem q_38 : k0_pay38 (F := Ideal) s (k0_pay34 g x) (k0_pay35 c g x) k0_pay36 (k0_pay37 g x) (FloatOps.ofBits FTy.f32 0#32) = queryHead c s g x := rfl

theorem q_43 : k0_pay43 (F := Ideal) s (k0_pay39 g x) (k0_pay40 c g x) k0_pay41 k0_pay42 = queryHead c s g x := rfl

theorem q_49 : k0_pay49 (F := Ideal) s (k0_pay44 g x) (k0_pay45 c g x) k0_pay46 k0_pay47 k0_pay48 = queryHead c s g x := rfl

theorem q_56 : k0_pay56 (F := Ideal) s (k0_pay50 g x) (k0_pay51 c g x) 64#32 k0_pay52 k0_pay53 k0_pay54 k0_pay55 = queryHead c s g x := rfl

theorem q_62 : k0_pay62 (F := Ideal) s (k0_pay57 g x) (k0_pay58 c g x) 64#32 k0_pay59 k0_pay60 k0_pay61 = queryHead c s g x := rfl

theorem q_66 : k0_pay66 (F := Ideal) s (k0_pay63 g x) (k0_pay64 c g x) 64#32 k0_pay65 0#32 = queryHead c s g x := rfl

theorem q_69 : k0_pay69 (F := Ideal) s (k0_pay67 g x) (k0_pay68 c g x) (iota Kind.tc S256x128 32 [1] iota_S256x128_d1_w32) 64#32 0#1 1#32 = queryHead c s g x := rfl

theorem q_72 : k0_pay72 (F := Ideal) s (k0_pay70 g x) (k0_pay71 c g x) (iota Kind.tc S256x128 32 [1] iota_S256x128_d1_w32) = queryHead c s g x := rfl

theorem q_74 : k0_pay74 (F := Ideal) c s g (k0_pay73 x) = queryHead c s g x := rfl

theorem k_79 : k0_pay79 (F := Ideal) c s g (k0_pay75 x) (k0_pay76 x) k0_pay77 = keyHead c s g x := rfl

theorem k_83 : k0_pay83 (F := Ideal) c s g (k0_pay80 x) (k0_pay81 x) = keyHead c s g x := rfl

theorem k_85 : k0_pay85 (F := Ideal) c s g x = keyHead c s g x := rfl

theorem k_1 : k0_pay1 (F := Ideal) s (k0_pay87 c g x) (k0_pay88 g x) = keyHead c s g x := rfl

theorem n_78 : k0_pay78 (F := Ideal) g (k0_pay75 x) (k0_pay76 x) k0_pay77 = k0_pay84 (F := Ideal) g x := rfl

theorem n_82 : k0_pay82 (F := Ideal) g (k0_pay80 x) (k0_pay81 x) = k0_pay84 (F := Ideal) g x := rfl

theorem n_86 : k0_pay86 (F := Ideal) g x = k0_pay84 (F := Ideal) g x := rfl

end

variable (m : (ℓ : Loc nD τ sig) → Buf (Elt Ideal) ℓ)

theorem core_q (c : Dev nD) (t : Fin cfg0.N) (ht : t.val < 96) (o : ℕ) (ho : o % 128 = 0) (hn : o + 128 ≤ 2048)
    (inb : ∀ a, (![0, o] : Fin 2 → Nat) a + S256x128.size a ≤ S256x2048.size a) (r : Fin 256) (d : Fin 128) (R : Fin 24576) (L : Fin 2048)
    (hR : R.val = t.val * 256 + r.val) (hL : L.val = o + d.val) :
    queryHead (k0_pay4 (F := Ideal) (iblk m c 7 t)) (k0_pay5 (F := Ideal) (iblk m c 8 t)) (k0_pay11 (F := Ideal) (iblk m c 10 t))
      (View.ld (X0_1 m c t) (Rect.unit ![0, o] S256x128.size inb)) (ix2 r d)
      = outQ (m ((c.tc : Thread nD τ).loc main_arg0)) (m ((c.tc : Thread nD τ).loc main_arg3)) (m ((c.tc : Thread nD τ).loc main_arg4)) (m ((c.tc : Thread nD τ).loc main_arg6)) R L := by
  have hr : (⟨t.val * 256 + r.val, by omega⟩ : Fin 24576) = R := Fin.ext hR.symm
  have hd : (⟨L.val % 128, by omega⟩ : Fin 128) = d := Fin.ext (by simp only; omega)
  have he : L.val / 128 * 128 = o := by omega
  unfold outQ keyRow
  rw [queryHead_apply, keyHead_apply, pay4, pay5, blk_cb m c t ht, blk_sb m c t ht, hr, hd]
  simp only [pay11, blk_gqn, he]
  refine congrArg (· * _) (congrArg (rope 128 32 · d _ _) (funext fun k => congrArg (nrm · _ k _) (funext fun e => ?_)))
  rw [ld_head (n := 2048) _ o hn, blk_gq m c t ht, hr]

theorem core_k (c : Dev nD) (t : Fin cfg0.N) (ht : t.val < 96) (o : ℕ) (ho : o % 128 = 0) (hn : o + 128 ≤ 512)
    (inb : ∀ a, (![0, o] : Fin 2 → Nat) a + S256x128.size a ≤ S256x512.size a) (r : Fin 256) (d : Fin 128) (R : Fin 24576) (L : Fin 512)
    (hR : R.val = t.val * 256 + r.val) (hL : L.val = o + d.val) :
    keyHead (k0_pay4 (F := Ideal) (iblk m c 7 t)) (k0_pay5 (F := Ideal) (iblk m c 8 t)) (k0_pay12 (F := Ideal) (iblk m c 11 t))
      (View.ld (iblk m c 2 t) (Rect.unit ![0, o] S256x128.size inb)) (ix2 r d)
      = outK (m ((c.tc : Thread nD τ).loc main_arg0)) (m ((c.tc : Thread nD τ).loc main_arg3)) (m ((c.tc : Thread nD τ).loc main_arg4)) (m ((c.tc : Thread nD τ).loc main_arg7)) R L := by
  have hr : (⟨t.val * 256 + r.val, by omega⟩ : Fin 24576) = R := Fin.ext hR.symm
  have hd : (⟨L.val % 128, by omega⟩ : Fin 128) = d := Fin.ext (by simp only; omega)
  have he : L.val / 128 * 128 = o := by omega
  unfold outK keyRow
  rw [keyHead_apply, pay4, pay5, blk_cb m c t ht, blk_sb m c t ht, hr, hd]
  simp only [pay12, blk_gkn, he]
  refine congrArg (rope 128 32 · d _ _) (funext fun k => congrArg (nrm · _ k _) (funext fun e => ?_))
  rw [ld_head (n := 512) _ o hn, blk_gk m c t ht, hr]

theorem core_kn (c : Dev nD) (t : Fin cfg0.N) (ht : t.val < 96) (o : ℕ) (ho : o % 128 = 0) (hn : o + 128 ≤ 512)
    (inb : ∀ a, (![0, o] : Fin 2 → Nat) a + S256x128.size a ≤ S256x512.size a) (r : Fin 256) (d : Fin 128) (R : Fin 24576) (L : Fin 512)
    (hR : R.val = t.val * 256 + r.val) (hL : L.val = o + d.val) :
    k0_pay84 (F := Ideal) (k0_pay12 (F := Ideal) (iblk m c 11 t)) (View.ld (iblk m c 2 t) (Rect.unit ![0, o] S256x128.size inb)) (ix2 r d)
      = outKn (m ((c.tc : Thread nD τ).loc main_arg0)) (m ((c.tc : Thread nD τ).loc main_arg7)) R L := by
  have hr : (⟨t.val * 256 + r.val, by omega⟩ : Fin 24576) = R := Fin.ext hR.symm
  have hd : (⟨L.val % 128, by omega⟩ : Fin 128) = d := Fin.ext (by simp only; omega)
  have he : L.val / 128 * 128 = o := by omega
  unfold outKn
  rw [pay_k, pay12, blk_gkn, hd]
  simp only [he]
  refine congrArg (nrm · _ d _) (funext fun e => ?_)
  rw [ld_head (n := 512) _ o hn, blk_gk m c t ht, hr]

theorem core_kv (c : Dev nD) (t : Fin cfg0.N) (ht : t.val < 96) (r : Fin 256) (l : Fin 512) (R : Fin 24576) (L : Fin 512)
    (hR : R.val = t.val * 256 + r.val) (hL : L.val = l.val) :
    k0_pay6 (F := Ideal) (iblk m c 0 t) (iblk m c 9 t) (ix2 r l) = outKv (m ((c.tc : Thread nD τ).loc main_arg0)) (m ((c.tc : Thread nD τ).loc main_arg5)) R L := by
  have hr : (⟨t.val * 256 + r.val, by omega⟩ : Fin 24576) = R := Fin.ext hR.symm
  obtain rfl : L = l := Fin.ext hL
  rw [pay_kv, blk_kvn]
  simp only [blk_kv m c t ht, hr]
  rfl

theorem core_kv16 (c : Dev nD) (t : Fin cfg0.N) (ht : t.val < 96) (r : Fin 256) (l : Fin 512) (R : Fin 24576) (L : Fin 512)
    (hR : R.val = t.val * 256 + r.val) (hL : L.val = l.val) :
    k0_pay7 (F := Ideal) (iblk m c 0 t) (iblk m c 9 t) (ix2 r l) = outKv (m ((c.tc : Thread nD τ).loc main_arg0)) (m ((c.tc : Thread nD τ).loc main_arg5)) R L :=
  (pay7 _ _ r l).trans (core_kv m c t ht r l R L hR hL)

theorem core_v (c : Dev nD) (t : Fin cfg0.N) (ht : t.val < 96) (r : Fin 256) (l : Fin 512) (R : Fin 24576) (L : Fin 512)
    (hR : R.val = t.val * 256 + r.val) (hL : L.val = l.val) :
    k0_pay2 (F := Ideal) (iblk m c 3 t) (ix2 r l) = outV (m ((c.tc : Thread nD τ).loc main_arg0)) R L := by
  have hr : (⟨t.val * 256 + r.val, by omega⟩ : Fin 24576) = R := Fin.ext hR.symm
  obtain rfl : L = l := Fin.ext hL
  rw [pay2, blk_gv m c t ht, hr]
  rfl

theorem final_12 (c : Dev nD) : (dats m 0 c).arrAt 12 cfg0.N = fun i => outKv (m ((c.tc : Thread nD τ).loc main_arg0)) (m ((c.tc : Thread nD τ).loc main_arg5)) (i 0) (i 1) := by
  refine (dats m 0 c).arrAt_eq_of_covers 12 _ (by decide +kernel) fun t hf y => ?_
  blk_simp
  rw [after0_12]
  have ht : t.val < 96 := lt_of_lt_of_eq t.isLt N_0
  unfold Gen.outsAt0
  dsimp only
  frame_out
  obtain ⟨r, l, rfl⟩ : ∃ r l, y = ix2 r l := ⟨y 0, y 1, eq_ix2 y⟩
  refine core_kv m c t ht r l _ _ ?_ ?_
  · blk_simp [idx t]
  · blk_simp [idx t]

theorem final_13 (c : Dev nD) : (dats m 0 c).arrAt 13 cfg0.N = fun i => outKv (m ((c.tc : Thread nD τ).loc main_arg0)) (m ((c.tc : Thread nD τ).loc main_arg5)) (i 0) (i 1) := by
  refine (dats m 0 c).arrAt_eq_of_covers 13 _ (by decide +kernel) fun t hf y => ?_
  blk_simp
  rw [after0_13]
  have ht : t.val < 96 := lt_of_lt_of_eq t.isLt N_0
  unfold Gen.outsAt0
  dsimp only
  frame_out
  obtain ⟨r, l, rfl⟩ : ∃ r l, y = ix2 r l := ⟨y 0, y 1, eq_ix2 y⟩
  refine core_kv16 m c t ht r l _ _ ?_ ?_
  · blk_simp [idx t]
  · blk_simp [idx t]

theorem final_18 (c : Dev nD) : (dats m 0 c).arrAt 18 cfg0.N = fun i => outV (m ((c.tc : Thread nD τ).loc main_arg0)) (i 0) (i 1) := by
  refine (dats m 0 c).arrAt_eq_of_covers 18 _ (by decide +kernel) fun t hf y => ?_
  blk_simp
  rw [after0_18]
  have ht : t.val < 96 := lt_of_lt_of_eq t.isLt N_0
  unfold Gen.outsAt0
  dsimp only
  frame_out
  obtain ⟨r, l, rfl⟩ : ∃ r l, y = ix2 r l := ⟨y 0, y 1, eq_ix2 y⟩
  refine core_v m c t ht r l _ _ ?_ ?_
  · blk_simp [idx t]
  · blk_simp [idx t]

set_option maxHeartbeats 2000000 in
theorem final_15 (c : Dev nD) : (dats m 0 c).arrAt 15 cfg0.N = fun i => outQ (m ((c.tc : Thread nD τ).loc main_arg0)) (m ((c.tc : Thread nD τ).loc main_arg3)) (m ((c.tc : Thread nD τ).loc main_arg4)) (m ((c.tc : Thread nD τ).loc main_arg6)) (i 0) (i 1) := by
  refine (dats m 0 c).arrAt_eq_of_covers 15 _ (by decide +kernel) fun t hf y => ?_
  blk_simp
  rw [after0_15]
  have ht : t.val < 96 := lt_of_lt_of_eq t.isLt N_0
  unfold Gen.outsAt0
  dsimp only
  frame_out
  canon_tiles y h
  all_goals obtain ⟨r, d, rfl⟩ : ∃ r d, y = ix2 r d := ⟨y 0, y 1, eq_ix2 y⟩
  all_goals first | rw [q_21] | rw [q_27] | rw [q_38] | simp only [q_14, q_18, q_21, q_24, q_27, q_33, q_38, q_43, q_49, q_56, q_62, q_66, q_69, q_72, q_74, q_25] | refine (congrFun (q_72 _ _ _ _) _).trans ?_ | refine (congrFun (q_69 _ _ _ _) _).trans ?_
  all_goals
    have e0 : ((ix2 r d : (⟨2, ![256, 128]⟩ : Shape).Idx) 0).val = r.val := rfl
    have e1 : ((ix2 r d : (⟨2, ![256, 128]⟩ : Shape).Idx) 1).val = d.val := rfl
    rw [e0] at h0
    rw [e1] at h1
    exact core_q m c t ht _ (by decide) (by decide) _ r d _ _ (by blk_simp [idx t]; omega) (by blk_simp [idx t]; omega)

set_option maxHeartbeats 2000000 in
theorem final_16 (c : Dev nD) : (dats m 0 c).arrAt 16 cfg0.N = fun i => outKn (m ((c.tc : Thread nD τ).loc main_arg0)) (m ((c.tc : Thread nD τ).loc main_arg7)) (i 0) (i 1) := by
  refine (dats m 0 c).arrAt_eq_of_covers 16 _ (by decide +kernel) fun t hf y => ?_
  blk_simp
  rw [after0_16]
  have ht : t.val < 96 := lt_of_lt_of_eq t.isLt N_0
  unfold Gen.outsAt0
  dsimp only
  frame_out
  canon_tiles y h
  all_goals obtain ⟨r, d, rfl⟩ : ∃ r d, y = ix2 r d := ⟨y 0, y 1, eq_ix2 y⟩
  all_goals try simp only [n_78, n_82, n_86]
  all_goals
    have e0 : ((ix2 r d : (⟨2, ![256, 128]⟩ : Shape).Idx) 0).val = r.val := rfl
    have e1 : ((ix2 r d : (⟨2, ![256, 128]⟩ : Shape).Idx) 1).val = d.val := rfl
    rw [e0] at h0
    rw [e1] at h1
    exact core_kn m c t ht _ (by decide) (by decide) _ r d _ _ (by blk_simp [idx t]; omega) (by blk_simp [idx t]; omega)

set_option maxHeartbeats 2000000 in
theorem final_17 (c : Dev nD) : (dats m 0 c).arrAt 17 cfg0.N = fun i => outK (m ((c.tc : Thread nD τ).loc main_arg0)) (m ((c.tc : Thread nD τ).loc main_arg3)) (m ((c.tc : Thread nD τ).loc main_arg4)) (m ((c.tc : Thread nD τ).loc main_arg7)) (i 0) (i 1) := by
  refine (dats m 0 c).arrAt_eq_of_covers 17 _ (by decide +kernel) fun t hf y => ?_
  blk_simp
  rw [after0_17]
  have ht : t.val < 96 := lt_of_lt_of_eq t.isLt N_0
  unfold Gen.outsAt0
  dsimp only
  frame_out
  canon_tiles y h
  all_goals obtain ⟨r, d, rfl⟩ : ∃ r d, y = ix2 r d := ⟨y 0, y 1, eq_ix2 y⟩
  all_goals simp only [k_79, k_83, k_85, k_1]
  all_goals
    have e0 : ((ix2 r d : (⟨2, ![256, 128]⟩ : Shape).Idx) 0).val = r.val := rfl
    have e1 : ((ix2 r d : (⟨2, ![256, 128]⟩ : Shape).Idx) 1).val = d.val := rfl
    rw [e0] at h0
    rw [e1] at h1
    exact core_k m c t ht _ (by decide) (by decide) _ r d _ _ (by blk_simp [idx t]; omega) (by blk_simp [idx t]; omega)

end Cert.Kernel7Ideal.Value

end
-- ==== Proof.PrepRef.lean ====
/-
  The preparation of the attention operands as the reference computes it: the same arrays, read at an element.
-/
module

public import proofs.«01_k».proof.Proof.PrepOut

@[expose] public section

set_option maxRecDepth 16384

noncomputable section

namespace Cert.Reference7Ideal.Read

open Idealize.ShloMosaic Idealize.SL.Sem Cert.Reference7Ideal.Gen Cert.Prep

/-- The parts of a row of 128 put together negated and exchanged: the row turned. -/
theorem turn_128 (y : Fin 128 → EReal) (l : Fin 128) :
    (if h : l.val < 32 then -y ⟨32 + l.val, by omega⟩
      else if h : l.val - 32 < 32 then y ⟨l.val - 32, by omega⟩
      else if h : l.val - 32 - 32 < 32 then -y ⟨96 + (l.val - 32 - 32), by omega⟩
      else y ⟨64 + (l.val - 32 - 32 - 32), by omega⟩) = turn 128 32 y l := by
  unfold turn
  have e : ∀ a b : Fin 128, a.val = b.val → y a = y b := fun a b h => congrArg y (Fin.ext h)
  by_cases h1 : l.val < 32
  · rw [dif_pos h1, if_pos (by omega)]
    exact congrArg Neg.neg (e _ _ (by simp only; omega))
  · rw [dif_neg h1]
    by_cases h2 : l.val - 32 < 32
    · rw [dif_pos h2, if_neg (by omega)]
      exact e _ _ (by simp only; omega)
    · rw [dif_neg h2]
      by_cases h3 : l.val - 32 - 32 < 32
      · rw [dif_pos h3, if_pos (by omega)]
        exact congrArg Neg.neg (e _ _ (by simp only; omega))
      · rw [dif_neg h3, if_neg (by omega)]
        exact e _ _ (by simp only; omega)

/-- The parts of a row of 64 put together negated and exchanged: the row turned. -/
theorem turn_64 (y : Fin 64 → EReal) (l : Fin 64) :
    (if h : l.val < 16 then -y ⟨16 + l.val, by omega⟩
      else if h : l.val - 16 < 16 then y ⟨l.val - 16, by omega⟩
      else if h : l.val - 16 - 16 < 16 then -y ⟨48 + (l.val - 16 - 16), by omega⟩
      else y ⟨32 + (l.val - 16 - 16 - 16), by omega⟩) = turn 64 16 y l := by
  unfold turn
  have e : ∀ a b : Fin 64, a.val = b.val → y a = y b := fun a b h => congrArg y (Fin.ext h)
  by_cases h1 : l.val < 16
  · rw [dif_pos h1, if_pos (by omega)]
    exact congrArg Neg.neg (e _ _ (by simp only; omega))
  · rw [dif_neg h1]
    by_cases h2 : l.val - 16 < 16
    · rw [dif_pos h2, if_neg (by omega)]
      exact e _ _ (by simp only; omega)
    · rw [dif_neg h2]
      by_cases h3 : l.val - 16 - 16 < 16
      · rw [dif_pos h3, if_pos (by omega)]
        exact congrArg Neg.neg (e _ _ (by simp only; omega))
      · rw [dif_neg h3, if_neg (by omega)]
        exact e _ _ (by simp only; omega)

/-- On the prompt's rows the tables are one and zero, and the rotation leaves the row. -/
theorem rope_tab {n d : ℕ} (y : Fin d → EReal) (l : Fin d) (r : Fin 24576) (c s : FVec Ideal ⟨2, ![2048, d]⟩ .f32) :
    (if r.val < 8192 then y l else rope d n y l (c (ix2 ⟨(r.val - 8192) % 2048, by omega⟩ l)) (s (ix2 ⟨(r.val - 8192) % 2048, by omega⟩ l)))
      = rope d n y l (tab (Ideal.ofBits FTy.f32 1065353216#32) c r l) (tab (Ideal.ofBits FTy.f32 0#32) s r l) := by
  unfold tab
  by_cases h : r.val < 8192
  · simp only [if_pos h]
    unfold rope
    rw [show Ideal.ofBits FTy.f32 1065353216#32 = 1 from Ideal.ofBits_one_f32, show Ideal.ofBits FTy.f32 0#32 = 0 from Ideal.ofBits_zero_f32, mul_one, mul_zero, add_zero]
  · simp only [if_neg h]

variable (x0 : FVec Ideal S24576x20960 .f32) (x1 x2 : FVec Ideal S2048x64 .f32) (x3 x4 : FVec Ideal S2048x128 .f32)
  (x5 : FVec Ideal S512 .f32) (x6 x7 : FVec Ideal S128 .f32)

theorem v_kv (r : Fin 24576) (l : Fin 512) : val_main_v19 (F := Ideal) x0 x5 (ix2 r l) = outKv x0 x5 r l := by
  pointwise [val_main_v19, val_main_v18, val_main_v17, val_main_v16, val_main_v15, val_main_v14, val_main_v13, val_main_v12, val_main_v11, val_main_v10,
    val_main_v9, val_main_v8, val_main_v7, val_main_v1, val_main_cst, val_main_cst_0, val_main_cst_1, outKv, nrm]

theorem v_v (r : Fin 24576) (l : Fin 512) : val_main_v118 (F := Ideal) x0 (ix2 r l) = outV x0 r l := by
  pointwise [val_main_v118, val_main_v5, outV]

theorem v39_at (r : Fin 24576) (h : Fin 16) (l : Fin 128) : val_main_v39 (F := Ideal) x0 (ix3 r h l) = x0 (ix2 r ⟨1472 + (h.val * 128 + l.val), by omega⟩) := by
  pointwise [val_main_v39, val_main_v3]

theorem v52_at (r : Fin 24576) (h : Fin 16) (l : Fin 128) : val_main_v52 (F := Ideal) x0 x6 (ix3 r h l)
    = nrm (fun e => val_main_v39 (F := Ideal) x0 (ix3 r h e)) (Ideal.ofBits FTy.f32 1124073472#32) l (x6 (ix1 l)) := by
  unfold val_main_v52 val_main_v51 val_main_v50 val_main_v49 val_main_v48 val_main_v47 val_main_v46 val_main_v45 val_main_v44 val_main_v43 val_main_v42 val_main_v41 val_main_v40
  generalize val_main_v39 (F := Ideal) x0 = y
  pointwise [val_main_cst_2, val_main_cst_3, val_main_cst_4, nrm]

theorem v70_at (b : Fin 8) (s : Fin 2048) (h : Fin 16) (l : Fin 128) : val_main_v70 (F := Ideal) x0 x6 (ix4 b s h l)
    = val_main_v52 (F := Ideal) x0 x6 (ix3 ⟨8192 + (b.val * 2048 + s.val), by omega⟩ h l) := by
  unfold val_main_v70 val_main_v69
  generalize val_main_v52 (F := Ideal) x0 x6 = y
  pointwise

theorem v85_at (b : Fin 8) (s : Fin 2048) (h : Fin 16) (l : Fin 128) : val_main_v85 (F := Ideal) x0 x3 x4 x6 (ix4 b s h l)
    = rope 128 32 (fun k => val_main_v70 (F := Ideal) x0 x6 (ix4 b s h k)) l (x3 (ix2 s l)) (x4 (ix2 s l)) := by
  unfold val_main_v85 val_main_v84 val_main_v83 val_main_v82 val_main_v81 val_main_v80 val_main_v79 val_main_v78 val_main_v77 val_main_v76 val_main_v75 val_main_v74 val_main_v73 val_main_v72
  generalize val_main_v70 (F := Ideal) x0 x6 = y
  pointwise [val_main_v67, val_main_v68, rope]
  exact congrArg (_ + · * _) (turn_128 (fun k => y (ix4 b s h k)) l)

theorem v87_at (r : Fin 24576) (h : Fin 16) (l : Fin 128) : val_main_v87 (F := Ideal) x0 x3 x4 x6 (ix3 r h l)
    = if r.val < 8192 then val_main_v52 (F := Ideal) x0 x6 (ix3 r h l)
      else val_main_v85 (F := Ideal) x0 x3 x4 x6 (ix4 ⟨(r.val - 8192) / 2048, by omega⟩ ⟨(r.val - 8192) % 2048, by omega⟩ h l) := by
  unfold val_main_v87 val_main_v86 val_main_v71
  generalize val_main_v85 (F := Ideal) x0 x3 x4 x6 = z
  generalize val_main_v52 (F := Ideal) x0 x6 = y
  pointwise
  by_cases hr : r.val < 8192
  · rw [dif_pos hr, if_pos hr]
  · rw [dif_neg hr, if_neg hr]

theorem v114_at (r : Fin 24576) (l : Fin 2048) : val_main_v114 (F := Ideal) x0 x3 x4 x6 (ix2 r l)
    = val_main_v87 (F := Ideal) x0 x3 x4 x6 (ix3 r ⟨l.val / 128, by omega⟩ ⟨l.val % 128, by omega⟩) * Ideal.ofBits FTy.f32 1035273459#32 := by
  unfold val_main_v114 val_main_v113 val_main_v112 val_main_v111
  generalize val_main_v87 (F := Ideal) x0 x3 x4 x6 = y
  pointwise [val_main_cst_8]

theorem v_q (r : Fin 24576) (l : Fin 2048) : val_main_v114 (F := Ideal) x0 x3 x4 x6 (ix2 r l) = outQ x0 x3 x4 x6 r l := by
  have e : (fun k => val_main_v52 (F := Ideal) x0 x6 (ix3 r ⟨l.val / 128, by omega⟩ k))
      = fun k => nrm (fun e => x0 (ix2 r ⟨1472 + (l.val / 128 * 128 + e.val), by omega⟩)) (Ideal.ofBits FTy.f32 1124073472#32) k (x6 (ix1 k)) :=
    funext fun k => (v52_at x0 x6 r _ k).trans (congrArg (nrm · _ k _) (funext fun e => v39_at x0 r _ e))
  unfold outQ keyRow
  rw [v114_at, v87_at, v85_at]
  simp only [v70_at]
  rw [← e, ← rope_tab]
  by_cases h : r.val < 8192
  · rw [if_pos h, if_pos h]
  · have hr : ∀ k, (⟨8192 + ((r.val - 8192) / 2048 * 2048 + (r.val - 8192) % 2048), k⟩ : Fin 24576) = r := fun k => Fin.ext (by simp only; omega)
    rw [if_neg h, if_neg h]
    simp only [hr]

theorem v53_at (r : Fin 24576) (h : Fin 4) (l : Fin 128) : val_main_v53 (F := Ideal) x0 (ix3 r h l) = x0 (ix2 r ⟨3520 + (h.val * 128 + l.val), by omega⟩) := by
  pointwise [val_main_v53, val_main_v4]

theorem v66_at (r : Fin 24576) (h : Fin 4) (l : Fin 128) : val_main_v66 (F := Ideal) x0 x7 (ix3 r h l)
    = nrm (fun e => val_main_v53 (F := Ideal) x0 (ix3 r h e)) (Ideal.ofBits FTy.f32 1124073472#32) l (x7 (ix1 l)) := by
  unfold val_main_v66 val_main_v65 val_main_v64 val_main_v63 val_main_v62 val_main_v61 val_main_v60 val_main_v59 val_main_v58 val_main_v57 val_main_v56 val_main_v55 val_main_v54
  generalize val_main_v53 (F := Ideal) x0 = y
  pointwise [val_main_cst_5, val_main_cst_6, val_main_cst_7, nrm]

theorem v91_at (b : Fin 8) (s : Fin 2048) (h : Fin 4) (l : Fin 128) : val_main_v91 (F := Ideal) x0 x7 (ix4 b s h l)
    = val_main_v66 (F := Ideal) x0 x7 (ix3 ⟨8192 + (b.val * 2048 + s.val), by omega⟩ h l) := by
  unfold val_main_v91 val_main_v90
  generalize val_main_v66 (F := Ideal) x0 x7 = y
  pointwise

theorem v106_at (b : Fin 8) (s : Fin 2048) (h : Fin 4) (l : Fin 128) : val_main_v106 (F := Ideal) x0 x3 x4 x7 (ix4 b s h l)
    = rope 128 32 (fun k => val_main_v91 (F := Ideal) x0 x7 (ix4 b s h k)) l (x3 (ix2 s l)) (x4 (ix2 s l)) := by
  unfold val_main_v106 val_main_v105 val_main_v104 val_main_v103 val_main_v102 val_main_v101 val_main_v100 val_main_v99 val_main_v98 val_main_v97 val_main_v96 val_main_v95 val_main_v94 val_main_v93
  generalize val_main_v91 (F := Ideal) x0 x7 = y
  pointwise [val_main_v88, val_main_v89, rope]
  exact congrArg (_ + · * _) (turn_128 (fun k => y (ix4 b s h k)) l)

theorem v108_at (r : Fin 24576) (h : Fin 4) (l : Fin 128) : val_main_v108 (F := Ideal) x0 x3 x4 x7 (ix3 r h l)
    = if r.val < 8192 then val_main_v66 (F := Ideal) x0 x7 (ix3 r h l)
      else val_main_v106 (F := Ideal) x0 x3 x4 x7 (ix4 ⟨(r.val - 8192) / 2048, by omega⟩ ⟨(r.val - 8192) % 2048, by omega⟩ h l) := by
  unfold val_main_v108 val_main_v107 val_main_v92
  generalize val_main_v106 (F := Ideal) x0 x3 x4 x7 = z
  generalize val_main_v66 (F := Ideal) x0 x7 = y
  pointwise
  by_cases hr : r.val < 8192
  · rw [dif_pos hr, if_pos hr]
  · rw [dif_neg hr, if_neg hr]

theorem v117_at (r : Fin 24576) (l : Fin 512) : val_main_v117 (F := Ideal) x0 x3 x4 x7 (ix2 r l)
    = val_main_v108 (F := Ideal) x0 x3 x4 x7 (ix3 r ⟨l.val / 128, by omega⟩ ⟨l.val % 128, by omega⟩) := by
  unfold val_main_v117 val_main_v116
  generalize val_main_v108 (F := Ideal) x0 x3 x4 x7 = y
  pointwise

theorem v_k (r : Fin 24576) (l : Fin 512) : val_main_v117 (F := Ideal) x0 x3 x4 x7 (ix2 r l) = outK x0 x3 x4 x7 r l := by
  have e : (fun k => val_main_v66 (F := Ideal) x0 x7 (ix3 r ⟨l.val / 128, by omega⟩ k))
      = fun k => nrm (fun e => x0 (ix2 r ⟨3520 + (l.val / 128 * 128 + e.val), by omega⟩)) (Ideal.ofBits FTy.f32 1124073472#32) k (x7 (ix1 k)) :=
    funext fun k => (v66_at x0 x7 r _ k).trans (congrArg (nrm · _ k _) (funext fun e => v53_at x0 r _ e))
  unfold outK keyRow
  rw [v117_at, v108_at, v106_at]
  simp only [v91_at]
  rw [← e, ← rope_tab]
  by_cases h : r.val < 8192
  · rw [if_pos h, if_pos h]
  · have hr : ∀ k, (⟨8192 + ((r.val - 8192) / 2048 * 2048 + (r.val - 8192) % 2048), k⟩ : Fin 24576) = r := fun k => Fin.ext (by simp only; omega)
    rw [if_neg h, if_neg h]
    simp only [hr]

theorem v_kn (r : Fin 24576) (l : Fin 512) : val_main_v115 (F := Ideal) x0 x7 (ix2 r l) = outKn x0 x7 r l := by
  have e : val_main_v115 (F := Ideal) x0 x7 (ix2 r l) = val_main_v66 (F := Ideal) x0 x7 (ix3 r ⟨l.val / 128, by omega⟩ ⟨l.val % 128, by omega⟩) := by
    unfold val_main_v115
    generalize val_main_v66 (F := Ideal) x0 x7 = y
    pointwise
  rw [e, v66_at]
  exact congrArg (nrm · _ _ _) (funext fun e => v53_at x0 r _ e)

theorem v21_at (b : Fin 8) (s : Fin 2048) (l : Fin 64) : val_main_v21 (F := Ideal) x0 (ix3 b s l)
    = val_main_v2 (F := Ideal) x0 (ix2 ⟨8192 + (b.val * 2048 + s.val), by omega⟩ l) := by
  unfold val_main_v21 val_main_v20
  generalize val_main_v2 (F := Ideal) x0 = y
  pointwise

theorem v36_at (b : Fin 8) (s : Fin 2048) (l : Fin 64) : val_main_v36 (F := Ideal) x0 x1 x2 (ix3 b s l)
    = rope 64 16 (fun k => val_main_v21 (F := Ideal) x0 (ix3 b s k)) l (x1 (ix2 s l)) (x2 (ix2 s l)) := by
  unfold val_main_v36 val_main_v35 val_main_v34 val_main_v33 val_main_v32 val_main_v31 val_main_v30 val_main_v29 val_main_v28 val_main_v27 val_main_v26 val_main_v25 val_main_v24 val_main_v23
  generalize val_main_v21 (F := Ideal) x0 = y
  pointwise [rope]
  exact congrArg (_ + · * _) (turn_64 (fun k => y (ix3 b s k)) l)

theorem v38_at (r : Fin 24576) (l : Fin 64) : val_main_v38 (F := Ideal) x0 x1 x2 (ix2 r l)
    = if r.val < 8192 then val_main_v2 (F := Ideal) x0 (ix2 r l)
      else val_main_v36 (F := Ideal) x0 x1 x2 (ix3 ⟨(r.val - 8192) / 2048, by omega⟩ ⟨(r.val - 8192) % 2048, by omega⟩ l) := by
  unfold val_main_v38 val_main_v37 val_main_v22
  generalize val_main_v36 (F := Ideal) x0 x1 x2 = z
  generalize val_main_v2 (F := Ideal) x0 = y
  pointwise
  by_cases hr : r.val < 8192
  · rw [dif_pos hr, if_pos hr]
  · rw [dif_neg hr, if_neg hr]

theorem v_kr (r : Fin 24576) (l : Fin 64) : val_main_v110 (F := Ideal) x0 x1 x2 (ix2 r l) = outKr x0 x1 x2 r l := by
  have e : val_main_v110 (F := Ideal) x0 x1 x2 (ix2 r l) = val_main_v38 (F := Ideal) x0 x1 x2 (ix2 r l) := by
    unfold val_main_v110
    generalize val_main_v38 (F := Ideal) x0 x1 x2 = y
    pointwise
  have e2 : (fun k => val_main_v2 (F := Ideal) x0 (ix2 r k)) = fun k : Fin 64 => x0 (ix2 r ⟨1408 + k.val, by omega⟩) := by
    funext k
    pointwise [val_main_v2]
  unfold outKr
  rw [e, v38_at, v36_at]
  simp only [v21_at]
  rw [← e2, ← rope_tab]
  by_cases h : r.val < 8192
  · rw [if_pos h, if_pos h]
  · have hr : ∀ k, (⟨8192 + ((r.val - 8192) / 2048 * 2048 + (r.val - 8192) % 2048), k⟩ : Fin 24576) = r := fun k => Fin.ext (by simp only; omega)
    rw [if_neg h, if_neg h]
    simp only [hr]

theorem v_kv16 (r : Fin 24576) (l : Fin 512) : val_main_v109 (F := Ideal) x0 x5 (ix2 r l) = outKv x0 x5 r l := by
  refine Eq.trans ?_ (v_kv x0 x5 r l)
  unfold val_main_v109
  generalize val_main_v19 (F := Ideal) x0 x5 = y
  pointwise

theorem results :
    val_main_v19 (F := Ideal) x0 x5 = (fun i => outKv x0 x5 (i 0) (i 1))
    ∧ val_main_v109 (F := Ideal) x0 x5 = (fun i => outKv x0 x5 (i 0) (i 1))
    ∧ val_main_v110 (F := Ideal) x0 x1 x2 = (fun i => outKr x0 x1 x2 (i 0) (i 1))
    ∧ val_main_v114 (F := Ideal) x0 x3 x4 x6 = (fun i => outQ x0 x3 x4 x6 (i 0) (i 1))
    ∧ val_main_v115 (F := Ideal) x0 x7 = (fun i => outKn x0 x7 (i 0) (i 1))
    ∧ val_main_v117 (F := Ideal) x0 x3 x4 x7 = (fun i => outK x0 x3 x4 x7 (i 0) (i 1))
    ∧ val_main_v118 (F := Ideal) x0 = (fun i => outV x0 (i 0) (i 1)) :=
  ⟨funext fun i => (congrArg (val_main_v19 (F := Ideal) x0 x5) (eq_ix2 i)).trans (v_kv x0 x5 (i 0) (i 1)),
    funext fun i => (congrArg (val_main_v109 (F := Ideal) x0 x5) (eq_ix2 i)).trans (v_kv16 x0 x5 (i 0) (i 1)),
    funext fun i => (congrArg (val_main_v110 (F := Ideal) x0 x1 x2) (eq_ix2 i)).trans (v_kr x0 x1 x2 (i 0) (i 1)),
    funext fun i => (congrArg (val_main_v114 (F := Ideal) x0 x3 x4 x6) (eq_ix2 i)).trans (v_q x0 x3 x4 x6 (i 0) (i 1)),
    funext fun i => (congrArg (val_main_v115 (F := Ideal) x0 x7) (eq_ix2 i)).trans (v_kn x0 x7 (i 0) (i 1)),
    funext fun i => (congrArg (val_main_v117 (F := Ideal) x0 x3 x4 x7) (eq_ix2 i)).trans (v_k x0 x3 x4 x7 (i 0) (i 1)),
    funext fun i => (congrArg (val_main_v118 (F := Ideal) x0) (eq_ix2 i)).trans (v_v x0 (i 0) (i 1))⟩

end Cert.Reference7Ideal.Read

end
-- ==== Proof.PrepKey.lean ====
/-
  The preparation of the attention operands, the latent's rotary key: the lanes past the key's are padding, and the call's slice drops them.
-/
module

public import proofs.«01_k».proof.Proof.PrepOut
public import Idealize.ShloMosaic.Lib.Pipeline.ValueKit

@[expose] public section

set_option maxRecDepth 16384

noncomputable section

namespace Cert.Kernel7Ideal.Value

open Idealize.ShloMosaic Idealize.SL.Sem Cert.Kernel7Ideal.Gen Cert.Prep

variable (m : (ℓ : Loc nD τ sig) → Buf (Elt Ideal) ℓ)

/-- The latent's rotary key on a whole lane row: the packed columns, the tables' padding included. -/
def outKr128 (x0 : FVec Ideal S24576x20960 .f32) (x1 x2 : FVec Ideal S2048x64 .f32) (r : Fin 24576) (l : Fin 128) : EReal :=
  rope 128 16 (fun k => packed x0 (ix2 r ⟨20992 + k.val, by omega⟩)) l
    (tab (Ideal.ofBits FTy.f32 1065353216#32) (pad S2048x128 ![0, 0] ![0, 64] ![0, 0] x1 (constant (F := Ideal) S_ .f32 0x3F800000#32) pads_S2048x64_S2048x128_000_0640 h_S_) r l)
    (tab (Ideal.ofBits FTy.f32 0#32) (pad S2048x128 ![0, 0] ![0, 64] ![0, 0] x2 (sitofp (F := Ideal) .f32 (constantI S_ 32 0#32)) pads_S2048x64_S2048x128_000_0640 h_S_) r l)

theorem outKr128_eq (x0 : FVec Ideal S24576x20960 .f32) (x1 x2 : FVec Ideal S2048x64 .f32) (r : Fin 24576) (l : Fin 64) :
    outKr128 x0 x1 x2 r ⟨l.val, by omega⟩ = outKr x0 x1 x2 r l := by
  have hp : ∀ k : Fin 64, packed x0 (ix2 r ⟨20992 + k.val, by omega⟩) = x0 (ix2 r ⟨1408 + k.val, by omega⟩) := fun k =>
    packed_at _ 20992 64 1408 (by decide) _ _ _ ⟨by simp only; omega, by simp only; omega, by simp only; omega⟩
  have h1 : ∀ p (x : FVec Ideal S2048x64 .f32) v, tab p (pad S2048x128 ![0, 0] ![0, 64] ![0, 0] x v pads_S2048x64_S2048x128_000_0640 h_S_) r ⟨l.val, by omega⟩ = tab p x r l := by
    intro p x v
    unfold tab
    rw [padded _ _ _ _ l.isLt]
  unfold outKr128 outKr rope
  rw [h1, h1]
  refine congrArg₂ (· + ·) (congrArg (· * _) (hp l)) (congrArg (· * _) ?_)
  unfold turn
  by_cases h : l.val % 32 < 16
  · rw [if_pos h, if_pos h]
    refine congrArg Neg.neg ((congrArg (fun j => packed x0 (ix2 r j)) (Fin.ext ?_)).trans (hp ⟨(l.val + 16) % 64, by omega⟩))
    simp only
    omega
  · rw [if_neg h, if_neg h]
    refine (congrArg (fun j => packed x0 (ix2 r j)) (Fin.ext ?_)).trans (hp ⟨(l.val - 16) % 64, by omega⟩)
    simp only
    omega

theorem core_kr (c : Dev nD) (t : Fin cfg0.N) (ht : t.val < 96) (r : Fin 256) (l : Fin 128) (R : Fin 24576) (L : Fin 128)
    (hR : R.val = t.val * 256 + r.val) (hL : L.val = l.val) :
    k0_pay10 (F := Ideal) (k0_pay3 (iblk m c 6 t)) (k0_pay8 (iblk m c 4 t)) (k0_pay9 (iblk m c 5 t) (iblk m c 4 t))
      (iota .tc S256x128 32 [1] iota_S256x128_d1_w32) 32#32 (ix2 r l)
      = outKr128 (m ((c.tc : Thread nD τ).loc main_arg0)) (m ((c.tc : Thread nD τ).loc main_arg1)) (m ((c.tc : Thread nD τ).loc main_arg2)) R L := by
  have hr : (⟨t.val * 256 + r.val, by omega⟩ : Fin 24576) = R := Fin.ext hR.symm
  obtain rfl : L = l := Fin.ext hL
  refine Eq.trans (congrFun (pay_kr _ _ (k0_pay3 (iblk m c 5 t))) (ix2 r L)) ?_
  rw [roped_16, pay3, pay3, blk_ca m c t ht, blk_sa m c t ht]
  simp only [pay8, blk_kr m c t ht, hr]
  rfl

theorem final_14 (c : Dev nD) : (dats m 0 c).arrAt 14 cfg0.N = fun i =>
    outKr128 (m ((c.tc : Thread nD τ).loc main_arg0)) (m ((c.tc : Thread nD τ).loc main_arg1)) (m ((c.tc : Thread nD τ).loc main_arg2)) (i 0) (i 1) := by
  refine (dats m 0 c).arrAt_eq_of_covers 14 _ (by decide +kernel) fun t hf y => ?_
  blk_simp
  rw [after0_14]
  have ht : t.val < 96 := lt_of_lt_of_eq t.isLt N_0
  unfold Gen.outsAt0
  dsimp only
  frame_out
  obtain ⟨r, l, rfl⟩ : ∃ r l, y = ix2 r l := ⟨y 0, y 1, eq_ix2 y⟩
  refine core_kr m c t ht r l _ _ ?_ ?_
  · blk_simp [idx t]
  · blk_simp [idx t]

theorem arr (c : Dev nD) : Pipeline.withArrays (cfgs 0).spec c (V0 m c) (fun w => (dats m 0 c).arrAt w (cfgs 0).N) (Proc.tc.devRef main_v44_2)
    = fun i => outKr128 (m ((c.tc : Thread nD τ).loc main_arg0)) (m ((c.tc : Thread nD τ).loc main_arg1)) (m ((c.tc : Thread nD τ).loc main_arg2)) (i 0) (i 1) :=
  ((dats m 0 c).withArrays_arrAt launch₀0.sharedIn (V0 m c) (A_eq m c) 14).trans (final_14 m c)

theorem tail (c : Dev nD) : Pipeline.afterTail₀ cfgs (dats m) 0 (V0 m) [hostOps1] c main_v45 = fun i =>
    outKr (m ((c.tc : Thread nD τ).loc main_arg0)) (m ((c.tc : Thread nD τ).loc main_arg1)) (m ((c.tc : Thread nD τ).loc main_arg2)) (i 0) (i 1) := by
  have e := arr m c
  unfold Pipeline.afterTail₀
  simp only [hostOps1, List.flatten_cons, List.flatten_nil, List.append_nil]
  after_results
  rw [e]
  funext i
  obtain ⟨r, l, rfl⟩ : ∃ r l, i = ix2 r l := ⟨i 0, i 1, eq_ix2 i⟩
  refine Eq.trans ?_ (outKr128_eq _ _ _ r l)
  pointwise

end Cert.Kernel7Ideal.Value

end
-- ==== Proof.Norm.lean ====
/-
  The last normalisation, of the prompt's rows and of the samples': each array the calls leave is the reference's,
  whatever the arguments.
-/
module

public import proofs.«01_k».proof.Proof.Gen.Kernel5Ideal.Value
public import proofs.«01_k».proof.Proof.Gen.Kernel6Ideal.Value
public import proofs.«01_k».proof.Proof.Gen.Reference5Ideal.Read
public import proofs.«01_k».proof.Proof.Gen.Reference6Ideal.Read
public import Idealize.ShloMosaic.Lib.Pointwise
public import Idealize.ShloMosaic.Lib.Pipeline.ValueKit
public import Idealize.ShloMosaic.Lib.Claim

@[expose] public section

set_option maxRecDepth 16384

noncomputable section

namespace Cert.Norm

open Idealize.ShloMosaic

/-- One element of a normalised row: the entry over the root of the row's mean square, times the weight. -/
def rms (x : Fin 4096 → EReal) (l : Fin 4096) (g : EReal) : EReal :=
  x l * Ideal.rsqrt (Ideal.div (∑ k, x k * x k) (Ideal.ofBits FTy.f32 1166016512#32) + Ideal.ofBits FTy.f32 897988541#32) * g

end Cert.Norm

namespace Cert.Kernel5Ideal.Value

open Idealize.ShloMosaic Idealize.SL.Sem Cert.Kernel5Ideal.Gen

theorem pay (x : Vec Ideal S256x4096 .f32) (g : Vec Ideal S1x4096 .f32) (r : Fin 256) (l : Fin 4096) :
    k0_pay1 (F := Ideal) x g (ix2 r l) = Cert.Norm.rms (fun k => x (ix2 r k)) l (g (ix2 0 l)) := by
  pointwise [k0_pay1, Cert.Norm.rms]

variable (m : (ℓ : Loc nD τ sig) → Buf (Elt Ideal) ℓ)

theorem V_g (c : Dev nD) (l : Fin 4096) : V m c main_v0 (ix2 0 l) = m ((c.tc : Thread nD τ).loc main_arg1) (ix1 l) := by
  entry_read
  pointwise

theorem idx : ∀ t : Fin cfg0.N, win0_0.index t = ![t.val, 0] ∧ win0_1.index t = ![0, 0] ∧ win0_2.index t = ![t.val, 0] :=
  (by decide +kernel : ∀ t : Fin grid0.N, _)

theorem blk_x (c : Dev nD) (t : Fin cfg0.N) (ht : t.val < 32) (r : Fin 256) (k : Fin 4096) :
    iblk m c 0 t (ix2 r k) = V m c main_arg0 (ix2 ⟨t.val * 256 + r.val, by omega⟩ k) := by
  blk_ext [iblk, idx t]

theorem blk_g (c : Dev nD) (t : Fin cfg0.N) (l : Fin 4096) : iblk m c 1 t (ix2 0 l) = V m c main_v0 (ix2 0 l) := by
  blk_ext [iblk, idx t]

/-- One element of the result. -/
def OUT (x : FVec Ideal S24576x4096 .f32) (g : FVec Ideal S4096 .f32) (r : Fin 8192) (l : Fin 4096) : EReal :=
  Cert.Norm.rms (fun k => x (ix2 ⟨r.val, by omega⟩ k)) l (g (ix1 l))

theorem core (c : Dev nD) (t : Fin cfg0.N) (ht : t.val < 32) (r : Fin 256) (l : Fin 4096) (R : Fin 8192) (L : Fin 4096)
    (hR : R.val = t.val * 256 + r.val) (hL : L.val = l.val) :
    k0_pay1 (F := Ideal) (iblk m c 0 t) (iblk m c 1 t) (ix2 r l)
      = OUT (m ((c.tc : Thread nD τ).loc main_arg0)) (m ((c.tc : Thread nD τ).loc main_arg1)) R L := by
  obtain rfl : L = l := Fin.ext hL
  have hr : (⟨t.val * 256 + r.val, by omega⟩ : Fin 24576) = ⟨R.val, by omega⟩ := Fin.ext (by simp only; omega)
  rw [pay, blk_g, V_g]
  simp only [blk_x m c t ht, hr]
  rw [V_main_arg0]
  rfl

theorem final (c : Dev nD) : (dats m 0 c).arrAt 2 cfg0.N = fun i =>
    OUT (m ((c.tc : Thread nD τ).loc main_arg0)) (m ((c.tc : Thread nD τ).loc main_arg1)) (i 0) (i 1) := by
  refine (dats m 0 c).arrAt_eq_of_covers 2 _ (by decide +kernel) fun t hf y => ?_
  blk_simp
  rw [after0_2]
  frame_out
  have ht : t.val < 32 := lt_of_lt_of_eq t.isLt N_0
  obtain ⟨r, l, rfl⟩ : ∃ r l, y = ix2 r l := ⟨y 0, y 1, eq_ix2 y⟩
  refine core m c t ht r l _ _ ?_ ?_
  · blk_simp [idx t]
  · blk_simp [idx t]

end Cert.Kernel5Ideal.Value

namespace Cert.Reference5Ideal.Read

open Idealize.ShloMosaic Idealize.SL.Sem Cert.Reference5Ideal.Gen

variable (x0 : FVec Ideal S24576x4096 .f32) (x1 : FVec Ideal S4096 .f32)

theorem v2_eq (r : Fin 8192) : val_main_v2 (F := Ideal) x0 (ix1 r)
    = ∑ k : Fin 4096, x0 (ix2 ⟨r.val, by omega⟩ k) * x0 (ix2 ⟨r.val, by omega⟩ k) := by
  pointwise [val_main_v2, val_main_v1, val_main_v0, val_main_cst]

theorem result_eq : val_main_v13 (F := Ideal) x0 x1 = fun i =>
    Cert.Kernel5Ideal.Value.OUT x0 x1 (i 0) (i 1) := by
  funext i
  obtain ⟨r, l, rfl⟩ : ∃ r l, i = ix2 r l := ⟨i 0, i 1, eq_ix2 i⟩
  show _ = Cert.Norm.rms (fun k => x0 (ix2 ⟨r.val, by omega⟩ k)) l (x1 (ix1 l))
  unfold Cert.Norm.rms
  rw [← v2_eq]
  unfold val_main_v13 val_main_v10 val_main_v9 val_main_v8 val_main_v7 val_main_v5 val_main_v3
  generalize val_main_v2 (F := Ideal) x0 = s
  pointwise [val_main_v0, val_main_v4, val_main_v6, val_main_cst_0, val_main_cst_1, val_main_v11, val_main_v12]

end Cert.Reference5Ideal.Read

namespace Cert.Kernel6Ideal.Value

open Idealize.ShloMosaic Idealize.SL.Sem Cert.Kernel6Ideal.Gen

theorem pay (x : Vec Ideal S256x4096 .f32) (g : Vec Ideal S1x4096 .f32) (r : Fin 256) (l : Fin 4096) :
    k0_pay1 (F := Ideal) x g (ix2 r l) = Cert.Norm.rms (fun k => x (ix2 r k)) l (g (ix2 0 l)) := by
  pointwise [k0_pay1, Cert.Norm.rms]

variable (m : (ℓ : Loc nD τ sig) → Buf (Elt Ideal) ℓ)

theorem V_g (c : Dev nD) (l : Fin 4096) : V m c main_v0 (ix2 0 l) = m ((c.tc : Thread nD τ).loc main_arg1) (ix1 l) := by
  entry_read
  pointwise

theorem idx : ∀ t : Fin cfg0.N, win0_0.index t = ![32 + t.val, 0] ∧ win0_1.index t = ![0, 0] ∧ win0_2.index t = ![t.val, 0] :=
  (by decide +kernel : ∀ t : Fin grid0.N, _)

theorem blk_x (c : Dev nD) (t : Fin cfg0.N) (ht : t.val < 64) (r : Fin 256) (k : Fin 4096) :
    iblk m c 0 t (ix2 r k) = V m c main_arg0 (ix2 ⟨(32 + t.val) * 256 + r.val, by omega⟩ k) := by
  blk_ext [iblk, idx t]

theorem blk_g (c : Dev nD) (t : Fin cfg0.N) (l : Fin 4096) : iblk m c 1 t (ix2 0 l) = V m c main_v0 (ix2 0 l) := by
  blk_ext [iblk, idx t]

/-- One element of the result. -/
def OUT (x : FVec Ideal S24576x4096 .f32) (g : FVec Ideal S4096 .f32) (r : Fin 16384) (l : Fin 4096) : EReal :=
  Cert.Norm.rms (fun k => x (ix2 ⟨8192 + r.val, by omega⟩ k)) l (g (ix1 l))

theorem core (c : Dev nD) (t : Fin cfg0.N) (ht : t.val < 64) (r : Fin 256) (l : Fin 4096) (R : Fin 16384) (L : Fin 4096)
    (hR : R.val = t.val * 256 + r.val) (hL : L.val = l.val) :
    k0_pay1 (F := Ideal) (iblk m c 0 t) (iblk m c 1 t) (ix2 r l)
      = OUT (m ((c.tc : Thread nD τ).loc main_arg0)) (m ((c.tc : Thread nD τ).loc main_arg1)) R L := by
  obtain rfl : L = l := Fin.ext hL
  have hr : (⟨(32 + t.val) * 256 + r.val, by omega⟩ : Fin 24576) = ⟨8192 + R.val, by omega⟩ := Fin.ext (by simp only; omega)
  rw [pay, blk_g, V_g]
  simp only [blk_x m c t ht, hr]
  rw [V_main_arg0]
  rfl

theorem final (c : Dev nD) : (dats m 0 c).arrAt 2 cfg0.N = fun i =>
    OUT (m ((c.tc : Thread nD τ).loc main_arg0)) (m ((c.tc : Thread nD τ).loc main_arg1)) (i 0) (i 1) := by
  refine (dats m 0 c).arrAt_eq_of_covers 2 _ (by decide +kernel) fun t hf y => ?_
  blk_simp
  rw [after0_2]
  frame_out
  have ht : t.val < 64 := lt_of_lt_of_eq t.isLt N_0
  obtain ⟨r, l, rfl⟩ : ∃ r l, y = ix2 r l := ⟨y 0, y 1, eq_ix2 y⟩
  refine core m c t ht r l _ _ ?_ ?_
  · blk_simp [idx t]
  · blk_simp [idx t]

end Cert.Kernel6Ideal.Value

namespace Cert.Reference6Ideal.Read

open Idealize.ShloMosaic Idealize.SL.Sem Cert.Reference6Ideal.Gen

variable (x0 : FVec Ideal S24576x4096 .f32) (x1 : FVec Ideal S4096 .f32)

theorem v2_eq (r : Fin 16384) : val_main_v2 (F := Ideal) x0 (ix1 r)
    = ∑ k : Fin 4096, x0 (ix2 ⟨8192 + r.val, by omega⟩ k) * x0 (ix2 ⟨8192 + r.val, by omega⟩ k) := by
  pointwise [val_main_v2, val_main_v1, val_main_v0, val_main_cst]

theorem result_eq : val_main_v13 (F := Ideal) x0 x1 = fun i =>
    Cert.Kernel6Ideal.Value.OUT x0 x1 (i 0) (i 1) := by
  funext i
  obtain ⟨r, l, rfl⟩ : ∃ r l, i = ix2 r l := ⟨i 0, i 1, eq_ix2 i⟩
  show _ = Cert.Norm.rms (fun k => x0 (ix2 ⟨8192 + r.val, by omega⟩ k)) l (x1 (ix1 l))
  unfold Cert.Norm.rms
  rw [← v2_eq]
  unfold val_main_v13 val_main_v10 val_main_v9 val_main_v8 val_main_v7 val_main_v5 val_main_v3
  generalize val_main_v2 (F := Ideal) x0 = s
  pointwise [val_main_v0, val_main_v4, val_main_v6, val_main_cst_0, val_main_cst_1, val_main_v11, val_main_v12]

end Cert.Reference6Ideal.Read

end
-- ==== Proof.Residual.lean ====
/-
  The output product with its gated residual: the array the call leaves is the reference's, whatever the arguments.
-/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Claim

@[expose] public section

set_option maxRecDepth 16384

noncomputable section

namespace Cert.Kernel4Ideal.Value

open Idealize.ShloMosaic Idealize.SL.Sem Cert.Kernel4Ideal.Gen

/-- The modulation row of row `r`: the prompt's, or the one of its sample. -/
def modRow (r : ℕ) : ℕ := if r < 8192 then 0 else 1 + (r - 8192) / 2048

theorem modRow_lt (r : Fin 24576) : modRow r.val < 16 := by unfold modRow; split <;> omega

/-- One element of the result: the row's entry plus its gate times the product. -/
def OUT (z : FVec Ideal S24576x4096 .bf16) (w : FVec Ideal S4096x4096 .f32) (x : FVec Ideal S24576x4096 .f32) (g : FVec Ideal S16x24576 .f32)
    (r : Fin 24576) (l : Fin 4096) : EReal :=
  x (ix2 r l) + g (ix2 ⟨modRow r.val, modRow_lt r⟩ ⟨8192 + l.val, by omega⟩) * ∑ k : Fin 4096, z (ix2 r k) * w (ix2 k l)

theorem pay (x : Vec Ideal S1024x512 .f32) (g : Vec Ideal S1x1x512 .f32) (z : Vec Ideal S1024x4096 .bf16) (w : Vec Ideal S4096x512 .bf16)
    (r : Fin 1024) (l : Fin 512) :
    k0_pay1 (F := Ideal) x g z w (ix2 r l) = x (ix2 r l) + g (ix3 0 0 l) * ∑ k : Fin 4096, z (ix2 r k) * w (ix2 k l) := by
  pointwise [k0_pay1]

variable (m : (ℓ : Loc nD τ sig) → Buf (Elt Ideal) ℓ)

theorem V_w (c : Dev nD) (k l : Fin 4096) : V m c main_v0 (ix2 k l) = m ((c.tc : Thread nD τ).loc main_arg1) (ix2 k l) := by
  entry_read
  pointwise

theorem V_g (c : Dev nD) (a : Fin 16) (l : Fin 24576) : V m c main_v1 (ix3 a 0 l) = m ((c.tc : Thread nD τ).loc main_arg3) (ix2 a l) := by
  entry_read
  pointwise

theorem idx : ∀ t : Fin cfg0.N,
    win0_0.index t = ![t.val / 8, 0] ∧ win0_1.index t = ![0, t.val % 8] ∧ win0_2.index t = ![t.val / 8, t.val % 8] ∧
    win0_3.index t = ![modRow (t.val / 8 * 1024), 0, 16 + t.val % 8] ∧ win0_4.index t = ![t.val / 8, t.val % 8] :=
  (by decide +kernel : ∀ t : Fin grid0.N, _)

theorem blk_z (c : Dev nD) (t : Fin cfg0.N) (ht : t.val < 192) (r : Fin 1024) (k : Fin 4096) :
    iblk m c 0 t (ix2 r k) = V m c main_arg0 (ix2 ⟨t.val / 8 * 1024 + r.val, by omega⟩ k) := by
  blk_ext [iblk, idx t]

theorem blk_w (c : Dev nD) (t : Fin cfg0.N) (ht : t.val < 192) (k : Fin 4096) (l : Fin 512) :
    iblk m c 1 t (ix2 k l) = V m c main_v0 (ix2 k ⟨t.val % 8 * 512 + l.val, by omega⟩) := by
  blk_ext [iblk, idx t]

theorem blk_x (c : Dev nD) (t : Fin cfg0.N) (ht : t.val < 192) (r : Fin 1024) (l : Fin 512) :
    iblk m c 2 t (ix2 r l) = V m c main_arg2 (ix2 ⟨t.val / 8 * 1024 + r.val, by omega⟩ ⟨t.val % 8 * 512 + l.val, by omega⟩) := by
  blk_ext [iblk, idx t]

theorem blk_g (c : Dev nD) (t : Fin cfg0.N) (ht : t.val < 192) (l : Fin 512) :
    iblk m c 3 t (ix3 0 0 l) = V m c main_v1 (ix3 ⟨modRow (t.val / 8 * 1024), modRow_lt ⟨t.val / 8 * 1024, by omega⟩⟩ 0
      ⟨(16 + t.val % 8) * 512 + l.val, by omega⟩) := by
  blk_ext [iblk, idx t]

theorem core (c : Dev nD) (t : Fin cfg0.N) (ht : t.val < 192) (r : Fin 1024) (l : Fin 512) (R : Fin 24576) (L : Fin 4096)
    (hR : R.val = t.val / 8 * 1024 + r.val) (hL : L.val = t.val % 8 * 512 + l.val) :
    k0_pay1 (F := Ideal) (iblk m c 2 t) (iblk m c 3 t) (iblk m c 0 t) (iblk m c 1 t) (ix2 r l)
      = OUT (m ((c.tc : Thread nD τ).loc main_arg0)) (m ((c.tc : Thread nD τ).loc main_arg1)) (m ((c.tc : Thread nD τ).loc main_arg2))
        (m ((c.tc : Thread nD τ).loc main_arg3)) R L := by
  have hr : (⟨t.val / 8 * 1024 + r.val, by omega⟩ : Fin 24576) = R := Fin.ext hR.symm
  have hl : (⟨t.val % 8 * 512 + l.val, by omega⟩ : Fin 4096) = L := Fin.ext hL.symm
  have hg : (⟨modRow (t.val / 8 * 1024), modRow_lt ⟨t.val / 8 * 1024, by omega⟩⟩ : Fin 16) = ⟨modRow R.val, modRow_lt R⟩ :=
    Fin.ext (by simp only [modRow]; split <;> split <;> omega)
  have hj : (⟨(16 + t.val % 8) * 512 + l.val, by omega⟩ : Fin 24576) = ⟨8192 + L.val, by omega⟩ := Fin.ext (by simp only; omega)
  rw [pay, blk_x m c t ht, blk_g m c t ht, V_g, hr, hl, hg, hj, V_main_arg2]
  simp only [blk_z m c t ht, blk_w m c t ht, V_w, hr, hl, V_main_arg0]
  rfl

theorem final (c : Dev nD) : (dats m 0 c).arrAt 4 cfg0.N = fun i =>
    OUT (m ((c.tc : Thread nD τ).loc main_arg0)) (m ((c.tc : Thread nD τ).loc main_arg1)) (m ((c.tc : Thread nD τ).loc main_arg2))
      (m ((c.tc : Thread nD τ).loc main_arg3)) (i 0) (i 1) := by
  refine (dats m 0 c).arrAt_eq_of_covers 4 _ (by decide +kernel) fun t hf y => ?_
  blk_simp
  rw [after0_4]
  frame_out
  have ht : t.val < 192 := lt_of_lt_of_eq t.isLt N_0
  obtain ⟨r, l, rfl⟩ : ∃ r l, y = ix2 r l := ⟨y 0, y 1, eq_ix2 y⟩
  refine core m c t ht r l _ _ ?_ ?_
  · blk_simp [idx t]
  · blk_simp [idx t]

end Cert.Kernel4Ideal.Value

namespace Cert.Reference4Ideal.Read

open Idealize.ShloMosaic Idealize.SL.Sem Cert.Reference4Ideal.Gen

variable (x0 : FVec Ideal S24576x4096 .bf16) (x1 : FVec Ideal S4096x4096 .f32) (x2 : FVec Ideal S24576x4096 .f32) (x3 : FVec Ideal S16x24576 .f32)

theorem v7_eq (r : Fin 24576) (l : Fin 4096) : val_main_v7 (F := Ideal) x0 x1 (ix2 r l) = ∑ k : Fin 4096, x0 (ix2 r k) * x1 (ix2 k l) := by
  pointwise [val_main_v7, val_main_v6]

theorem v13_eq (r : Fin 8192) (l : Fin 4096) : val_main_v13 (F := Ideal) x0 x1 x2 x3 (ix2 r l)
    = x2 (ix2 ⟨r.val, by omega⟩ l) + x3 (ix2 0 ⟨8192 + l.val, by omega⟩) * val_main_v7 (F := Ideal) x0 x1 (ix2 ⟨r.val, by omega⟩ l) := by
  pointwise [val_main_v13, val_main_v12, val_main_v11, val_main_v10, val_main_v9, val_main_v8, val_main_v2]

theorem v23_eq (r : Fin 16384) (l : Fin 4096) : val_main_v23 (F := Ideal) x0 x1 x2 x3 (ix2 r l)
    = x2 (ix2 ⟨8192 + r.val, by omega⟩ l) + x3 (ix2 ⟨1 + r.val / 2048, by omega⟩ ⟨8192 + l.val, by omega⟩)
      * val_main_v7 (F := Ideal) x0 x1 (ix2 ⟨8192 + r.val, by omega⟩ l) := by
  pointwise [val_main_v23, val_main_v22, val_main_v21, val_main_v20, val_main_v19, val_main_v18, val_main_v17, val_main_v16, val_main_v15, val_main_v14, val_main_v2]

theorem result_eq : val_main_v24 (F := Ideal) x0 x1 x2 x3 = fun i => Cert.Kernel4Ideal.Value.OUT x0 x1 x2 x3 (i 0) (i 1) := by
  funext i
  obtain ⟨r, l, rfl⟩ : ∃ r l, i = ix2 r l := ⟨i 0, i 1, eq_ix2 i⟩
  unfold val_main_v24
  show _ = Cert.Kernel4Ideal.Value.OUT x0 x1 x2 x3 r l
  unfold Cert.Kernel4Ideal.Value.OUT
  rw [← v7_eq]
  have e1 := v13_eq x0 x1 x2 x3
  have e2 := v23_eq x0 x1 x2 x3
  generalize val_main_v13 (F := Ideal) x0 x1 x2 x3 = a at *
  generalize val_main_v23 (F := Ideal) x0 x1 x2 x3 = b at *
  by_cases h : r.val < 8192
  · have hm : (⟨Cert.Kernel4Ideal.Value.modRow r.val, Cert.Kernel4Ideal.Value.modRow_lt r⟩ : Fin 16) = 0 :=
      Fin.ext (by simp [Cert.Kernel4Ideal.Value.modRow, h])
    rw [hm, ← e1 ⟨r.val, h⟩ l]
    pointwise
    rw [dif_pos h]
  · have hm : (⟨Cert.Kernel4Ideal.Value.modRow r.val, Cert.Kernel4Ideal.Value.modRow_lt r⟩ : Fin 16) = ⟨1 + (r.val - 8192) / 2048, by omega⟩ :=
      Fin.ext (by simp [Cert.Kernel4Ideal.Value.modRow, h])
    have hr : (⟨8192 + (r.val - 8192), by omega⟩ : Fin 24576) = r := Fin.ext (by simp only; omega)
    have e3 := e2 ⟨r.val - 8192, by omega⟩ l
    rw [hr] at e3
    rw [hm, ← e3]
    pointwise
    rw [dif_neg h]

end Cert.Reference4Ideal.Read

end
-- ==== Proof.Merge.lean ====
/-
  The gated sum of the three branches' products: the array the call leaves is the reference's, whatever the arguments.
-/
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Claim

@[expose] public section

set_option maxRecDepth 16384

noncomputable section

namespace Cert.Kernel3Ideal.Value

open Idealize.ShloMosaic Idealize.SL.Sem Cert.Kernel3Ideal.Gen

/-- One element of the result: each branch's product under its gate. -/
def OUT (ya : FVec Ideal S24576x1024 .bf16) (yb : FVec Ideal S24576x2048 .bf16) (yc : FVec Ideal S24576x1024 .bf16)
    (p : FVec Ideal S24576x21504 .f32) (w : FVec Ideal S4096x4096 .f32) (r : Fin 24576) (l : Fin 4096) : EReal :=
  Ideal.logistic (p (ix2 r ⟨l.val, by omega⟩)) * (∑ k : Fin 1024, ya (ix2 r k) * w (ix2 ⟨k.val, by omega⟩ l))
    + Ideal.logistic (p (ix2 r ⟨4096 + l.val, by omega⟩)) * (∑ k : Fin 2048, yb (ix2 r k) * w (ix2 ⟨1024 + k.val, by omega⟩ l))
    + Ideal.logistic (p (ix2 r ⟨8192 + l.val, by omega⟩)) * (∑ k : Fin 1024, yc (ix2 r k) * w (ix2 ⟨3072 + k.val, by omega⟩ l))

theorem pay (m0 m1 m2 : Vec Ideal S512x512 .f32) (ya yc : Vec Ideal S512x1024 .bf16) (yb : Vec Ideal S512x2048 .bf16)
    (wa wc : Vec Ideal S1024x512 .bf16) (wb : Vec Ideal S2048x512 .bf16) (r l : Fin 512) :
    k0_pay1 (F := Ideal) m0 ya wa m1 yb wb m2 yc wc (ix2 r l)
      = Ideal.logistic (m0 (ix2 r l)) * (∑ k : Fin 1024, ya (ix2 r k) * wa (ix2 k l))
        + Ideal.logistic (m1 (ix2 r l)) * (∑ k : Fin 2048, yb (ix2 r k) * wb (ix2 k l))
        + Ideal.logistic (m2 (ix2 r l)) * (∑ k : Fin 1024, yc (ix2 r k) * wc (ix2 k l)) := by
  pointwise [k0_pay1]

variable (m : (ℓ : Loc nD τ sig) → Buf (Elt Ideal) ℓ)

/-- The packed weights: the second branch's rows, then the first's, then the third's. -/
def packed (w : FVec Ideal S4096x4096 .f32) : FVec Ideal S4096x4096 .bf16 :=
  concatenate S4096x4096 0
    [⟨S2048x4096, extractStridedSlice S2048x4096 ![1024, 0] (truncf (F := Ideal) .bf16 w bitsLt_bf16_f32) slices_S4096x4096_S2048x4096_1024_0⟩,
      ⟨S1024x4096, extractStridedSlice S1024x4096 ![0, 0] (truncf (F := Ideal) .bf16 w bitsLt_bf16_f32) slices_S4096x4096_S1024x4096_0_0⟩,
      ⟨S1024x4096, extractStridedSlice S1024x4096 ![3072, 0] (truncf (F := Ideal) .bf16 w bitsLt_bf16_f32) slices_S4096x4096_S1024x4096_3072_0⟩]
    concatenates_S2048x4096_S1024x4096_S1024x4096_S4096x4096_d0

theorem packed_b (w : FVec Ideal S4096x4096 .f32) (k : Fin 2048) (l : Fin 4096) : packed w (ix2 ⟨k.val, by omega⟩ l) = w (ix2 ⟨1024 + k.val, by omega⟩ l) := by
  pointwise [packed]

theorem packed_a (w : FVec Ideal S4096x4096 .f32) (k : Fin 1024) (l : Fin 4096) : packed w (ix2 ⟨2048 + k.val, by omega⟩ l) = w (ix2 ⟨k.val, by omega⟩ l) := by
  pointwise [packed]

theorem packed_c (w : FVec Ideal S4096x4096 .f32) (k : Fin 1024) (l : Fin 4096) : packed w (ix2 ⟨3072 + k.val, by omega⟩ l) = w (ix2 ⟨3072 + k.val, by omega⟩ l) := by
  pointwise [packed]
  rw [dif_neg (by omega), dif_neg (by omega)]
  exact congrArg (fun R => w (ix2 R l)) (Fin.ext (by simp only; omega))

theorem V_w (c : Dev nD) : V m c main_v4 = packed (m ((c.tc : Thread nD τ).loc main_arg4)) := by
  unfold packed
  unfold_abbrev_sides
  after_results
  rfl

theorem idx : ∀ t : Fin cfg0.N,
    win0_0.index t = ![t.val / 8, 0] ∧ win0_1.index t = ![t.val / 8, 0] ∧ win0_2.index t = ![t.val / 8, 0] ∧
    win0_3.index t = ![t.val / 8, t.val % 8] ∧ win0_4.index t = ![t.val / 8, 8 + t.val % 8] ∧ win0_5.index t = ![t.val / 8, 16 + t.val % 8] ∧
    win0_6.index t = ![0, t.val % 8] ∧ win0_7.index t = ![2, t.val % 8] ∧ win0_8.index t = ![3, t.val % 8] ∧
    win0_9.index t = ![t.val / 8, t.val % 8] :=
  (by decide +kernel : ∀ t : Fin grid0.N, _)

section
variable (c : Dev nD) (t : Fin cfg0.N) (ht : t.val < 384) (r l : Fin 512)
include ht

theorem blk_b (k : Fin 2048) : iblk m c 0 t (ix2 r k) = V m c main_arg1 (ix2 ⟨t.val / 8 * 512 + r.val, by omega⟩ k) := by
  blk_ext [iblk, idx t]

theorem blk_a (k : Fin 1024) : iblk m c 1 t (ix2 r k) = V m c main_arg0 (ix2 ⟨t.val / 8 * 512 + r.val, by omega⟩ k) := by
  blk_ext [iblk, idx t]

theorem blk_c (k : Fin 1024) : iblk m c 2 t (ix2 r k) = V m c main_arg2 (ix2 ⟨t.val / 8 * 512 + r.val, by omega⟩ k) := by
  blk_ext [iblk, idx t]

theorem blk_m0 : iblk m c 3 t (ix2 r l) = V m c main_arg3 (ix2 ⟨t.val / 8 * 512 + r.val, by omega⟩ ⟨t.val % 8 * 512 + l.val, by omega⟩) := by
  blk_ext [iblk, idx t]

theorem blk_m1 : iblk m c 4 t (ix2 r l) = V m c main_arg3 (ix2 ⟨t.val / 8 * 512 + r.val, by omega⟩ ⟨(8 + t.val % 8) * 512 + l.val, by omega⟩) := by
  blk_ext [iblk, idx t]

theorem blk_m2 : iblk m c 5 t (ix2 r l) = V m c main_arg3 (ix2 ⟨t.val / 8 * 512 + r.val, by omega⟩ ⟨(16 + t.val % 8) * 512 + l.val, by omega⟩) := by
  blk_ext [iblk, idx t]

theorem blk_wb (k : Fin 2048) : iblk m c 6 t (ix2 k l) = V m c main_v4 (ix2 ⟨k.val, by omega⟩ ⟨t.val % 8 * 512 + l.val, by omega⟩) := by
  blk_ext [iblk, idx t]

theorem blk_wa (k : Fin 1024) : iblk m c 7 t (ix2 k l) = V m c main_v4 (ix2 ⟨2048 + k.val, by omega⟩ ⟨t.val % 8 * 512 + l.val, by omega⟩) := by
  blk_ext [iblk, idx t]

theorem blk_wc (k : Fin 1024) : iblk m c 8 t (ix2 k l) = V m c main_v4 (ix2 ⟨3072 + k.val, by omega⟩ ⟨t.val % 8 * 512 + l.val, by omega⟩) := by
  blk_ext [iblk, idx t]

theorem core (R : Fin 24576) (L : Fin 4096) (hR : R.val = t.val / 8 * 512 + r.val) (hL : L.val = t.val % 8 * 512 + l.val) :
    k0_pay1 (F := Ideal) (iblk m c 3 t) (iblk m c 1 t) (iblk m c 7 t) (iblk m c 4 t) (iblk m c 0 t) (iblk m c 6 t) (iblk m c 5 t) (iblk m c 2 t) (iblk m c 8 t) (ix2 r l)
      = OUT (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) R L := by
  have hr : (⟨t.val / 8 * 512 + r.val, by omega⟩ : Fin 24576) = R := Fin.ext hR.symm
  have hl : (⟨t.val % 8 * 512 + l.val, by omega⟩ : Fin 4096) = L := Fin.ext hL.symm
  have h0 : (⟨t.val % 8 * 512 + l.val, by omega⟩ : Fin 21504) = ⟨L.val, by omega⟩ := Fin.ext hL.symm
  have h1 : (⟨(8 + t.val % 8) * 512 + l.val, by omega⟩ : Fin 21504) = ⟨4096 + L.val, by omega⟩ := Fin.ext (by simp only; omega)
  have h2 : (⟨(16 + t.val % 8) * 512 + l.val, by omega⟩ : Fin 21504) = ⟨8192 + L.val, by omega⟩ := Fin.ext (by simp only; omega)
  rw [pay, blk_m0 m c t ht, blk_m1 m c t ht, blk_m2 m c t ht]
  simp only [blk_a m c t ht, blk_b m c t ht, blk_c m c t ht, blk_wa m c t ht, blk_wb m c t ht, blk_wc m c t ht, hr, hl, h0, h1, h2]
  rw [V_main_arg0, V_main_arg1, V_main_arg2, V_main_arg3, V_w]
  simp only [packed_a, packed_b, packed_c]
  rfl

end

theorem final (c : Dev nD) : (dats m 0 c).arrAt 9 cfg0.N = fun i =>
    OUT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (i 0) (i 1) := by
  refine (dats m 0 c).arrAt_eq_of_covers 9 _ (by decide +kernel) fun t hf y => ?_
  blk_simp
  rw [after0_9]
  frame_out
  have ht : t.val < 384 := lt_of_lt_of_eq t.isLt N_0
  obtain ⟨r, l, rfl⟩ : ∃ r l, y = ix2 r l := ⟨y 0, y 1, eq_ix2 y⟩
  refine core m c t ht r l _ _ ?_ ?_
  · blk_simp [idx t]
  · blk_simp [idx t]

end Cert.Kernel3Ideal.Value

namespace Cert.Reference3Ideal.Read

open Idealize.ShloMosaic Idealize.SL.Sem Cert.Reference3Ideal.Gen

variable (x0 : FVec Ideal S24576x1024 .bf16) (x1 : FVec Ideal S24576x2048 .bf16) (x2 : FVec Ideal S24576x1024 .bf16)
variable (x3 : FVec Ideal S24576x21504 .f32) (x4 : FVec Ideal S4096x4096 .f32) (r : Fin 24576) (l : Fin 4096)

theorem v9_eq (j : Fin 12288) : val_main_v9 (F := Ideal) x3 (ix2 r j) = Ideal.logistic (x3 (ix2 r ⟨j.val, by omega⟩)) := by
  pointwise [val_main_v9, val_main_v8, val_main_v7, val_main_v6, val_main_v5, val_main_v4, val_main_v3, val_main_cst, val_main_cst_0]
  rfl

theorem v15_eq : val_main_v15 (F := Ideal) x0 x3 x4 (ix2 r l)
    = val_main_v9 (F := Ideal) x3 (ix2 r ⟨l.val, by omega⟩) * ∑ k : Fin 1024, x0 (ix2 r k) * x4 (ix2 ⟨k.val, by omega⟩ l) := by
  unfold val_main_v15 val_main_v12 val_main_v11 val_main_v10
  generalize val_main_v9 (F := Ideal) x3 = y
  pointwise [val_main_v14, val_main_v13, val_main_v0]

theorem v20_eq : val_main_v20 (F := Ideal) x1 x3 x4 (ix2 r l)
    = val_main_v9 (F := Ideal) x3 (ix2 r ⟨4096 + l.val, by omega⟩) * ∑ k : Fin 2048, x1 (ix2 r k) * x4 (ix2 ⟨1024 + k.val, by omega⟩ l) := by
  unfold val_main_v20 val_main_v17 val_main_v16 val_main_v10
  generalize val_main_v9 (F := Ideal) x3 = y
  pointwise [val_main_v19, val_main_v18, val_main_v1]

theorem v26_eq : val_main_v26 (F := Ideal) x2 x3 x4 (ix2 r l)
    = val_main_v9 (F := Ideal) x3 (ix2 r ⟨8192 + l.val, by omega⟩) * ∑ k : Fin 1024, x2 (ix2 r k) * x4 (ix2 ⟨3072 + k.val, by omega⟩ l) := by
  unfold val_main_v26 val_main_v23 val_main_v22 val_main_v10
  generalize val_main_v9 (F := Ideal) x3 = y
  pointwise [val_main_v25, val_main_v24, val_main_v2]

theorem result_eq : val_main_v28 (F := Ideal) x0 x1 x2 x3 x4 = fun i => Cert.Kernel3Ideal.Value.OUT x0 x1 x2 x3 x4 (i 0) (i 1) := by
  funext i
  obtain ⟨r, l, rfl⟩ : ∃ r l, i = ix2 r l := ⟨i 0, i 1, eq_ix2 i⟩
  show val_main_v15 (F := Ideal) x0 x3 x4 (ix2 r l) + val_main_v20 (F := Ideal) x1 x3 x4 (ix2 r l) + val_main_v26 (F := Ideal) x2 x3 x4 (ix2 r l)
    = Cert.Kernel3Ideal.Value.OUT x0 x1 x2 x3 x4 r l
  rw [v15_eq, v20_eq, v26_eq, v9_eq, v9_eq, v9_eq]
  rfl

end Cert.Reference3Ideal.Read

end
-- ==== Proof.InProj.lean ====
/-
  The input projection: each array the call's slices give is the reference's, whatever the arguments.
-/
module

public import proofs.«01_k».proof.Proof.Gen.Kernel2Ideal.Frame
public import proofs.«01_k».proof.Proof.Gen.Reference2Ideal.Read
public import Idealize.ShloMosaic.Lib.Pointwise
public import Idealize.ShloMosaic.Lib.Pipeline.ValueKit
public import Idealize.ShloMosaic.Lib.Claim

@[expose] public section

set_option maxRecDepth 16384

noncomputable section

namespace Cert.Kernel2Ideal.Value

open Idealize.ShloMosaic Idealize.SL.Sem Cert.Kernel2Ideal.Gen

/-- One element of the projection. -/
def PROJ (h : FVec Ideal S24576x4096 .f32) (w : FVec Ideal S4096x20960 .f32) (r : Fin 24576) (j : Fin 20960) : EReal :=
  ∑ k : Fin 4096, h (ix2 r k) * w (ix2 k j)

/-- `n` columns of the projection, from column `o`. -/
def cols (n o : ℕ) (h : FVec Ideal S24576x4096 .f32) (w : FVec Ideal S4096x20960 .f32) (ho : o + n ≤ 20960 := by decide) :
    FVec Ideal ⟨2, ![24576, n]⟩ .f32 :=
  fun i => PROJ h w (i 0) ⟨o + (i 1).val, by have : (i 1).val < n := (i 1).isLt; omega⟩

/-- The packed weights: the slices in the order the products are stored in, padded with zero columns. -/
def packed (x : FVec Ideal S4096x20960 .bf16) : FVec Ideal S4096x21504 .bf16 :=
  concatenate S4096x21504 1
    [
      ⟨S4096x12288, extractStridedSlice S4096x12288 ![0, 8672] x slices_S4096x20960_S4096x12288_0_8672⟩,
      ⟨S4096x2048, extractStridedSlice S4096x2048 ![0, 1472] x slices_S4096x20960_S4096x2048_0_1472⟩,
      ⟨S4096x1024, extractStridedSlice S4096x1024 ![0, 4544] x slices_S4096x20960_S4096x1024_0_4544⟩,
      ⟨S4096x1024, extractStridedSlice S4096x1024 ![0, 5568] x slices_S4096x20960_S4096x1024_0_5568⟩,
      ⟨S4096x1024, extractStridedSlice S4096x1024 ![0, 6592] x slices_S4096x20960_S4096x1024_0_6592⟩,
      ⟨S4096x1024, extractStridedSlice S4096x1024 ![0, 7616] x slices_S4096x20960_S4096x1024_0_7616⟩,
      ⟨S4096x896, extractStridedSlice S4096x896 ![0, 0] x slices_S4096x20960_S4096x896_0_0⟩,
      ⟨S4096x128, broadcastInDim S4096x128 ![] bcast_S_S4096x128 (constant (F := Ideal) S_ .bf16 0x0000#16)⟩,
      ⟨S4096x512, extractStridedSlice S4096x512 ![0, 896] x slices_S4096x20960_S4096x512_0_896⟩,
      ⟨S4096x512, extractStridedSlice S4096x512 ![0, 3520] x slices_S4096x20960_S4096x512_0_3520⟩,
      ⟨S4096x512, extractStridedSlice S4096x512 ![0, 4032] x slices_S4096x20960_S4096x512_0_4032⟩,
      ⟨S4096x64, extractStridedSlice S4096x64 ![0, 1408] x slices_S4096x20960_S4096x64_0_1408⟩,
      ⟨S4096x64, broadcastInDim S4096x64 ![] bcast_S_S4096x64 (constant (F := Ideal) S_ .bf16 0x0000#16)⟩,
      ⟨S4096x32, extractStridedSlice S4096x32 ![0, 8640] x slices_S4096x20960_S4096x32_0_8640⟩,
      ⟨S4096x96, broadcastInDim S4096x96 ![] bcast_S_S4096x96 (constant (F := Ideal) S_ .bf16 0x0000#16)⟩,
      ⟨S4096x256, broadcastInDim S4096x256 ![] bcast_S_S4096x256 (constant (F := Ideal) S_ .bf16 0x0000#16)⟩]
    concatenates_S4096x12288_S4096x2048_S4096x1024_S4096x1024_S4096x1024_S4096x1024_S4096x896_S4096x128_S4096x512_S4096x512_S4096x512_S4096x64_S4096x64_S4096x32_S4096x96_S4096x256_S4096x21504_d1

/-- Where the slices lie: the first packed column, the width and the first column in the weights. -/
def lay : List (ℕ × ℕ × ℕ) :=
  [(0, 12288, 8672), (12288, 2048, 1472), (14336, 1024, 4544), (15360, 1024, 5568), (16384, 1024, 6592), (17408, 1024, 7616), (18432, 896, 0), (19456, 512, 896), (19968, 512, 3520), (20480, 512, 4032), (20992, 64, 1408), (21120, 32, 8640)]

theorem packed_at (w : FVec Ideal S4096x20960 .bf16) (p n o : ℕ) (hm : (p, n, o) ∈ lay) (k : Fin 4096) (l : Fin 21504) (j : Fin 20960)
    (h : p ≤ l.val ∧ l.val < p + n ∧ j.val + p = l.val + o) : packed w (ix2 k l) = w (ix2 k j) := by
  revert p n o
  pointwise [packed]
  intro p n o hm h
  simp only [lay, List.mem_cons, List.not_mem_nil, or_false, Prod.mk.injEq] at hm
  obtain ⟨h1, h2, h3⟩ := h
  rcases hm with ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩
  all_goals
    repeat first | rw [dif_pos (by omega)] | rw [dif_neg (by omega)]
    exact congrArg (fun R => w (ix2 k R)) (Fin.ext (by simp only; omega))

theorem pay (h : Vec Ideal S1024x4096 .bf16) (w : Vec Ideal S4096x512 .bf16) (r : Fin 1024) (l : Fin 512) :
    k0_pay1 (F := Ideal) h w (ix2 r l) = ∑ k : Fin 4096, h (ix2 r k) * w (ix2 k l) := by
  pointwise [k0_pay1]

variable (m : (ℓ : Loc nD τ sig) → Buf (Elt Ideal) ℓ)

theorem V_h (c : Dev nD) : V m c main_v0 = truncf (F := Ideal) .bf16 (m ((c.tc : Thread nD τ).loc main_arg0)) bitsLt_bf16_f32 := by
  entry_read
  rfl

theorem V_w (c : Dev nD) : V m c main_v18 = packed (truncf (F := Ideal) .bf16 (m ((c.tc : Thread nD τ).loc main_arg1)) bitsLt_bf16_f32) := by
  unfold packed
  unfold_abbrev_sides
  after_results
  rfl

theorem idx : ∀ t : Fin cfg0.N, win0_0.index t = ![t.val / 42, 0] ∧ win0_1.index t = ![0, t.val % 42] ∧ win0_2.index t = ![t.val / 42, t.val % 42] :=
  (by decide +kernel : ∀ t : Fin grid0.N, _)

theorem blk_h (c : Dev nD) (t : Fin cfg0.N) (ht : t.val < 1008) (r : Fin 1024) (k : Fin 4096) :
    iblk m c 0 t (ix2 r k) = V m c main_v0 (ix2 ⟨t.val / 42 * 1024 + r.val, by omega⟩ k) := by
  blk_ext [iblk, idx t]

theorem blk_w (c : Dev nD) (t : Fin cfg0.N) (ht : t.val < 1008) (k : Fin 4096) (l : Fin 512) :
    iblk m c 1 t (ix2 k l) = V m c main_v18 (ix2 k ⟨t.val % 42 * 512 + l.val, by omega⟩) := by
  blk_ext [iblk, idx t]

/-- One element of the packed product. -/
def OUT (h : FVec Ideal S24576x4096 .f32) (w : FVec Ideal S4096x20960 .f32) (r : Fin 24576) (l : Fin 21504) : EReal :=
  ∑ k : Fin 4096, h (ix2 r k) * packed (truncf (F := Ideal) .bf16 w bitsLt_bf16_f32) (ix2 k l)

theorem core (c : Dev nD) (t : Fin cfg0.N) (ht : t.val < 1008) (r : Fin 1024) (l : Fin 512) (R : Fin 24576) (L : Fin 21504)
    (hR : R.val = t.val / 42 * 1024 + r.val) (hL : L.val = t.val % 42 * 512 + l.val) :
    k0_pay1 (F := Ideal) (iblk m c 0 t) (iblk m c 1 t) (ix2 r l)
      = OUT (m ((c.tc : Thread nD τ).loc main_arg0)) (m ((c.tc : Thread nD τ).loc main_arg1)) R L := by
  have hr : (⟨t.val / 42 * 1024 + r.val, by omega⟩ : Fin 24576) = R := Fin.ext hR.symm
  have hl : (⟨t.val % 42 * 512 + l.val, by omega⟩ : Fin 21504) = L := Fin.ext hL.symm
  rw [pay]
  simp only [blk_h m c t ht, blk_w m c t ht, hr, hl]
  rw [V_h, V_w]
  rfl

theorem final (c : Dev nD) : (dats m 0 c).arrAt 2 cfg0.N = fun i =>
    OUT (m ((c.tc : Thread nD τ).loc main_arg0)) (m ((c.tc : Thread nD τ).loc main_arg1)) (i 0) (i 1) := by
  refine (dats m 0 c).arrAt_eq_of_covers 2 _ (by decide +kernel) fun t hf y => ?_
  blk_simp
  rw [after0_2]
  frame_out
  have ht : t.val < 1008 := lt_of_lt_of_eq t.isLt N_0
  obtain ⟨r, l, rfl⟩ : ∃ r l, y = ix2 r l := ⟨y 0, y 1, eq_ix2 y⟩
  refine core m c t ht r l _ _ ?_ ?_
  · blk_simp [idx t]
  · blk_simp [idx t]

theorem OUT_eq (h : FVec Ideal S24576x4096 .f32) (w : FVec Ideal S4096x20960 .f32) (r : Fin 24576) (l : Fin 21504) (j : Fin 20960) (p n o : ℕ) (hm : (p, n, o) ∈ lay)
    (hj : p ≤ l.val ∧ l.val < p + n ∧ j.val + p = l.val + o) : OUT h w r l = PROJ h w r j :=
  Finset.sum_congr rfl fun k _ => congrArg (h (ix2 r k) * ·) (packed_at _ p n o hm k l j hj)

/-- The packed product, as the host lines after the region find it. -/
theorem arr (c : Dev nD) : Pipeline.withArrays (cfgs 0).spec c (V0 m c) (fun w => (dats m 0 c).arrAt w (cfgs 0).N) (Proc.tc.devRef main_v19)
    = fun i => OUT (m ((c.tc : Thread nD τ).loc main_arg0)) (m ((c.tc : Thread nD τ).loc main_arg1)) (i 0) (i 1) :=
  (Pipeline.withArrays_arr (cfgs 0).spec launch0.win.arr_inj c (V0 m c) (fun w => (dats m 0 c).arrAt w (cfgs 0).N) 2).trans (final m c)

theorem slice_cols (h : FVec Ideal S24576x4096 .f32) (w : FVec Ideal S4096x20960 .f32) (n p o : ℕ) (hs : S24576x21504.Slices ![0, p] ⟨2, ![24576, n]⟩)
    (hp : p + n ≤ 21504) (ho : o + n ≤ 20960) (hm : (p, n, o) ∈ lay) :
    extractStridedSlice ⟨2, ![24576, n]⟩ ![0, p] (fun i => OUT h w (i 0) (i 1) : FVec Ideal S24576x21504 .f32) hs = cols n o h w ho := by
  funext i
  have hi : (i 1).val < n := (i 1).isLt
  exact (extractStridedSlice_apply ![0, p] _ hs i (ix2 (i 0) ⟨p + (i 1).val, by omega⟩) (fun a => match a with
    | ⟨0, _⟩ => by show (i 0).val = 0 + (i 0).val; omega
    | ⟨1, _⟩ => rfl)).trans (OUT_eq h w (i 0) ⟨p + (i 1).val, by omega⟩ ⟨o + (i 1).val, by omega⟩ p n o hm ⟨by simp only; omega, by simp only; omega, by simp only; omega⟩)

theorem slices (c : Dev nD) :
    Pipeline.afterTail₀ cfgs (dats m) 0 (V0 m) [hostOps1] c main_v20 = cols 896 0 (m ((c.tc : Thread nD τ).loc main_arg0)) (m ((c.tc : Thread nD τ).loc main_arg1))
    ∧ Pipeline.afterTail₀ cfgs (dats m) 0 (V0 m) [hostOps1] c main_v21 = cols 512 896 (m ((c.tc : Thread nD τ).loc main_arg0)) (m ((c.tc : Thread nD τ).loc main_arg1))
    ∧ Pipeline.afterTail₀ cfgs (dats m) 0 (V0 m) [hostOps1] c main_v22 = cols 64 1408 (m ((c.tc : Thread nD τ).loc main_arg0)) (m ((c.tc : Thread nD τ).loc main_arg1))
    ∧ Pipeline.afterTail₀ cfgs (dats m) 0 (V0 m) [hostOps1] c main_v23 = cols 2048 1472 (m ((c.tc : Thread nD τ).loc main_arg0)) (m ((c.tc : Thread nD τ).loc main_arg1))
    ∧ Pipeline.afterTail₀ cfgs (dats m) 0 (V0 m) [hostOps1] c main_v24 = cols 512 3520 (m ((c.tc : Thread nD τ).loc main_arg0)) (m ((c.tc : Thread nD τ).loc main_arg1))
    ∧ Pipeline.afterTail₀ cfgs (dats m) 0 (V0 m) [hostOps1] c main_v25 = cols 512 4032 (m ((c.tc : Thread nD τ).loc main_arg0)) (m ((c.tc : Thread nD τ).loc main_arg1))
    ∧ Pipeline.afterTail₀ cfgs (dats m) 0 (V0 m) [hostOps1] c main_v26 = cols 1024 4544 (m ((c.tc : Thread nD τ).loc main_arg0)) (m ((c.tc : Thread nD τ).loc main_arg1))
    ∧ Pipeline.afterTail₀ cfgs (dats m) 0 (V0 m) [hostOps1] c main_v27 = cols 1024 5568 (m ((c.tc : Thread nD τ).loc main_arg0)) (m ((c.tc : Thread nD τ).loc main_arg1))
    ∧ Pipeline.afterTail₀ cfgs (dats m) 0 (V0 m) [hostOps1] c main_v28 = cols 1024 6592 (m ((c.tc : Thread nD τ).loc main_arg0)) (m ((c.tc : Thread nD τ).loc main_arg1))
    ∧ Pipeline.afterTail₀ cfgs (dats m) 0 (V0 m) [hostOps1] c main_v29 = cols 1024 7616 (m ((c.tc : Thread nD τ).loc main_arg0)) (m ((c.tc : Thread nD τ).loc main_arg1))
    ∧ Pipeline.afterTail₀ cfgs (dats m) 0 (V0 m) [hostOps1] c main_v30 = cols 32 8640 (m ((c.tc : Thread nD τ).loc main_arg0)) (m ((c.tc : Thread nD τ).loc main_arg1))
    ∧ Pipeline.afterTail₀ cfgs (dats m) 0 (V0 m) [hostOps1] c main_v31 = cols 12288 8672 (m ((c.tc : Thread nD τ).loc main_arg0)) (m ((c.tc : Thread nD τ).loc main_arg1)) := by
  have e := arr m c
  unfold Pipeline.afterTail₀
  simp only [hostOps1, List.flatten_cons, List.flatten_nil, List.append_nil]
  refine ⟨?_, ?_, ?_, ?_, ?_, ?_, ?_, ?_, ?_, ?_, ?_, ?_⟩
  all_goals
    after_results
    rw [e]
    exact slice_cols _ _ _ _ _ _ (by omega) _ (by decide)

end Cert.Kernel2Ideal.Value

namespace Cert.Reference2Ideal.Read

open Idealize.ShloMosaic Idealize.SL.Sem Cert.Reference2Ideal.Gen

variable (x0 : FVec Ideal S24576x4096 .f32) (x1 : FVec Ideal S4096x20960 .f32)

theorem v0_eq (r : Fin 24576) (j : Fin 20960) : val_main_v0 (F := Ideal) x0 x1 (ix2 r j) = Cert.Kernel2Ideal.Value.PROJ x0 x1 r j := by
  pointwise [val_main_v0, Cert.Kernel2Ideal.Value.PROJ]

theorem slices :
    val_main_v1 (F := Ideal) x0 x1 = Cert.Kernel2Ideal.Value.cols 896 0 x0 x1
    ∧ val_main_v2 (F := Ideal) x0 x1 = Cert.Kernel2Ideal.Value.cols 512 896 x0 x1
    ∧ val_main_v3 (F := Ideal) x0 x1 = Cert.Kernel2Ideal.Value.cols 64 1408 x0 x1
    ∧ val_main_v4 (F := Ideal) x0 x1 = Cert.Kernel2Ideal.Value.cols 2048 1472 x0 x1
    ∧ val_main_v5 (F := Ideal) x0 x1 = Cert.Kernel2Ideal.Value.cols 512 3520 x0 x1
    ∧ val_main_v6 (F := Ideal) x0 x1 = Cert.Kernel2Ideal.Value.cols 512 4032 x0 x1
    ∧ val_main_v7 (F := Ideal) x0 x1 = Cert.Kernel2Ideal.Value.cols 1024 4544 x0 x1
    ∧ val_main_v8 (F := Ideal) x0 x1 = Cert.Kernel2Ideal.Value.cols 1024 5568 x0 x1
    ∧ val_main_v9 (F := Ideal) x0 x1 = Cert.Kernel2Ideal.Value.cols 1024 6592 x0 x1
    ∧ val_main_v10 (F := Ideal) x0 x1 = Cert.Kernel2Ideal.Value.cols 1024 7616 x0 x1
    ∧ val_main_v11 (F := Ideal) x0 x1 = Cert.Kernel2Ideal.Value.cols 32 8640 x0 x1
    ∧ val_main_v12 (F := Ideal) x0 x1 = Cert.Kernel2Ideal.Value.cols 12288 8672 x0 x1 := by
  have e := v0_eq x0 x1
  unfold val_main_v1 val_main_v2 val_main_v3 val_main_v4 val_main_v5 val_main_v6 val_main_v7 val_main_v8 val_main_v9 val_main_v10 val_main_v11 val_main_v12
  generalize val_main_v0 (F := Ideal) x0 x1 = y at *
  refine ⟨?_, ?_, ?_, ?_, ?_, ?_, ?_, ?_, ?_, ?_, ?_, ?_⟩
  all_goals
    funext i
    obtain ⟨r, l, rfl⟩ : ∃ r l, i = ix2 r l := ⟨i 0, i 1, eq_ix2 i⟩
    refine Eq.trans ?_ (e r _)
    pointwise

end Cert.Reference2Ideal.Read

end
-- ==== Proof.Latent.lean ====
/-
  The expansion of the latent into keys and values: both arrays the call leaves are the reference's, whatever the
  arguments.
-/
module

public import proofs.«01_k».proof.Proof.Gen.Kernel12Ideal.Value
public import proofs.«01_k».proof.Proof.Gen.Reference12Ideal.Read
public import Idealize.ShloMosaic.Lib.Pointwise
public import Idealize.ShloMosaic.Lib.Pipeline.ValueKit
public import Idealize.ShloMosaic.Lib.Claim

@[expose] public section

set_option maxRecDepth 16384

noncomputable section

namespace Cert.Latent

open Idealize.ShloMosaic

/-- One element of the packed keys: the head's own columns of the product, the shared rotary key, then zeros. -/
def outK (x : FVec Ideal ⟨2, ![28672, 512]⟩ .bf16) (kr : FVec Ideal ⟨2, ![28672, 64]⟩ .bf16) (w : FVec Ideal ⟨2, ![512, 2048]⟩ .f32)
    (r : Fin 28672) (l : Fin 2048) : EReal :=
  if l.val % 256 < 128 then ∑ k : Fin 512, x (ix2 r k) * w (ix2 k l)
  else if h : l.val % 256 - 128 < 64 then kr (ix2 r ⟨l.val % 256 - 128, h⟩) else 0

/-- One element of the values: the second half of each head's columns of the product. -/
def outV (x : FVec Ideal ⟨2, ![28672, 512]⟩ .bf16) (w : FVec Ideal ⟨2, ![512, 2048]⟩ .f32) (r : Fin 28672) (l : Fin 1024) : EReal :=
  ∑ k : Fin 512, x (ix2 r k) * w (ix2 k ⟨l.val / 128 * 256 + (128 + l.val % 128), by omega⟩)

end Cert.Latent

namespace Cert.Kernel12Ideal.Value

open Idealize.ShloMosaic Idealize.SL.Sem Cert.Kernel12Ideal.Gen Cert.Latent

section

variable (x : Vec Ideal S512x512 .bf16) (w : Vec Ideal S512x1024 .bf16) (r : Fin 512)

theorem pay5 (l : Fin 1024) : k0_pay5 (F := Ideal) x w (ix2 r l) = ∑ k : Fin 512, x (ix2 r k) * w (ix2 k l) := by pointwise [k0_pay5]

theorem pay4 (l : Fin 1024) : k0_pay4 (F := Ideal) x w (ix2 r l) = ∑ k : Fin 512, x (ix2 r k) * w (ix2 k l) := by pointwise [k0_pay4]

theorem pay6 (v : Vec Ideal S512x128 .bf16) (d : Fin 128) : k0_pay6 (F := Ideal) v (ix2 r d) = v (ix2 r d) := by pointwise [k0_pay6]

variable (y : FVec Ideal S512x1024 .bf16) (d : Fin 128)

theorem pay1 : k0_pay1 (F := Ideal) y (ix2 r d) = y (ix2 r ⟨640 + d.val, by omega⟩) := by pointwise [k0_pay1]

theorem pay2 : k0_pay2 (F := Ideal) y (ix2 r d) = y (ix2 r ⟨768 + d.val, by omega⟩) := by pointwise [k0_pay2]

theorem pay3 : k0_pay3 (F := Ideal) y (ix2 r d) = y (ix2 r ⟨896 + d.val, by omega⟩) := by pointwise [k0_pay3]

theorem pay7 : k0_pay7 (F := Ideal) x w (ix2 r d) = k0_pay5 (F := Ideal) x w (ix2 r ⟨0 + d.val, by omega⟩) := by
  unfold k0_pay7; generalize k0_pay5 (F := Ideal) x w = y; pointwise

theorem pay8 : k0_pay8 (F := Ideal) x w (ix2 r d) = k0_pay5 (F := Ideal) x w (ix2 r ⟨128 + d.val, by omega⟩) := by
  unfold k0_pay8; generalize k0_pay5 (F := Ideal) x w = y; pointwise

theorem pay9 : k0_pay9 (F := Ideal) x w (ix2 r d) = k0_pay5 (F := Ideal) x w (ix2 r ⟨256 + d.val, by omega⟩) := by
  unfold k0_pay9; generalize k0_pay5 (F := Ideal) x w = y; pointwise

theorem pay10 : k0_pay10 (F := Ideal) x w (ix2 r d) = k0_pay5 (F := Ideal) x w (ix2 r ⟨384 + d.val, by omega⟩) := by
  unfold k0_pay10; generalize k0_pay5 (F := Ideal) x w = y; pointwise

theorem pay11 : k0_pay11 (F := Ideal) x w (ix2 r d) = k0_pay5 (F := Ideal) x w (ix2 r ⟨512 + d.val, by omega⟩) := by
  unfold k0_pay11; generalize k0_pay5 (F := Ideal) x w = y; pointwise

end

theorem zero_value (i : S_.Idx) : sitofp (F := Ideal) .bf16 (constantI S_ 32 0#32) i = 0 := by
  simp [sitofp, constantI, FloatOps.sitofp]

/-- The packed weights: each head's key columns, then each head's value columns. -/
def packed (x : FVec Ideal S512x2048 .bf16) : FVec Ideal S512x2048 .bf16 :=
  concatenate S512x2048 1
    [⟨S512x1024, shapeCast S512x1024 (extractStridedSlice S512x8x128 ![0, 0, 0] (shapeCast S512x8x256 x shapeCasts_S512x2048_S512x8x256) slices_S512x8x256_S512x8x128_0_0_0) shapeCasts_S512x8x128_S512x1024⟩,
      ⟨S512x1024, shapeCast S512x1024 (extractStridedSlice S512x8x128 ![0, 0, 128] (shapeCast S512x8x256 x shapeCasts_S512x2048_S512x8x256) slices_S512x8x256_S512x8x128_0_0_128) shapeCasts_S512x8x128_S512x1024⟩]
    concatenates_S512x1024_S512x1024_S512x2048_d1

variable (m : (ℓ : Loc nD τ sig) → Buf (Elt Ideal) ℓ)

theorem V_w (c : Dev nD) : V m c main_v7 = packed (truncf (F := Ideal) .bf16 (m ((c.tc : Thread nD τ).loc main_arg2)) bitsLt_bf16_f32) := by
  unfold packed
  unfold_abbrev_sides
  simp only [hostOps0, hostOps0_1, hostOps0_2, List.flatten_cons, List.flatten_nil, List.append_nil, List.cons_append, List.nil_append]
  after_results
  rfl

theorem V_kr' (c : Dev nD) : V m c main_v0 = pad S28672x128 ![0, 0] ![0, 64] ![0, 0] (m ((c.tc : Thread nD τ).loc main_arg1))
    (sitofp (F := Ideal) .bf16 (constantI S_ 32 0#32)) pads_S28672x64_S28672x128_000_0640 h_S_ := by
  unfold_abbrev_sides
  simp only [hostOps0, hostOps0_1, hostOps0_2, List.flatten_cons, List.flatten_nil, List.append_nil, List.cons_append, List.nil_append]
  after_results
  rfl

theorem padded (x : FVec Ideal S28672x64 .bf16) (v : FVec Ideal S_ .bf16) (hv : ∀ i, v i = (0 : EReal)) (r : Fin 28672) (l : Fin 128) :
    pad S28672x128 ![0, 0] ![0, 64] ![0, 0] x v pads_S28672x64_S28672x128_000_0640 h_S_ (ix2 r l)
      = if h : l.val < 64 then (x (ix2 r ⟨l.val, h⟩) : EReal) else 0 := by
  pointwise
  by_cases h : l.val < 64
  · rw [dif_pos h, dif_pos h]
  · rw [dif_neg h, dif_neg h, hv]

theorem V_kr (c : Dev nD) (r : Fin 28672) (l : Fin 128) : V m c main_v0 (ix2 r l)
    = if h : l.val < 64 then ((show FVec Ideal S28672x64 .bf16 from m ((c.tc : Thread nD τ).loc main_arg1)) (ix2 r ⟨l.val, h⟩) : EReal) else 0 :=
  (congrFun (V_kr' m c) _).trans (padded _ _ zero_value r l)

theorem V_wk (c : Dev nD) (k : Fin 512) (l : Fin 1024) : V m c main_v7 (ix2 k ⟨l.val, by omega⟩)
    = m ((c.tc : Thread nD τ).loc main_arg2) (ix2 k ⟨l.val / 128 * 256 + l.val % 128, by omega⟩) := by
  refine (congrFun (V_w m c) _).trans ?_
  pointwise [packed]

theorem V_wv (c : Dev nD) (k : Fin 512) (l : Fin 1024) : V m c main_v7 (ix2 k ⟨1024 + l.val, by omega⟩)
    = m ((c.tc : Thread nD τ).loc main_arg2) (ix2 k ⟨l.val / 128 * 256 + (128 + l.val % 128), by omega⟩) := by
  refine (congrFun (V_w m c) _).trans ?_
  pointwise [packed]

theorem idx : ∀ t : Fin cfg0.N, win0_0.index t = ![t.val, 0] ∧ win0_1.index t = ![t.val, 0] ∧ win0_2.index t = ![0, 0] ∧
    win0_3.index t = ![0, 1] ∧ win0_4.index t = ![t.val, 0] ∧ win0_5.index t = ![t.val, 0] :=
  (by decide +kernel : ∀ t : Fin grid0.N, _)

theorem blk_x (c : Dev nD) (t : Fin cfg0.N) (ht : t.val < 56) (r : Fin 512) (k : Fin 512) :
    iblk m c 0 t (ix2 r k) = V m c main_arg0 (ix2 ⟨t.val * 512 + r.val, by omega⟩ k) := by
  blk_ext [iblk, idx t]

theorem blk_kr (c : Dev nD) (t : Fin cfg0.N) (ht : t.val < 56) (r : Fin 512) (d : Fin 128) :
    iblk m c 1 t (ix2 r d) = V m c main_v0 (ix2 ⟨t.val * 512 + r.val, by omega⟩ d) := by
  blk_ext [iblk, idx t]

theorem blk_wk (c : Dev nD) (t : Fin cfg0.N) (k : Fin 512) (l : Fin 1024) : iblk m c 2 t (ix2 k l) = V m c main_v7 (ix2 k ⟨l.val, by omega⟩) := by
  blk_ext [iblk, idx t]

theorem blk_wv (c : Dev nD) (t : Fin cfg0.N) (k : Fin 512) (l : Fin 1024) : iblk m c 3 t (ix2 k l) = V m c main_v7 (ix2 k ⟨1024 + l.val, by omega⟩) := by
  blk_ext [iblk, idx t]

/-- A stored piece of a head's own columns. -/
theorem core_k (c : Dev nD) (t : Fin cfg0.N) (ht : t.val < 56) (o : ℕ) (ho : o % 128 = 0) (hn : o + 128 ≤ 1024) (r : Fin 512) (d : Fin 128)
    (R : Fin 28672) (L : Fin 2048) (hR : R.val = t.val * 512 + r.val) (hL : L.val = o * 2 + d.val) :
    k0_pay5 (F := Ideal) (iblk m c 0 t) (iblk m c 2 t) (ix2 r ⟨o + d.val, by omega⟩)
      = outK (m ((c.tc : Thread nD τ).loc main_arg0)) (m ((c.tc : Thread nD τ).loc main_arg1)) (m ((c.tc : Thread nD τ).loc main_arg2)) R L := by
  have hr : (⟨t.val * 512 + r.val, by omega⟩ : Fin 28672) = R := Fin.ext hR.symm
  have hl : (⟨(o + d.val) / 128 * 256 + (o + d.val) % 128, by omega⟩ : Fin 2048) = L := Fin.ext (by simp only; omega)
  unfold outK
  rw [pay5, if_pos (by omega)]
  refine Finset.sum_congr rfl fun k _ => ?_
  rw [blk_x m c t ht, blk_wk, V_main_arg0, hr]
  exact congrArg (HMul.hMul (α := EReal) (β := EReal) (γ := EReal) (m ((c.tc : Thread nD τ).loc main_arg0) (ix2 R k)))
    ((V_wk m c k ⟨o + d.val, by omega⟩).trans (congrArg (fun z => m ((c.tc : Thread nD τ).loc main_arg2) (ix2 k z)) hl))

/-- A stored piece of the shared rotary key. -/
theorem core_kr (c : Dev nD) (t : Fin cfg0.N) (ht : t.val < 56) (r : Fin 512) (d : Fin 128)
    (R : Fin 28672) (L : Fin 2048) (hR : R.val = t.val * 512 + r.val) (hL : L.val % 256 = 128 + d.val) :
    k0_pay6 (F := Ideal) (iblk m c 1 t) (ix2 r d)
      = outK (m ((c.tc : Thread nD τ).loc main_arg0)) (m ((c.tc : Thread nD τ).loc main_arg1)) (m ((c.tc : Thread nD τ).loc main_arg2)) R L := by
  have hr : (⟨t.val * 512 + r.val, by omega⟩ : Fin 28672) = R := Fin.ext hR.symm
  have hd : L.val % 256 - 128 = d.val := by omega
  unfold outK
  rw [pay6, blk_kr m c t ht, V_kr, if_neg (by omega), hr]
  simp only [hd]

theorem core_v (c : Dev nD) (t : Fin cfg0.N) (ht : t.val < 56) (r : Fin 512) (l : Fin 1024) (R : Fin 28672) (L : Fin 1024)
    (hR : R.val = t.val * 512 + r.val) (hL : L.val = l.val) :
    k0_pay4 (F := Ideal) (iblk m c 0 t) (iblk m c 3 t) (ix2 r l)
      = outV (m ((c.tc : Thread nD τ).loc main_arg0)) (m ((c.tc : Thread nD τ).loc main_arg2)) R L := by
  have hr : (⟨t.val * 512 + r.val, by omega⟩ : Fin 28672) = R := Fin.ext hR.symm
  obtain rfl : L = l := Fin.ext hL
  unfold outV
  rw [pay4]
  refine Finset.sum_congr rfl fun k _ => ?_
  rw [blk_x m c t ht, blk_wv, V_main_arg0, hr]
  exact congrArg (HMul.hMul (α := EReal) (β := EReal) (γ := EReal) (m ((c.tc : Thread nD τ).loc main_arg0) (ix2 R k))) (V_wv m c k L)

set_option maxHeartbeats 2000000 in
theorem final_4 (c : Dev nD) : (dats m 0 c).arrAt 4 cfg0.N = fun i =>
    outK (m ((c.tc : Thread nD τ).loc main_arg0)) (m ((c.tc : Thread nD τ).loc main_arg1)) (m ((c.tc : Thread nD τ).loc main_arg2)) (i 0) (i 1) := by
  refine (dats m 0 c).arrAt_eq_of_covers 4 _ (by decide +kernel) fun t hf y => ?_
  blk_simp
  rw [after0_4]
  have ht : t.val < 56 := lt_of_lt_of_eq t.isLt N_0
  unfold_out out0_4
  frame_out
  canon_tiles y h
  all_goals obtain ⟨r, d, rfl⟩ : ∃ r d, y = ix2 r d := ⟨y 0, y 1, eq_ix2 y⟩
  all_goals try simp only [pay1, pay2, pay3, pay7, pay8, pay9, pay10, pay11]
  all_goals
    have e0 : ((ix2 r d : (⟨2, ![512, 128]⟩ : Shape).Idx) 0).val = r.val := rfl
    have e1 : ((ix2 r d : (⟨2, ![512, 128]⟩ : Shape).Idx) 1).val = d.val := rfl
    rw [e0] at h0
    rw [e1] at h1
    first
    | exact core_kr m c t ht r d _ _ (by blk_simp [idx t]; omega) (by blk_simp [idx t]; omega)
    | exact core_k m c t ht _ (by decide) (by decide) r d _ _ (by blk_simp [idx t]; omega) (by blk_simp [idx t]; omega)

theorem final_5 (c : Dev nD) : (dats m 0 c).arrAt 5 cfg0.N = fun i =>
    outV (m ((c.tc : Thread nD τ).loc main_arg0)) (m ((c.tc : Thread nD τ).loc main_arg2)) (i 0) (i 1) := by
  refine (dats m 0 c).arrAt_eq_of_covers 5 _ (by decide +kernel) fun t hf y => ?_
  blk_simp
  rw [after0_5]
  have ht : t.val < 56 := lt_of_lt_of_eq t.isLt N_0
  frame_out
  obtain ⟨r, l, rfl⟩ : ∃ r l, y = ix2 r l := ⟨y 0, y 1, eq_ix2 y⟩
  refine core_v m c t ht r l _ _ ?_ ?_
  · blk_simp [idx t]
  · blk_simp [idx t]

end Cert.Kernel12Ideal.Value

namespace Cert.Reference12Ideal.Read

open Idealize.ShloMosaic Idealize.SL.Sem Cert.Reference12Ideal.Gen Cert.Latent

variable (x0 : FVec Ideal S28672x512 .bf16) (x1 : FVec Ideal S28672x64 .bf16) (x2 : FVec Ideal S512x2048 .f32)

theorem v1_eq (r : Fin 28672) (l : Fin 2048) : val_main_v1 (F := Ideal) x0 x2 (ix2 r l) = ∑ k : Fin 512, x0 (ix2 r k) * x2 (ix2 k l) := by
  pointwise [val_main_v1, val_main_v0]

theorem pad_value (i : S_.Idx) : val_main_call0_v0 (F := Ideal) i = 0 := by
  simp [val_main_call0_v0, val_main_c, sitofp, constantI, FloatOps.sitofp]

theorem pick {n q : ℕ} (hq : q < 8) (a z : EReal) (g : Fin 64 → EReal) :
    (if h : q < 8 ∧ n < 192 then if h' : n < 128 then a else g ⟨n - 128, by omega⟩ else z)
      = if n < 128 then a else if h : n - 128 < 64 then g ⟨n - 128, h⟩ else z := by
  by_cases h1 : n < 128
  · rw [dif_pos ⟨hq, by omega⟩, dif_pos h1, if_pos h1]
  · rw [if_neg h1]
    by_cases h2 : n < 192
    · rw [dif_pos ⟨hq, h2⟩, dif_neg h1, dif_pos (by omega)]
    · rw [dif_neg (fun h => h2 h.2), dif_neg (by omega)]

theorem keys_eq : val_main_v10 (F := Ideal) x0 x1 x2 = fun i => outK x0 x1 x2 (i 0) (i 1) := by
  funext i
  obtain ⟨r, l, rfl⟩ : ∃ r l, i = ix2 r l := ⟨i 0, i 1, eq_ix2 i⟩
  show _ = outK x0 x1 x2 r l
  unfold outK
  rw [← v1_eq]
  unfold val_main_v10 val_main_v9 val_main_v8 val_main_v7 val_main_v3 val_main_v2
  generalize val_main_v1 (F := Ideal) x0 x2 = y
  pointwise [val_main_v6, val_main_v5, val_main_v4]
  have hh : l.val / 256 < 8 := by omega
  exact (pick hh (y (ix2 r l)) _ (fun k => x1 (ix2 r k))).trans (by rw [pad_value])

theorem vals_eq : val_main_v13 (F := Ideal) x0 x2 = fun i => outV x0 x2 (i 0) (i 1) := by
  funext i
  obtain ⟨r, l, rfl⟩ : ∃ r l, i = ix2 r l := ⟨i 0, i 1, eq_ix2 i⟩
  show _ = outV x0 x2 r l
  unfold outV
  rw [← v1_eq x0 x2 r]
  unfold val_main_v13 val_main_v12 val_main_v11 val_main_v2
  generalize val_main_v1 (F := Ideal) x0 x2 = y
  pointwise

end Cert.Reference12Ideal.Read

end
-- ==== Proof.Modulate.lean ====
/-
  The modulation of the conditions and the modulated norm before the mixers: each array the calls leave is the
  reference's, whatever the arguments.
-/
module

public import proofs.«01_k».proof.Proof.Gen.Kernel9Ideal.Value
public import proofs.«01_k».proof.Proof.Gen.Kernel10Ideal.Value
public import proofs.«01_k».proof.Proof.Gen.Reference9Ideal.Read
public import proofs.«01_k».proof.Proof.Gen.Reference10Ideal.Read
public import proofs.«01_k».proof.Proof.Norm
public import proofs.«01_k».proof.Proof.Residual

@[expose] public section

set_option maxRecDepth 16384

noncomputable section

namespace Cert.Kernel9Ideal.Value

open Idealize.ShloMosaic Idealize.SL.Sem Cert.Kernel9Ideal.Gen

/-- One element of the modulation: the condition's activation against the weights, and the bias. -/
def OUT (x : FVec Ideal S16x4096 .f32) (w : FVec Ideal S4096x24576 .f32) (b : FVec Ideal S24576 .f32) (r : Fin 16) (l : Fin 24576) : EReal :=
  (∑ k : Fin 4096, x (ix2 r k) * Ideal.logistic (x (ix2 r k)) * w (ix2 k l)) + b (ix1 l)

theorem pay (x : Vec Ideal S16x4096 .f32) (w : Vec Ideal S4096x512 .f32) (b : Vec Ideal S1x512 .f32) (r : Fin 16) (l : Fin 512) :
    k0_pay1 (F := Ideal) x w b (ix2 r l)
      = (∑ k : Fin 4096, x (ix2 r k) * Ideal.logistic (x (ix2 r k)) * w (ix2 k l)) + b (ix2 0 l) := by
  pointwise [k0_pay1]

variable (m : (ℓ : Loc nD τ sig) → Buf (Elt Ideal) ℓ)

theorem V_b (c : Dev nD) (l : Fin 24576) : V m c main_v0 (ix2 0 l) = m ((c.tc : Thread nD τ).loc main_arg2) (ix1 l) := by
  entry_read
  pointwise

theorem idx : ∀ t : Fin cfg0.N, win0_0.index t = ![0, 0] ∧ win0_1.index t = ![0, t.val] ∧ win0_2.index t = ![0, t.val] ∧
    win0_3.index t = ![0, t.val] :=
  (by decide +kernel : ∀ t : Fin grid0.N, _)

theorem blk_x (c : Dev nD) (t : Fin cfg0.N) (r : Fin 16) (k : Fin 4096) : iblk m c 0 t (ix2 r k) = V m c main_arg0 (ix2 r k) := by
  blk_ext [iblk, idx t]

theorem blk_w (c : Dev nD) (t : Fin cfg0.N) (ht : t.val < 48) (k : Fin 4096) (l : Fin 512) :
    iblk m c 1 t (ix2 k l) = V m c main_arg1 (ix2 k ⟨t.val * 512 + l.val, by omega⟩) := by
  blk_ext [iblk, idx t]

theorem blk_b (c : Dev nD) (t : Fin cfg0.N) (ht : t.val < 48) (l : Fin 512) :
    iblk m c 2 t (ix2 0 l) = V m c main_v0 (ix2 0 ⟨t.val * 512 + l.val, by omega⟩) := by
  blk_ext [iblk, idx t]

theorem core (c : Dev nD) (t : Fin cfg0.N) (ht : t.val < 48) (r : Fin 16) (l : Fin 512) (R : Fin 16) (L : Fin 24576)
    (hR : R.val = r.val) (hL : L.val = t.val * 512 + l.val) :
    k0_pay1 (F := Ideal) (iblk m c 0 t) (iblk m c 1 t) (iblk m c 2 t) (ix2 r l)
      = OUT (m ((c.tc : Thread nD τ).loc main_arg0)) (m ((c.tc : Thread nD τ).loc main_arg1)) (m ((c.tc : Thread nD τ).loc main_arg2)) R L := by
  obtain rfl : R = r := Fin.ext hR
  have hl : (⟨t.val * 512 + l.val, by omega⟩ : Fin 24576) = L := Fin.ext hL.symm
  rw [pay, blk_b m c t ht, V_b, hl]
  simp only [blk_x m c t, blk_w m c t ht, hl, V_main_arg0, V_main_arg1]
  rfl

theorem final (c : Dev nD) : (dats m 0 c).arrAt 3 cfg0.N = fun i =>
    OUT (m ((c.tc : Thread nD τ).loc main_arg0)) (m ((c.tc : Thread nD τ).loc main_arg1)) (m ((c.tc : Thread nD τ).loc main_arg2)) (i 0) (i 1) := by
  refine (dats m 0 c).arrAt_eq_of_covers 3 _ (by decide +kernel) fun t hf y => ?_
  blk_simp
  rw [after0_3]
  frame_out
  have ht : t.val < 48 := lt_of_lt_of_eq t.isLt N_0
  obtain ⟨r, l, rfl⟩ : ∃ r l, y = ix2 r l := ⟨y 0, y 1, eq_ix2 y⟩
  refine core m c t ht r l _ _ ?_ ?_
  · blk_simp [idx t]
  · blk_simp [idx t]

end Cert.Kernel9Ideal.Value

namespace Cert.Reference9Ideal.Read

open Idealize.ShloMosaic Idealize.SL.Sem Cert.Reference9Ideal.Gen

variable (x0 : FVec Ideal S16x4096 .f32) (x1 : FVec Ideal S4096x24576 .f32) (x2 : FVec Ideal S24576 .f32)

theorem v0_eq (r : Fin 16) (k : Fin 4096) : val_main_v0 (F := Ideal) x0 (ix2 r k) = x0 (ix2 r k) * Ideal.logistic (x0 (ix2 r k)) := by
  pointwise [val_main_v0, val_main_call0_v5, val_main_call0_v4, val_main_call0_v3, val_main_call0_v2, val_main_call0_v1, val_main_call0_v0,
    val_main_call0_cst, val_main_call0_cst_0]
  rfl

theorem v1_eq (r : Fin 16) (l : Fin 24576) : val_main_v1 (F := Ideal) x0 x1 (ix2 r l)
    = ∑ k : Fin 4096, val_main_v0 (F := Ideal) x0 (ix2 r k) * x1 (ix2 k l) := by
  unfold val_main_v1
  generalize val_main_v0 (F := Ideal) x0 = y
  pointwise

theorem result_eq : val_main_v4 (F := Ideal) x0 x1 x2 = fun i => Cert.Kernel9Ideal.Value.OUT x0 x1 x2 (i 0) (i 1) := by
  funext i
  obtain ⟨r, l, rfl⟩ : ∃ r l, i = ix2 r l := ⟨i 0, i 1, eq_ix2 i⟩
  show _ = Cert.Kernel9Ideal.Value.OUT x0 x1 x2 r l
  unfold Cert.Kernel9Ideal.Value.OUT
  simp only [← v0_eq]
  rw [← v1_eq]
  unfold val_main_v4
  generalize val_main_v1 (F := Ideal) x0 x1 = y
  pointwise [val_main_v3, val_main_v2]

end Cert.Reference9Ideal.Read

namespace Cert.Kernel10Ideal.Value

open Idealize.ShloMosaic Idealize.SL.Sem Cert.Kernel10Ideal.Gen
open Cert.Kernel4Ideal.Value (modRow modRow_lt)

/-- One element of a modulated normalised row. -/
def modRms (x : Fin 4096 → EReal) (l : Fin 4096) (g sc sh : EReal) : EReal :=
  Cert.Norm.rms x l g * (Ideal.ofBits FTy.f32 1065353216#32 + sc) + sh

theorem pay (x : Vec Ideal S256x4096 .f32) (g : Vec Ideal S1x4096 .f32) (sc sh : Vec Ideal S1x1x4096 .f32) (r : Fin 256) (l : Fin 4096) :
    k0_pay1 (F := Ideal) x g sc sh (ix2 r l)
      = modRms (fun k => x (ix2 r k)) l (g (ix2 0 l)) (sc (ix3 0 0 l)) (sh (ix3 0 0 l)) := by
  pointwise [k0_pay1, modRms, Cert.Norm.rms]

variable (m : (ℓ : Loc nD τ sig) → Buf (Elt Ideal) ℓ)

theorem V_m (c : Dev nD) (a : Fin 16) (l : Fin 24576) : V m c main_v0 (ix3 a 0 l) = m ((c.tc : Thread nD τ).loc main_arg2) (ix2 a l) := by
  entry_read
  pointwise

theorem V_g (c : Dev nD) (l : Fin 4096) : V m c main_v1 (ix2 0 l) = m ((c.tc : Thread nD τ).loc main_arg1) (ix1 l) := by
  entry_read
  pointwise

theorem idx : ∀ t : Fin cfg0.N, win0_0.index t = ![t.val, 0] ∧ win0_1.index t = ![0, 0] ∧ win0_2.index t = ![modRow (t.val * 256), 0, 1] ∧
    win0_3.index t = ![modRow (t.val * 256), 0, 0] ∧ win0_4.index t = ![t.val, 0] :=
  (by decide +kernel : ∀ t : Fin grid0.N, _)

theorem blk_x (c : Dev nD) (t : Fin cfg0.N) (ht : t.val < 96) (r : Fin 256) (k : Fin 4096) :
    iblk m c 0 t (ix2 r k) = V m c main_arg0 (ix2 ⟨t.val * 256 + r.val, by omega⟩ k) := by
  blk_ext [iblk, idx t]

theorem blk_g (c : Dev nD) (t : Fin cfg0.N) (l : Fin 4096) : iblk m c 1 t (ix2 0 l) = V m c main_v1 (ix2 0 l) := by
  blk_ext [iblk, idx t]

theorem blk_sc (c : Dev nD) (t : Fin cfg0.N) (ht : t.val < 96) (l : Fin 4096) :
    iblk m c 2 t (ix3 0 0 l) = V m c main_v0 (ix3 ⟨modRow (t.val * 256), modRow_lt ⟨t.val * 256, by omega⟩⟩ 0 ⟨4096 + l.val, by omega⟩) := by
  blk_ext [iblk, idx t]

theorem blk_sh (c : Dev nD) (t : Fin cfg0.N) (ht : t.val < 96) (l : Fin 4096) :
    iblk m c 3 t (ix3 0 0 l) = V m c main_v0 (ix3 ⟨modRow (t.val * 256), modRow_lt ⟨t.val * 256, by omega⟩⟩ 0 ⟨l.val, by omega⟩) := by
  blk_ext [iblk, idx t]

/-- One element of the result: the row's normalised entry under its scale and shift. -/
def OUT (x : FVec Ideal S24576x4096 .f32) (g : FVec Ideal S4096 .f32) (md : FVec Ideal S16x24576 .f32) (r : Fin 24576) (l : Fin 4096) : EReal :=
  modRms (fun k => x (ix2 r k)) l (g (ix1 l)) (md (ix2 ⟨modRow r.val, modRow_lt r⟩ ⟨4096 + l.val, by omega⟩))
    (md (ix2 ⟨modRow r.val, modRow_lt r⟩ ⟨l.val, by omega⟩))

theorem core (c : Dev nD) (t : Fin cfg0.N) (ht : t.val < 96) (r : Fin 256) (l : Fin 4096) (R : Fin 24576) (L : Fin 4096)
    (hR : R.val = t.val * 256 + r.val) (hL : L.val = l.val) :
    k0_pay1 (F := Ideal) (iblk m c 0 t) (iblk m c 1 t) (iblk m c 2 t) (iblk m c 3 t) (ix2 r l)
      = OUT (m ((c.tc : Thread nD τ).loc main_arg0)) (m ((c.tc : Thread nD τ).loc main_arg1)) (m ((c.tc : Thread nD τ).loc main_arg2)) R L := by
  obtain rfl : L = l := Fin.ext hL
  have hr : (⟨t.val * 256 + r.val, by omega⟩ : Fin 24576) = R := Fin.ext hR.symm
  have hm : (⟨modRow (t.val * 256), modRow_lt ⟨t.val * 256, by omega⟩⟩ : Fin 16) = ⟨modRow R.val, modRow_lt R⟩ :=
    Fin.ext (by simp only [modRow]; split <;> split <;> omega)
  rw [pay, blk_g, V_g, blk_sc m c t ht, blk_sh m c t ht, V_m, V_m, hm]
  simp only [blk_x m c t ht, hr]
  rw [V_main_arg0]
  rfl

theorem final (c : Dev nD) : (dats m 0 c).arrAt 4 cfg0.N = fun i =>
    OUT (m ((c.tc : Thread nD τ).loc main_arg0)) (m ((c.tc : Thread nD τ).loc main_arg1)) (m ((c.tc : Thread nD τ).loc main_arg2)) (i 0) (i 1) := by
  refine (dats m 0 c).arrAt_eq_of_covers 4 _ (by decide +kernel) fun t hf y => ?_
  blk_simp
  rw [after0_4]
  frame_out
  have ht : t.val < 96 := lt_of_lt_of_eq t.isLt N_0
  obtain ⟨r, l, rfl⟩ : ∃ r l, y = ix2 r l := ⟨y 0, y 1, eq_ix2 y⟩
  refine core m c t ht r l _ _ ?_ ?_
  · blk_simp [idx t]
  · blk_simp [idx t]

end Cert.Kernel10Ideal.Value

namespace Cert.Reference10Ideal.Read

open Idealize.ShloMosaic Idealize.SL.Sem Cert.Reference10Ideal.Gen
open Cert.Kernel4Ideal.Value (modRow modRow_lt)
open Cert.Kernel10Ideal.Value (modRms)

variable (x0 : FVec Ideal S24576x4096 .f32) (x1 : FVec Ideal S4096 .f32) (x2 : FVec Ideal S16x24576 .f32)

theorem v8_eq (r : Fin 8192) : val_main_v8 (F := Ideal) x0 (ix1 r)
    = ∑ k : Fin 4096, x0 (ix2 ⟨r.val, by omega⟩ k) * x0 (ix2 ⟨r.val, by omega⟩ k) := by
  pointwise [val_main_v8, val_main_v7, val_main_v6, val_main_cst]

theorem v22_eq (l : Fin 4096) : val_main_v22 (F := Ideal) x2 (ix2 0 l) = Ideal.ofBits FTy.f32 1065353216#32 + x2 (ix2 0 ⟨4096 + l.val, by omega⟩) := by
  pointwise [val_main_v22, val_main_v21, val_main_v20, val_main_v1, val_main_cst_2]

theorem v25_eq (l : Fin 4096) : val_main_v25 (F := Ideal) x2 (ix2 0 l) = x2 (ix2 0 ⟨l.val, by omega⟩) := by
  pointwise [val_main_v25, val_main_v0]

theorem v27_eq (r : Fin 8192) (l : Fin 4096) : val_main_v27 (F := Ideal) x0 x1 x2 (ix2 r l)
    = modRms (fun k => x0 (ix2 ⟨r.val, by omega⟩ k)) l (x1 (ix1 l)) (x2 (ix2 0 ⟨4096 + l.val, by omega⟩)) (x2 (ix2 0 ⟨l.val, by omega⟩)) := by
  unfold modRms Cert.Norm.rms
  rw [← v8_eq, ← v22_eq, ← v25_eq x2 l]
  unfold val_main_v27 val_main_v26 val_main_v24 val_main_v23 val_main_v19 val_main_v16 val_main_v15 val_main_v14 val_main_v13 val_main_v11 val_main_v9
  generalize val_main_v8 (F := Ideal) x0 = s
  generalize val_main_v22 (F := Ideal) x2 = a
  generalize val_main_v25 (F := Ideal) x2 = b
  pointwise [val_main_v6, val_main_v10, val_main_v12, val_main_cst_0, val_main_cst_1, val_main_v17, val_main_v18]

theorem v29_eq (b : Fin 8) (q : Fin 2048) (l : Fin 4096) : val_main_v29 (F := Ideal) x0 (ix3 b q l)
    = x0 (ix2 ⟨8192 + (b.val * 2048 + q.val), by omega⟩ l) := by
  pointwise [val_main_v29, val_main_v28]

theorem v31_eq (b : Fin 8) (q : Fin 2048) : val_main_v31 (F := Ideal) x0 (ix2 b q)
    = ∑ k : Fin 4096, val_main_v29 (F := Ideal) x0 (ix3 b q k) * val_main_v29 (F := Ideal) x0 (ix3 b q k) := by
  unfold val_main_v31 val_main_v30
  generalize val_main_v29 (F := Ideal) x0 = s
  pointwise [val_main_cst_3]

theorem v46_eq (b : Fin 8) (l : Fin 4096) : val_main_v46 (F := Ideal) x2 (ix3 b 0 l)
    = Ideal.ofBits FTy.f32 1065353216#32 + x2 (ix2 ⟨1 + b.val, by omega⟩ ⟨4096 + l.val, by omega⟩) := by
  pointwise [val_main_v46, val_main_v45, val_main_v44, val_main_v43, val_main_v1, val_main_cst_6]

theorem v50_eq (b : Fin 8) (l : Fin 4096) : val_main_v50 (F := Ideal) x2 (ix3 b 0 l) = x2 (ix2 ⟨1 + b.val, by omega⟩ ⟨l.val, by omega⟩) := by
  pointwise [val_main_v50, val_main_v49, val_main_v0]

theorem v52_eq (b : Fin 8) (q : Fin 2048) (l : Fin 4096) : val_main_v52 (F := Ideal) x0 x1 x2 (ix3 b q l)
    = modRms (fun k => x0 (ix2 ⟨8192 + (b.val * 2048 + q.val), by omega⟩ k)) l (x1 (ix1 l))
      (x2 (ix2 ⟨1 + b.val, by omega⟩ ⟨4096 + l.val, by omega⟩)) (x2 (ix2 ⟨1 + b.val, by omega⟩ ⟨l.val, by omega⟩)) := by
  unfold modRms Cert.Norm.rms
  simp only [← v29_eq]
  rw [← v31_eq, ← v46_eq, ← v50_eq x2 b l]
  unfold val_main_v52 val_main_v51 val_main_v48 val_main_v47 val_main_v42 val_main_v39 val_main_v38 val_main_v37 val_main_v36 val_main_v34 val_main_v32
  generalize val_main_v31 (F := Ideal) x0 = s
  generalize val_main_v29 (F := Ideal) x0 = x
  generalize val_main_v46 (F := Ideal) x2 = a
  generalize val_main_v50 (F := Ideal) x2 = d
  pointwise [val_main_v33, val_main_v35, val_main_cst_4, val_main_cst_5, val_main_v40, val_main_v41]

theorem v53_eq (r : Fin 16384) (l : Fin 4096) : val_main_v53 (F := Ideal) x0 x1 x2 (ix2 r l)
    = val_main_v52 (F := Ideal) x0 x1 x2 (ix3 ⟨r.val / 2048, by omega⟩ ⟨r.val % 2048, by omega⟩ l) := by
  unfold val_main_v53
  generalize val_main_v52 (F := Ideal) x0 x1 x2 = y
  pointwise

theorem result_eq : val_main_v55 (F := Ideal) x0 x1 x2 = fun i => Cert.Kernel10Ideal.Value.OUT x0 x1 x2 (i 0) (i 1) := by
  funext i
  obtain ⟨r, l, rfl⟩ : ∃ r l, i = ix2 r l := ⟨i 0, i 1, eq_ix2 i⟩
  unfold val_main_v55 val_main_v54
  show _ = Cert.Kernel10Ideal.Value.OUT x0 x1 x2 r l
  unfold Cert.Kernel10Ideal.Value.OUT
  have e1 := v27_eq x0 x1 x2
  have e2 := v53_eq x0 x1 x2
  simp only [v52_eq] at e2
  generalize val_main_v27 (F := Ideal) x0 x1 x2 = a at *
  generalize val_main_v53 (F := Ideal) x0 x1 x2 = b at *
  by_cases h : r.val < 8192
  · have hm : (⟨modRow r.val, modRow_lt r⟩ : Fin 16) = 0 := Fin.ext (by simp [modRow, h])
    rw [hm, ← e1 ⟨r.val, h⟩ l]
    pointwise
    rw [dif_pos h]
  · have hm : (⟨modRow r.val, modRow_lt r⟩ : Fin 16) = ⟨1 + (r.val - 8192) / 2048, by omega⟩ :=
      Fin.ext (by simp [modRow, h])
    have hr : (⟨8192 + ((r.val - 8192) / 2048 * 2048 + (r.val - 8192) % 2048), by omega⟩ : Fin 24576) = r := Fin.ext (by simp only; omega)
    have e3 := e2 ⟨r.val - 8192, by omega⟩ l
    simp only [hr] at e3
    rw [hm, ← e3]
    pointwise
    rw [dif_neg h]

end Cert.Reference10Ideal.Read

end
-- ==== Proof.Finite.lean ====
/-
  The precondition read back: the queries, the new keys and the cached keys are real numbers.
-/
module

public import proofs.«01_k».proof.Pre_finite_qk
public import proofs.«01_k».proof.Proof.Soft
public import Idealize.ShloMosaic.Lib.ReduceAll

@[expose] public section

noncomputable section

namespace Cert.Finite

open Idealize.ShloMosaic Cert.Pre_finite_qk Cert.Soft

instance facts : Cert.Pre_finite_qk.Facts where
  bcast_S_S24576x2048 := by decide
  reducesTo_S24576x2048_S_d0_1 := by decide
  h_S_ := by decide
  bcast_S_S24576x512 := by decide
  reducesTo_S24576x512_S_d0_1 := by decide
  bcast_S_S8x512x4x128 := by decide
  reducesTo_S8x512x4x128_S_d0_1_2_3 := by decide

/-- An element whose absolute value compares below plus infinity is a real. -/
theorem real_of_cmp {x y : EReal} (hy : y = ⊤) (h : Ideal.cmp .olt (max x (-x)) y = 1#1) : IsReal x := by
  subst hy
  refine IsReal.of_abs_lt ?_
  by_contra hn
  simp [Ideal.cmp, hn] at h

theorem inf_eq : Ideal.ofBits .f32 0x7F800000#32 = ⊤ := by simp [Ideal.ofBits, Ideal.ieee]

instance : Subsingleton S_.Idx := ⟨fun _ _ => funext fun a => a.elim0⟩

theorem of_pre (x0 : FVec Ideal S24576x2048 .bf16) (x1 : FVec Ideal S24576x2048 .f32) (x2 x3 : FVec Ideal S24576x512 .f32)
    (x4 x5 : FVec Ideal S8x512x4x128 .f32) (h : Cert.Pre_finite_qk.fn (F := Ideal) x0 x1 x2 x3 x4 x5 = fun _ => 1#1) :
    (∀ i, IsReal (x1 i)) ∧ (∀ i, IsReal (x2 i)) ∧ (∀ i, IsReal (x4 i)) := by
  have e := congrFun h (Shape.Idx.first Facts.h_S_)
  simp only [Cert.Pre_finite_qk.fn, andi] at e
  obtain ⟨e12, e4⟩ := IntOp.andi_eq_one.1 e
  obtain ⟨e1, e2⟩ := IntOp.andi_eq_one.1 e12
  exact ⟨fun i => real_of_cmp inf_eq (Host.reduce_andi_all _ _ _ _ _ e1 i),
    fun i => real_of_cmp inf_eq (Host.reduce_andi_all _ _ _ _ _ e2 i),
    fun i => real_of_cmp inf_eq (Host.reduce_andi_all _ _ _ _ _ e4 i)⟩

end Cert.Finite

end
-- ==== Proof.Prompt.lean ====
/-
  The grouped attention of the prompt batch: with finite queries and keys the kernel's array is the
  reference's, which holds the batch's rows and, in the others, the array handed over.
-/
module

public import proofs.«01_k».proof.Pre_finite_prompt
public import proofs.«01_k».proof.Proof.Gen.Kernel11Ideal.Value
public import proofs.«01_k».proof.Proof.Gen.Reference11Ideal.Read
public import proofs.«01_k».proof.Proof.Finite
public import proofs.«01_k».proof.Proof.Gqa

@[expose] public section

set_option maxRecDepth 16384

noncomputable section

namespace Cert.Reference11Ideal.Read

open Idealize.ShloMosaic Idealize.SL.Sem Cert.Reference11Ideal.Gen

/-- The keys (or the values) of group `h` of batch row `b`. -/
def kv (x : FVec Ideal S24576x512 .f32) (b : Fin 32) (h : Fin 4) (j : Fin 256) (e : Fin 128) : EReal :=
  x (ix2 ⟨b.val * 256 + j.val, by omega⟩ ⟨h.val * 128 + e.val, by omega⟩)

variable (x0 : FVec Ideal S24576x2048 .bf16) (x1 : FVec Ideal S24576x2048 .f32) (x2 x3 : FVec Ideal S24576x512 .f32)
variable (b : Fin 32) (h g : Fin 4) (q : Fin 256) (k : Fin 256)

/-- The scaled score of query head `(h, g)`, position `q` of batch row `b`, against key `k`. -/
def score : EReal :=
  (∑ e, kv x2 b h k e * x1 (ix2 ⟨b.val * 256 + q.val, by omega⟩ ⟨h.val * 512 + g.val * 128 + e.val, by omega⟩))
    * Ideal.ofBits FTy.f32 1035273459#32

theorem score_eq : val_main_v9 (F := Ideal) x1 x2 (ix5 b h g q k) = score x1 x2 b h g q k := by
  pointwise [val_main_v9, val_main_v7, val_main_v6, val_main_v8, val_main_cst, val_main_v3, val_main_v2, val_main_v1, val_main_v0]
  rfl

theorem max_eq (y : FVec Ideal S32x4x4x256x256 .f32) :
    Host.reduce (FloatOps.maximumf (F := Ideal)) y (constant S_ .f32 0xFF800000#32) reducesTo_S32x4x4x256x256_S32x4x4x256_d4 h_S_ (ix4 b h g q)
      = Finset.fold max (Ideal.ofBits FTy.f32 4286578688#32) (fun x => y (ix5 b h g q x)) Finset.univ := by
  pointwise

theorem v10_eq : val_main_v10 (F := Ideal) x1 x2 (ix4 b h g q)
    = Finset.fold max (Ideal.ofBits FTy.f32 4286578688#32) (fun x => score x1 x2 b h g q x) Finset.univ := by
  unfold val_main_v10
  simp only [← score_eq]
  generalize val_main_v9 (F := Ideal) x1 x2 = y
  exact max_eq b h g q y

theorem top_eq (z : FVec Ideal S32x4x4x256 .f32) : maximumf (val_main_v11 (F := Ideal)) z (ix4 b h g q) = max (Ideal.ofBits FTy.f32 4286578688#32) (z (ix4 b h g q)) := by
  pointwise [val_main_v11, val_main_cst_1]

theorem row_eq (z : FVec Ideal S32x4x4x256 .f32) : broadcastInDim S32x4x4x256x256 ![0, 1, 2, 3, 4] bcast_S32x4x4x256x1_S32x4x4x256x256_0_1_2_3_4
    (broadcastInDim S32x4x4x256x1 ![0, 1, 2, 3] bcast_S32x4x4x256_S32x4x4x256x1_0_1_2_3 z) (ix5 b h g q k) = z (ix4 b h g q) := by
  pointwise

theorem v14_eq : val_main_v14 (F := Ideal) x1 x2 (ix5 b h g q k)
    = max (Ideal.ofBits FTy.f32 4286578688#32) (val_main_v10 (F := Ideal) x1 x2 (ix4 b h g q)) := by
  unfold val_main_v14 val_main_v13 val_main_v12
  generalize val_main_v10 (F := Ideal) x1 x2 = z
  rw [row_eq, top_eq]

theorem v16_eq : val_main_v16 (F := Ideal) x1 x2 (ix5 b h g q k)
    = Ideal.exp (score x1 x2 b h g q k - max (Ideal.ofBits FTy.f32 4286578688#32)
      (Finset.fold max (Ideal.ofBits FTy.f32 4286578688#32) (fun x => score x1 x2 b h g q x) Finset.univ)) := by
  rw [val_main_v16_apply, val_main_v15_apply, v14_eq, v10_eq, score_eq, Ideal.hostUnary_exp_def, Ideal.subf_def]

theorem v20_eq : val_main_v20 (F := Ideal) x1 x2 (ix5 b h g q k)
    = Ideal.div (val_main_v16 (F := Ideal) x1 x2 (ix5 b h g q k)) (∑ x, val_main_v16 (F := Ideal) x1 x2 (ix5 b h g q x)) := by
  pointwise [val_main_v20, val_main_v19, val_main_v18, val_main_v17, val_main_cst_2]

theorem v5_eq (e : Fin 128) : val_main_v5 (F := Ideal) x3 (ix4 b k h e) = kv x3 b h k e := by
  pointwise [val_main_v5, val_main_v4]
  rfl

theorem v23_eq (r : Fin 8192) (l : Fin 2048) : val_main_v23 (F := Ideal) x1 x2 x3 (ix2 r l)
    = ∑ k, val_main_v5 (F := Ideal) x3 (ix4 ⟨r.val / 256, by omega⟩ k ⟨l.val / 512, by omega⟩ ⟨l.val % 128, by omega⟩)
      * val_main_v20 (F := Ideal) x1 x2 (ix5 ⟨r.val / 256, by omega⟩ ⟨l.val / 512, by omega⟩ ⟨l.val / 128 % 4, by omega⟩ ⟨r.val % 256, by omega⟩ k) := by
  pointwise [val_main_v23, val_main_v22, val_main_v21]

theorem v26_eq (r : Fin 24576) (l : Fin 2048) : val_main_v26 (F := Ideal) x0 x1 x2 x3 (ix2 r l)
    = if hr : r.val < 8192 then val_main_v23 (F := Ideal) x1 x2 x3 (ix2 ⟨r.val, hr⟩ l) else x0 (ix2 r l) := by
  pointwise [val_main_v26, val_main_v25, val_main_v24]
  by_cases hr : r.val < 8192
  · rw [dif_pos hr, dif_pos hr]
  · rw [dif_neg hr, dif_neg hr]
    exact congrArg x0 (congrArg₂ ix2 (Fin.ext (by simp only; omega)) rfl)

end Cert.Reference11Ideal.Read

namespace Cert.Kernel11Ideal.Value

open Idealize.ShloMosaic Idealize.SL.Sem Cert.Kernel11Ideal.Gen
open Cert.Reference11Ideal.Read (kv)

/-- One query row against the keys, one column of the values: the exponentials' weighted sum over their sum. -/
def att (q : Fin 128 → EReal) (k : Fin 256 → Fin 128 → EReal) (v : Fin 256 → EReal) : EReal :=
  Ideal.div
    (∑ x, Ideal.exp ((∑ e, q e * k x e) - Finset.fold max (Ideal.ofBits FTy.f32 4286578688#32) (fun x => ∑ e, q e * k x e) Finset.univ) * v x)
    (∑ x, Ideal.exp ((∑ e, q e * k x e) - Finset.fold max (Ideal.ofBits FTy.f32 4286578688#32) (fun x => ∑ e, q e * k x e) Finset.univ))

variable (q k v : Vec Ideal S256x128 .bf16) (r : Fin 256) (d : Fin 128)

theorem head0 : k0_pay2 q k v (ix2 r d) = att (fun e => q (ix2 r e)) (fun j e => k (ix2 j e)) (fun j => v (ix2 j d)) := by
  pointwise [k0_pay2]; rfl

theorem head1 : k0_pay7 (k0_pay4 q k) (k0_pay5 q k) (k0_pay6 v) (ix2 r d)
    = att (fun e => q (ix2 r e)) (fun j e => k (ix2 j e)) (fun j => v (ix2 j d)) := by
  pointwise [k0_pay7, k0_pay6, k0_pay5, k0_pay4, k0_pay3]; rfl

theorem head2 : k0_pay8 q k v (ix2 r d) = att (fun e => q (ix2 r e)) (fun j e => k (ix2 j e)) (fun j => v (ix2 j d)) := by
  pointwise [k0_pay8]; rfl

theorem head3 : k0_pay1 (k0_pay9 q k) (k0_pay10 q k) v (ix2 r d)
    = att (fun e => q (ix2 r e)) (fun j e => k (ix2 j e)) (fun j => v (ix2 j d)) := by
  pointwise [k0_pay1, k0_pay10, k0_pay9]; rfl

variable (m : (ℓ : Loc nD τ sig) → Buf (Elt Ideal) ℓ)

theorem V_q (c : Dev nD) (r : Fin 24576) (l : Fin 2048) :
    V m c main_v4 (ix2 r l) = (show FVec Ideal S24576x2048 .f32 from m ((c.tc : Thread nD τ).loc main_arg1)) (ix2 r l) * Ideal.ofBits FTy.f32 1035273459#32 := by
  entry_read
  pointwise

theorem V_k (c : Dev nD) (r : Fin 24576) (l : Fin 512) : V m c main_v0 (ix2 r l) = m ((c.tc : Thread nD τ).loc main_arg2) (ix2 r l) := by
  entry_read
  pointwise

theorem V_v (c : Dev nD) (r : Fin 24576) (l : Fin 512) : V m c main_v1 (ix2 r l) = m ((c.tc : Thread nD τ).loc main_arg3) (ix2 r l) := by
  entry_read
  pointwise

theorem V_y (c : Dev nD) : V m c main_v5 = m ((c.tc : Thread nD τ).loc main_arg0) := by
  entry_read
  rfl

theorem idx : ∀ t : Fin cfg0.N,
    win0_0.index t = ![t.val / 4, t.val % 4] ∧ win0_1.index t = ![t.val / 4, t.val % 4] ∧
    win0_2.index t = ![t.val / 4, t.val % 4] ∧ win0_3.index t = ![t.val / 4, t.val % 4] :=
  (by decide +kernel : ∀ t : Fin grid0.N, _)

/-- The kernel's value at a prompt row, by its batch row, group and coordinates. -/
def REF (x1 : FVec Ideal S24576x2048 .f32) (x2 x3 : FVec Ideal S24576x512 .f32) (r : Fin 24576) (l : Fin 2048) : EReal :=
  if hr : r.val < 8192 then att (fun e => x1 (ix2 r ⟨l.val / 128 * 128 + e.val, by omega⟩) * Ideal.ofBits FTy.f32 1035273459#32)
    (kv x2 ⟨r.val / 256, by omega⟩ ⟨l.val / 512, by omega⟩)
    (fun j => kv x3 ⟨r.val / 256, by omega⟩ ⟨l.val / 512, by omega⟩ j ⟨l.val % 128, by omega⟩) else 0

theorem blk_q (c : Dev nD) (t : Fin cfg0.N) (ht : t.val < 128) (r : Fin 256) (l : Fin 512) :
    iblk m c 0 t (ix2 r l) = V m c main_v4 (ix2 ⟨t.val / 4 * 256 + r.val, by omega⟩ ⟨t.val % 4 * 512 + l.val, by omega⟩) := by
  blk_ext [iblk, idx t]

theorem blk_k (c : Dev nD) (t : Fin cfg0.N) (ht : t.val < 128) (j : Fin 256) (e : Fin 128) :
    iblk m c 1 t (ix2 j e) = V m c main_v0 (ix2 ⟨t.val / 4 * 256 + j.val, by omega⟩ ⟨t.val % 4 * 128 + e.val, by omega⟩) := by
  blk_ext [iblk, idx t]

theorem blk_v (c : Dev nD) (t : Fin cfg0.N) (ht : t.val < 128) (j : Fin 256) (e : Fin 128) :
    iblk m c 2 t (ix2 j e) = V m c main_v1 (ix2 ⟨t.val / 4 * 256 + j.val, by omega⟩ ⟨t.val % 4 * 128 + e.val, by omega⟩) := by
  blk_ext [iblk, idx t]

/-- One element of a grid point's block, over the whole arrays: head `a` of the point's group. -/
theorem core (c : Dev nD) (t : Fin cfg0.N) (ht : t.val < 128) (a : ℕ) (ha : a < 4) (r : Fin 256) (d : Fin 128) (R : Fin 24576) (L : Fin 2048)
    (hR : R.val = t.val / 4 * 256 + r.val) (hL : L.val = t.val % 4 * 512 + a * 128 + d.val) :
    att (fun e => iblk m c 0 t (ix2 r ⟨a * 128 + e.val, by omega⟩)) (fun j e => iblk m c 1 t (ix2 j e)) (fun j => iblk m c 2 t (ix2 j d))
      = REF (m ((c.tc : Thread nD τ).loc main_arg1)) (m ((c.tc : Thread nD τ).loc main_arg2)) (m ((c.tc : Thread nD τ).loc main_arg3)) R L := by
  have hr : R.val < 8192 := by omega
  have hb : (⟨R.val / 256, by omega⟩ : Fin 32) = ⟨t.val / 4, by omega⟩ := Fin.ext (by simp only; omega)
  have hh : (⟨L.val / 512, by omega⟩ : Fin 4) = ⟨t.val % 4, by omega⟩ := Fin.ext (by simp only; omega)
  have hd : (⟨L.val % 128, by omega⟩ : Fin 128) = d := Fin.ext (by simp only; omega)
  unfold REF
  rw [dif_pos hr, hb, hh, hd]
  congr 1
  · funext e
    rw [blk_q m c t ht, V_q]
    congr 3
    · exact Fin.ext (by simp only; omega)
    · exact Fin.ext (by simp only; omega)
  · funext j e
    rw [blk_k m c t ht, V_k]
    rfl
  · funext j
    rw [blk_v m c t ht, V_v]
    rfl

theorem final (c : Dev nD) : (dats m 0 c).arrAt 3 cfg0.N = fun i => if (i 0 : ℕ) < 32 * 256 then
    REF (m ((c.tc : Thread nD τ).loc main_arg1)) (m ((c.tc : Thread nD τ).loc main_arg2)) (m ((c.tc : Thread nD τ).loc main_arg3)) (i 0) (i 1)
      else V m c main_v5 i := by
  refine (dats m 0 c).arrAt_eq_of_coversWhere 3 _ (fun β => β 0 < 32) (by decide +kernel) (fun t hf y => ?_) (fun j => by blk_simp [Pipeline.Window.cell_apply]; omega)
  blk_simp
  rw [after0_3]
  unfold Gen.outsAt0
  frame_out
  have ht : t.val < 128 := lt_of_lt_of_eq t.isLt N_0
  canon_tiles y h
  all_goals obtain ⟨r, d, rfl⟩ : ∃ r d, y = ix2 r d := ⟨y 0, y 1, eq_ix2 y⟩
  all_goals simp only [head0, head1, head2, head3]
  · refine Eq.trans ?_ (core m c t ht 3 (by norm_num) r d _ _ ?_ ?_)
    · pointwise
    · have e0 : (y 0).val = r.val := h0
      blk_simp [idx t]; omega
    · have e1 : (y 1).val = 384 + d.val := h1
      blk_simp [idx t]; omega
  · refine Eq.trans ?_ (core m c t ht 2 (by norm_num) r d _ _ ?_ ?_)
    · pointwise
    · have e0 : (y 0).val = r.val := h0
      blk_simp [idx t]; omega
    · have e1 : (y 1).val = 256 + d.val := h1
      blk_simp [idx t]; omega
  · refine Eq.trans ?_ (core m c t ht 1 (by norm_num) r d _ _ ?_ ?_)
    · pointwise
    · have e0 : (y 0).val = r.val := h0
      blk_simp [idx t]; omega
    · have e1 : (y 1).val = 128 + d.val := h1
      blk_simp [idx t]; omega
  · refine Eq.trans ?_ (core m c t ht 0 (by norm_num) r d _ _ ?_ ?_)
    · pointwise
    · have e0 : (y 0).val = r.val := h0
      blk_simp [idx t]; omega
    · have e1 : (y 1).val = d.val := h1
      blk_simp [idx t]; omega

end Cert.Kernel11Ideal.Value

namespace Cert.Prompt

open Idealize.ShloMosaic Cert.Reference11Ideal Cert.Reference11Ideal.Read Cert.Soft

instance facts : Cert.Pre_finite_prompt.Facts where
  bcast_S_S24576x2048 := by decide
  reducesTo_S24576x2048_S_d0_1 := by decide
  h_S_ := by decide
  bcast_S_S24576x512 := by decide
  reducesTo_S24576x512_S_d0_1 := by decide

instance : Subsingleton Cert.Pre_finite_prompt.S_.Idx := ⟨fun _ _ => funext fun a => a.elim0⟩

variable (x0 : FVec Ideal S24576x2048 .bf16) (x1 : FVec Ideal S24576x2048 .f32) (x2 x3 : FVec Ideal S24576x512 .f32)

theorem of_pre (h : Cert.Pre_finite_prompt.fn (F := Ideal) x0 x1 x2 x3 = fun _ => 1#1) :
    (∀ i, IsReal (x1 i)) ∧ (∀ i, IsReal (x2 i)) := by
  have e := congrFun h (Shape.Idx.first Cert.Pre_finite_prompt.Facts.h_S_)
  simp only [Cert.Pre_finite_prompt.fn, andi] at e
  obtain ⟨e1, e2⟩ := IntOp.andi_eq_one.1 e
  exact ⟨fun i => Cert.Finite.real_of_cmp Cert.Finite.inf_eq (Host.reduce_andi_all _ _ _ _ _ e1 i),
    fun i => Cert.Finite.real_of_cmp Cert.Finite.inf_eq (Host.reduce_andi_all _ _ _ _ _ e2 i)⟩

theorem score_real (h1 : ∀ i, IsReal (x1 i)) (h2 : ∀ i, IsReal (x2 i)) (b : Fin 32) (h g : Fin 4) (q : Fin 256) (k : Fin 256) :
    IsReal (score x1 x2 b h g q k) := by
  obtain ⟨r, _, hr⟩ := Cert.Gqa.scale
  exact (IsReal.sum _ _ fun e => (h2 _).mul (h1 _)).mul ⟨r, hr⟩

theorem out_eq (h1 : ∀ i, IsReal (x1 i)) (h2 : ∀ i, IsReal (x2 i)) (r : Fin 24576) (l : Fin 2048) (hr : r.val < 8192) :
    Cert.Kernel11Ideal.Value.REF x1 x2 x3 r l = val_main_v23 (F := Ideal) x1 x2 x3 (ix2 ⟨r.val, hr⟩ l) := by
  rw [v23_eq]
  simp only [v20_eq, v16_eq, v5_eq]
  unfold Cert.Kernel11Ideal.Value.REF Cert.Kernel11Ideal.Value.att
  rw [dif_pos hr]
  generalize hb : (⟨r.val / 256, by omega⟩ : Fin 32) = b
  generalize hh : (⟨l.val / 512, by omega⟩ : Fin 4) = h
  generalize hg : (⟨l.val / 128 % 4, by omega⟩ : Fin 4) = g
  generalize hq : (⟨r.val % 256, by omega⟩ : Fin 256) = q
  have hs : ∀ k, (∑ e : Fin 128, x1 (ix2 r ⟨l.val / 128 * 128 + e.val, by omega⟩) * Ideal.ofBits FTy.f32 1035273459#32 * kv x2 b h k e)
      = score x1 x2 b h g q k := fun k => by
    rw [scores _ _ Cert.Gqa.scale]
    unfold score
    congr 1
    refine Finset.sum_congr rfl fun e _ => ?_
    congr 2
    subst hb hh hg hq
    exact congrArg₂ ix2 (Fin.ext (by simp only; omega)) (Fin.ext (by simp only; omega))
  have hm := IsReal.fold_max (fun x => score x1 x2 b h g q x) fun k => score_real x1 x2 h1 h2 b h g q k
  simp only [hs]
  rw [show ∀ y : EReal, max (Ideal.ofBits FTy.f32 4286578688#32) y = y from fun y => by
    rw [show Ideal.ofBits FTy.f32 4286578688#32 = ⊥ from ofBits_bot]; exact max_eq_right bot_le]
  exact attend _ _ (fun k => score_real x1 x2 h1 h2 b h g q k) _ hm

theorem eq_ref (h1 : ∀ i, IsReal (x1 i)) (h2 : ∀ i, IsReal (x2 i)) :
    (fun i : S24576x2048.Idx => if (i 0 : ℕ) < 32 * 256 then Cert.Kernel11Ideal.Value.REF x1 x2 x3 (i 0) (i 1) else x0 i)
      = val_main_v26 (F := Ideal) x0 x1 x2 x3 := by
  funext i
  obtain ⟨r, l, rfl⟩ : ∃ r l, i = ix2 r l := ⟨i 0, i 1, eq_ix2 i⟩
  rw [v26_eq]
  show (if r.val < 32 * 256 then Cert.Kernel11Ideal.Value.REF x1 x2 x3 r l else x0 (ix2 r l)) = _
  by_cases hr : r.val < 8192
  · rw [if_pos (by omega), dif_pos hr]
    exact out_eq x1 x2 x3 h1 h2 r l hr
  · rw [if_neg (by omega), dif_neg hr]

end Cert.Prompt

end
-- ==== Proof.LatentScore.lean ====
/-
  The latent attention's scores: lanes of zeros in the queries add nothing to a sum, and the scale of the
  queries goes out of it.
-/
module

public import proofs.«01_k».proof.Pre_finite_latent
public import proofs.«01_k».proof.Proof.Finite
public import proofs.«01_k».proof.Proof.Soft

@[expose] public section

noncomputable section

namespace Cert.LatentScore

open Idealize.ShloMosaic Cert.Soft

theorem sum_pad (f : Fin 256 → EReal) (g : Fin 192 → EReal) (h : ∀ e : Fin 192, f ⟨e.val, by omega⟩ = g e)
    (h0 : ∀ e : Fin 256, 192 ≤ e.val → f e = 0) : ∑ e, f e = ∑ e, g e := by
  have e1 : (∑ e : Fin 256, f e) = ∑ e : Fin (192 + 64), f e := rfl
  rw [e1, Fin.sum_univ_add]
  have e2 : (∑ e : Fin 64, f (Fin.natAdd 192 e)) = 0 :=
    Finset.sum_eq_zero fun e _ => h0 _ (Nat.le_add_right 192 e.val)
  rw [e2, add_zero]
  exact Finset.sum_congr rfl fun e _ => h e

theorem scale : ∃ r : ℝ, 0 ≤ r ∧ Ideal.ofBits FTy.f32 1033096506#32 = (r : EReal) :=
  ⟨9686330 / 134217728, by norm_num, by simp [Ideal.ofBits, Ideal.ieee, -EReal.coe_mul]; norm_num⟩

theorem scores_out {ι : Type} [Fintype ι] (q k : ι → EReal) {c : EReal} (hc : ∃ r : ℝ, 0 ≤ r ∧ c = (r : EReal)) :
    (∑ d, q d * c * k d) = (∑ d, q d * k d) * c := by
  rw [scores q k hc]
  congr 1
  exact Finset.sum_congr rfl fun d _ => mul_comm _ _

instance facts : Cert.Pre_finite_latent.Facts where
  bcast_S_S24576x1536 := by decide
  reducesTo_S24576x1536_S_d0_1 := by decide
  h_S_ := by decide
  bitsLt_bf16_f32 := by decide
  bcast_S_S28672x2048 := by decide
  reducesTo_S28672x2048_S_d0_1 := by decide

instance : Subsingleton Cert.Pre_finite_latent.S_.Idx := ⟨fun _ _ => funext fun a => a.elim0⟩

open Cert.Pre_finite_latent in
theorem of_pre (x0 : FVec Ideal S24576x1024 .bf16) (x1 : FVec Ideal S24576x1536 .f32) (x2 : FVec Ideal S28672x2048 .bf16)
    (x3 : FVec Ideal S28672x1024 .bf16) (h : Cert.Pre_finite_latent.fn (F := Ideal) x0 x1 x2 x3 = fun _ => 1#1) :
    (∀ i, IsReal (x1 i)) ∧ (∀ i, IsReal (x2 i)) := by
  have e := congrFun h (Shape.Idx.first Cert.Pre_finite_latent.Facts.h_S_)
  simp only [Cert.Pre_finite_latent.fn, andi] at e
  obtain ⟨e1, e2⟩ := IntOp.andi_eq_one.1 e
  exact ⟨fun i => Cert.Finite.real_of_cmp Cert.Finite.inf_eq (Host.reduce_andi_all _ _ _ _ _ e1 i),
    fun i => Cert.Finite.real_of_cmp Cert.Finite.inf_eq (Host.reduce_andi_all _ _ _ _ _ e2 i)⟩

end Cert.LatentScore

end
-- ==== Proof.LatentSample.lean ====
/-
  The latent attention of the sample batch: with finite queries and keys the kernel's array is the
  reference's.
-/
module

public import proofs.«01_k».proof.Proof.Gen.Kernel13Ideal.Value
public import proofs.«01_k».proof.Proof.Gen.Reference13Ideal.Read
public import proofs.«01_k».proof.Proof.LatentScore
public import Idealize.ShloMosaic.Lib.Pointwise
public import Idealize.ShloMosaic.Lib.Pipeline.ValueKit
public import Idealize.ShloMosaic.Lib.Claim

@[expose] public section

set_option maxRecDepth 16384

noncomputable section

namespace Cert.Reference13Ideal.Read

open Idealize.ShloMosaic Idealize.SL.Sem Cert.Reference13Ideal.Gen

variable (x0 : FVec Ideal S24576x1024 .bf16) (x1 : FVec Ideal S24576x1536 .f32) (x2 : FVec Ideal S28672x2048 .bf16) (x3 : FVec Ideal S28672x1024 .bf16)
variable (b : Fin 8) (h : Fin 8) (q : Fin 2048) (k : Fin 2560)

/-- The scaled score of head `h`, position `q` of batch row `b`, against key `k`. -/
def score : EReal :=
  (∑ e : Fin 192, x1 (ix2 ⟨8192 + (b.val * 2048 + q.val), by omega⟩ ⟨h.val * 192 + e.val, by omega⟩) * x2 (ix2 ⟨b.val * 2560 + k.val, by omega⟩ ⟨h.val * 256 + e.val, by omega⟩))
    * Ideal.ofBits FTy.f32 1033096506#32

theorem score_eq : val_main_v11 (F := Ideal) x1 x2 (ix4 b h q k) = score x1 x2 b h q k := by
  pointwise [val_main_v11, val_main_v9, val_main_v10, val_main_cst, val_main_v5, val_main_v4, val_main_v3, val_main_v2, val_main_v1, val_main_v0]
  rfl

theorem max_eq (y : FVec Ideal S8x8x2048x2560 .f32) :
    Host.reduce (FloatOps.maximumf (F := Ideal)) y (constant S_ .f32 0xFF800000#32) reducesTo_S8x8x2048x2560_S8x8x2048_d3 h_S_ (ix3 b h q)
      = Finset.fold max (Ideal.ofBits FTy.f32 4286578688#32) (fun x => y (ix4 b h q x)) Finset.univ := by
  pointwise

theorem v12_eq : val_main_v12 (F := Ideal) x1 x2 (ix3 b h q)
    = Finset.fold max (Ideal.ofBits FTy.f32 4286578688#32) (fun x => score x1 x2 b h q x) Finset.univ := by
  unfold val_main_v12
  simp only [← score_eq]
  generalize val_main_v11 (F := Ideal) x1 x2 = y
  exact max_eq b h q y

theorem top_eq (z : FVec Ideal S8x8x2048 .f32) : maximumf (val_main_v13 (F := Ideal)) z (ix3 b h q) = max (Ideal.ofBits FTy.f32 4286578688#32) (z (ix3 b h q)) := by
  pointwise [val_main_v13, val_main_cst_1]

theorem row_eq (z : FVec Ideal S8x8x2048 .f32) : broadcastInDim S8x8x2048x2560 ![0, 1, 2, 3] bcast_S8x8x2048x1_S8x8x2048x2560_0_1_2_3
    (broadcastInDim S8x8x2048x1 ![0, 1, 2] bcast_S8x8x2048_S8x8x2048x1_0_1_2 z) (ix4 b h q k) = z (ix3 b h q) := by
  pointwise

theorem v16_eq : val_main_v16 (F := Ideal) x1 x2 (ix4 b h q k)
    = max (Ideal.ofBits FTy.f32 4286578688#32) (val_main_v12 (F := Ideal) x1 x2 (ix3 b h q)) := by
  unfold val_main_v16 val_main_v15 val_main_v14
  generalize val_main_v12 (F := Ideal) x1 x2 = z
  rw [row_eq, top_eq]

theorem v18_eq : val_main_v18 (F := Ideal) x1 x2 (ix4 b h q k)
    = Ideal.exp (score x1 x2 b h q k - max (Ideal.ofBits FTy.f32 4286578688#32)
      (Finset.fold max (Ideal.ofBits FTy.f32 4286578688#32) (fun x => score x1 x2 b h q x) Finset.univ)) := by
  rw [val_main_v18_apply, val_main_v17_apply, v16_eq, v12_eq, score_eq, Ideal.hostUnary_exp_def, Ideal.subf_def]

theorem v22_eq : val_main_v22 (F := Ideal) x1 x2 (ix4 b h q k)
    = Ideal.div (val_main_v18 (F := Ideal) x1 x2 (ix4 b h q k)) (∑ x, val_main_v18 (F := Ideal) x1 x2 (ix4 b h q x)) := by
  pointwise [val_main_v22, val_main_v21, val_main_v20, val_main_v19, val_main_cst_2]

theorem v8_eq (e : Fin 128) : val_main_v8 (F := Ideal) x3 (ix4 b k h e) = x3 (ix2 ⟨b.val * 2560 + k.val, by omega⟩ ⟨h.val * 128 + e.val, by omega⟩) := by
  pointwise [val_main_v8, val_main_v7, val_main_v6]

theorem v25_eq (r : Fin 16384) (l : Fin 1024) : val_main_v25 (F := Ideal) x1 x2 x3 (ix2 r l)
    = ∑ k, val_main_v8 (F := Ideal) x3 (ix4 ⟨r.val / 2048, by omega⟩ k ⟨l.val / 128, by omega⟩ ⟨l.val % 128, by omega⟩)
      * val_main_v22 (F := Ideal) x1 x2 (ix4 ⟨r.val / 2048, by omega⟩ ⟨l.val / 128, by omega⟩ ⟨r.val % 2048, by omega⟩ k) := by
  pointwise [val_main_v25, val_main_v24, val_main_v23]

theorem v28_eq (r : Fin 24576) (l : Fin 1024) : val_main_v28 (F := Ideal) x0 x1 x2 x3 (ix2 r l)
    = if hr : r.val < 8192 then x0 (ix2 r l) else val_main_v25 (F := Ideal) x1 x2 x3 (ix2 ⟨r.val - 8192, by omega⟩ l) := by
  pointwise [val_main_v28, val_main_v27, val_main_v26]

end Cert.Reference13Ideal.Read

namespace Cert.Kernel13Ideal.Value

open Idealize.ShloMosaic Idealize.SL.Sem Cert.Kernel13Ideal.Gen

/-- One query row against the keys, one column of the values: the exponentials' weighted sum over their sum. -/
def att (q : Fin 256 → EReal) (k : Fin 2560 → Fin 256 → EReal) (v : Fin 2560 → EReal) : EReal :=
  Ideal.div
    (∑ x, Ideal.exp ((∑ e, q e * k x e) - Finset.fold max (Ideal.ofBits FTy.f32 4286578688#32) (fun x => ∑ e, q e * k x e) Finset.univ) * v x)
    (∑ x, Ideal.exp ((∑ e, q e * k x e) - Finset.fold max (Ideal.ofBits FTy.f32 4286578688#32) (fun x => ∑ e, q e * k x e) Finset.univ))

variable (q : Vec Ideal S256x256 .bf16) (k : Vec Ideal S2560x256 .bf16) (v : Vec Ideal S2560x128 .bf16) (r : Fin 256) (d : Fin 128)

theorem head0 : (k0_pay2 (F := Ideal) q k v) (ix2 r d) = att (fun e => q (ix2 r e)) (fun j e => k (ix2 j e)) (fun j => v (ix2 j d)) := by
  pointwise [k0_pay2]; rfl

theorem head1 : (k0_pay1 (F := Ideal) (k0_pay3 q k v)) (ix2 r d) = att (fun e => q (ix2 r e)) (fun j e => k (ix2 j e)) (fun j => v (ix2 j d)) := by
  pointwise [k0_pay1, k0_pay3]; rfl

variable (m : (ℓ : Loc nD τ sig) → Buf (Elt Ideal) ℓ)

/-- The scaled query of head `h` at row `r`, with its lanes of zeros. -/
def qp (x1 : FVec Ideal S24576x1536 .f32) (r : Fin 24576) (h : Fin 8) (e : Fin 256) : EReal :=
  if he : e.val < 192 then x1 (ix2 r ⟨h.val * 192 + e.val, by omega⟩) * Ideal.ofBits FTy.f32 1033096506#32 else 0

theorem V_q (c : Dev nD) (r : Fin 24576) (l : Fin 2048) :
    V m c main_v6 (ix2 r l) = qp (m ((c.tc : Thread nD τ).loc main_arg1)) r ⟨l.val / 256, by omega⟩ ⟨l.val % 256, by omega⟩ := by
  entry_read
  pointwise [qp]

theorem V_k (c : Dev nD) : V m c main_arg2 = m ((c.tc : Thread nD τ).loc main_arg2) := by
  entry_read
  rfl

theorem V_v (c : Dev nD) : V m c main_arg3 = m ((c.tc : Thread nD τ).loc main_arg3) := by
  entry_read
  rfl

theorem V_y (c : Dev nD) : V m c main_v7 = m ((c.tc : Thread nD τ).loc main_arg0) := by
  entry_read
  rfl

theorem idx : ∀ t : Fin cfg0.N,
    win0_0.index t = ![32 + t.val / 32 * 8 + t.val % 8, t.val / 8 % 4] ∧ win0_1.index t = ![t.val / 32, t.val / 8 % 4] ∧
    win0_2.index t = ![t.val / 32, t.val / 8 % 4] ∧ win0_3.index t = ![32 + t.val / 32 * 8 + t.val % 8, t.val / 8 % 4] :=
  (by decide +kernel : ∀ t : Fin grid0.N, _)

/-- The kernel's value at one of the batch's rows. -/
def REF (x1 : FVec Ideal S24576x1536 .f32) (x2 : FVec Ideal S28672x2048 .bf16) (x3 : FVec Ideal S28672x1024 .bf16) (r : Fin 24576) (l : Fin 1024) : EReal :=
  att (fun e => qp x1 r ⟨l.val / 128, by omega⟩ e)
    (fun j e => x2 (ix2 ⟨(r.val - 8192) / 2048 * 2560 + j.val, by omega⟩ ⟨l.val / 128 * 256 + e.val, by omega⟩))
    (fun j => x3 (ix2 ⟨(r.val - 8192) / 2048 * 2560 + j.val, by omega⟩ l))

theorem blk_q (c : Dev nD) (t : Fin cfg0.N) (ht : t.val < 256) (r : Fin 256) (l : Fin 512) :
    iblk m c 0 t (ix2 r l) = V m c main_v6 (ix2 ⟨8192 + (t.val / 32 * 8 + t.val % 8) * 256 + r.val, by omega⟩ ⟨t.val / 8 % 4 * 512 + l.val, by omega⟩) := by
  blk_ext [iblk, idx t]

theorem blk_k (c : Dev nD) (t : Fin cfg0.N) (ht : t.val < 256) (j : Fin 2560) (e : Fin 512) :
    X0_1 m c t (ix2 j e) = V m c main_arg2 (ix2 ⟨t.val / 32 * 2560 + j.val, by omega⟩ ⟨t.val / 8 % 4 * 512 + e.val, by omega⟩) := by
  unfold X0_1 Pipeline.Window.fill
  rw [dif_pos (moved0_1 t _)]
  blk_ext [iblk, idx t]

theorem blk_v (c : Dev nD) (t : Fin cfg0.N) (ht : t.val < 256) (j : Fin 2560) (e : Fin 256) :
    X0_2 m c t (ix2 j e) = V m c main_arg3 (ix2 ⟨t.val / 32 * 2560 + j.val, by omega⟩ ⟨t.val / 8 % 4 * 256 + e.val, by omega⟩) := by
  unfold X0_2 Pipeline.Window.fill
  rw [dif_pos (moved0_2 t _)]
  blk_ext [iblk, idx t]

/-- One element of a grid point's block, over the whole arrays: head `a` of the point. -/
theorem core (c : Dev nD) (t : Fin cfg0.N) (ht : t.val < 256) (a : ℕ) (ha : a < 2) (r : Fin 256) (d : Fin 128) (R : Fin 24576) (L : Fin 1024)
    (hR : R.val = 8192 + (t.val / 32 * 8 + t.val % 8) * 256 + r.val) (hL : L.val = t.val / 8 % 4 * 256 + a * 128 + d.val) :
    att (fun e => iblk m c 0 t (ix2 r ⟨a * 256 + e.val, by omega⟩)) (fun j e => X0_1 m c t (ix2 j ⟨a * 256 + e.val, by omega⟩)) (fun j => X0_2 m c t (ix2 j ⟨a * 128 + d.val, by omega⟩))
      = REF (m ((c.tc : Thread nD τ).loc main_arg1)) (m ((c.tc : Thread nD τ).loc main_arg2)) (m ((c.tc : Thread nD τ).loc main_arg3)) R L := by
  unfold REF
  congr 1
  · funext e
    rw [blk_q m c t ht, V_q]
    congr 1
    · exact Fin.ext (by simp only; omega)
    · exact Fin.ext (by simp only; omega)
    · exact Fin.ext (by simp only; omega)
  · funext j e
    rw [blk_k m c t ht, V_k]
    exact congrArg _ (congrArg₂ ix2 (Fin.ext (by simp only; omega)) (Fin.ext (by simp only; omega)))
  · funext j
    rw [blk_v m c t ht, V_v]
    exact congrArg _ (congrArg₂ ix2 (Fin.ext (by simp only; omega)) (Fin.ext (by simp only; omega)))

theorem final (c : Dev nD) : (dats m 0 c).arrAt 3 cfg0.N = fun i => if 32 * 256 ≤ (i 0 : ℕ) then
    REF (m ((c.tc : Thread nD τ).loc main_arg1)) (m ((c.tc : Thread nD τ).loc main_arg2)) (m ((c.tc : Thread nD τ).loc main_arg3)) (i 0) (i 1)
      else V m c main_v7 i := by
  refine (dats m 0 c).arrAt_eq_of_coversWhere 3 _ (fun β => 32 ≤ β 0) (by decide +kernel) (fun t hf y => ?_) (fun j => by blk_simp [Pipeline.Window.cell_apply]; omega)
  blk_simp
  rw [after0_3]
  unfold Gen.outsAt0
  frame_out
  have ht : t.val < 256 := lt_of_lt_of_eq t.isLt N_0
  canon_tiles y h
  all_goals obtain ⟨r, d, rfl⟩ : ∃ r d, y = ix2 r d := ⟨y 0, y 1, eq_ix2 y⟩
  all_goals simp only [head0, head1]
  · refine Eq.trans ?_ (core m c t ht 1 (by norm_num) r d _ _ ?_ ?_)
    · pointwise
    · have e0 : (y 0).val = r.val := h0
      blk_simp [idx t]; omega
    · have e1 : (y 1).val = 128 + d.val := h1
      blk_simp [idx t]; omega
  · refine Eq.trans ?_ (core m c t ht 0 (by norm_num) r d _ _ ?_ ?_)
    · pointwise
    · have e0 : (y 0).val = r.val := h0
      blk_simp [idx t]; omega
    · have e1 : (y 1).val = d.val := h1
      blk_simp [idx t]; omega

end Cert.Kernel13Ideal.Value

namespace Cert.LatentSample

open Idealize.ShloMosaic Cert.Reference13Ideal Cert.Reference13Ideal.Read Cert.Soft

variable (x0 : FVec Ideal S24576x1024 .bf16) (x1 : FVec Ideal S24576x1536 .f32) (x2 : FVec Ideal S28672x2048 .bf16) (x3 : FVec Ideal S28672x1024 .bf16)

theorem score_real (h1 : ∀ i, IsReal (x1 i)) (h2 : ∀ i, IsReal (x2 i)) (b : Fin 8) (h : Fin 8) (q : Fin 2048) (k : Fin 2560) :
    IsReal (score x1 x2 b h q k) := by
  obtain ⟨r, _, hr⟩ := Cert.LatentScore.scale
  exact (IsReal.sum _ _ fun e => (h1 _).mul (h2 _)).mul ⟨r, hr⟩

theorem row_out (h1 : ∀ i, IsReal (x1 i)) (h2 : ∀ i, IsReal (x2 i)) (r : Fin 24576) (l : Fin 1024) (hr : 8192 ≤ r.val) (b : Fin 8) (h : Fin 8) (q : Fin 2048)
    (eb : b.val = (r.val - 8192) / 2048) (eh : h.val = l.val / 128) (eq : q.val = (r.val - 8192) % 2048) :
    Cert.Kernel13Ideal.Value.REF x1 x2 x3 r l = ∑ k : Fin 2560, x3 (ix2 ⟨b.val * 2560 + k.val, by omega⟩ ⟨h.val * 128 + l.val % 128, by omega⟩) *
      Ideal.div (Ideal.exp (score x1 x2 b h q k - max (Ideal.ofBits FTy.f32 4286578688#32)
          (Finset.fold max (Ideal.ofBits FTy.f32 4286578688#32) (fun x => score x1 x2 b h q x) Finset.univ)))
        (∑ x, Ideal.exp (score x1 x2 b h q x - max (Ideal.ofBits FTy.f32 4286578688#32)
          (Finset.fold max (Ideal.ofBits FTy.f32 4286578688#32) (fun x => score x1 x2 b h q x) Finset.univ))) := by
  have hh : (⟨l.val / 128, by omega⟩ : Fin 8) = h := Fin.ext eh.symm
  have hs : ∀ k : Fin 2560, (∑ e : Fin 256, Cert.Kernel13Ideal.Value.qp x1 r h e * x2 (ix2 ⟨(r.val - 8192) / 2048 * 2560 + k.val, by omega⟩ ⟨l.val / 128 * 256 + e.val, by omega⟩))
      = score x1 x2 b h q k := fun k => by
    unfold score
    rw [← Cert.LatentScore.scores_out _ _ Cert.LatentScore.scale]
    refine Cert.LatentScore.sum_pad _ _ (fun e => ?_) (fun e he => ?_)
    · unfold Cert.Kernel13Ideal.Value.qp
      rw [dif_pos e.isLt]
      have i1 : (ix2 r ⟨h.val * 192 + e.val, by omega⟩ : S24576x1536.Idx) = ix2 ⟨8192 + (b.val * 2048 + q.val), by omega⟩ ⟨h.val * 192 + e.val, by omega⟩ :=
        congrArg₂ ix2 (Fin.ext (by simp only; omega)) rfl
      have i2 : (ix2 ⟨(r.val - 8192) / 2048 * 2560 + k.val, by omega⟩ ⟨l.val / 128 * 256 + e.val, by omega⟩ : S28672x2048.Idx) = ix2 ⟨b.val * 2560 + k.val, by omega⟩ ⟨h.val * 256 + e.val, by omega⟩ :=
        congrArg₂ ix2 (Fin.ext (by simp only; omega)) (Fin.ext (by simp only; omega))
      exact congrArg₂ (HMul.hMul (α := EReal) (β := EReal) (γ := EReal))
        (congrArg (fun i => HMul.hMul (α := EReal) (β := EReal) (γ := EReal) (x1 i) (Ideal.ofBits FTy.f32 1033096506#32)) i1) (congrArg x2 i2)
    · unfold Cert.Kernel13Ideal.Value.qp
      rw [dif_neg (by omega)]
      exact zero_mul (M₀ := EReal) _
  have hv : ∀ k : Fin 2560, x3 (ix2 ⟨(r.val - 8192) / 2048 * 2560 + k.val, by omega⟩ l) = x3 (ix2 ⟨b.val * 2560 + k.val, by omega⟩ ⟨h.val * 128 + l.val % 128, by omega⟩) := fun k =>
    congrArg x3 (congrArg₂ ix2 (Fin.ext (by simp only; omega)) (Fin.ext (by simp only; omega)))
  have hm := IsReal.fold_max (fun x => score x1 x2 b h q x) fun k => score_real x1 x2 h1 h2 b h q k
  unfold Cert.Kernel13Ideal.Value.REF Cert.Kernel13Ideal.Value.att
  rw [hh]
  simp only [hs, hv]
  rw [show ∀ y : EReal, max (Ideal.ofBits FTy.f32 4286578688#32) y = y from fun y => by
    rw [show Ideal.ofBits FTy.f32 4286578688#32 = ⊥ from ofBits_bot]; exact max_eq_right bot_le]
  exact attend _ _ (fun k => score_real x1 x2 h1 h2 b h q k) _ hm

theorem out_eq (h1 : ∀ i, IsReal (x1 i)) (h2 : ∀ i, IsReal (x2 i)) (r : Fin 24576) (l : Fin 1024) (hr : 8192 ≤ r.val) :
    Cert.Kernel13Ideal.Value.REF x1 x2 x3 r l = val_main_v25 (F := Ideal) x1 x2 x3 (ix2 ⟨r.val - 8192, by omega⟩ l) := by
  rw [v25_eq]
  simp only [v22_eq, v18_eq, v8_eq]
  exact row_out x1 x2 x3 h1 h2 r l hr ⟨(r.val - 8192) / 2048, by omega⟩ ⟨l.val / 128, by omega⟩ ⟨(r.val - 8192) % 2048, by omega⟩ (by simp only) (by simp only) (by simp only)

theorem eq_ref (h1 : ∀ i, IsReal (x1 i)) (h2 : ∀ i, IsReal (x2 i)) :
    (fun i : S24576x1024.Idx => if 32 * 256 ≤ (i 0 : ℕ) then Cert.Kernel13Ideal.Value.REF x1 x2 x3 (i 0) (i 1) else x0 i)
      = val_main_v28 (F := Ideal) x0 x1 x2 x3 := by
  funext i
  obtain ⟨r, l, rfl⟩ : ∃ r l, i = ix2 r l := ⟨i 0, i 1, eq_ix2 i⟩
  rw [v28_eq]
  show (if 32 * 256 ≤ r.val then Cert.Kernel13Ideal.Value.REF x1 x2 x3 r l else x0 (ix2 r l)) = _
  by_cases hr : r.val < 8192
  · rw [if_neg (by omega), dif_pos hr]
  · rw [if_pos (by omega), dif_neg hr]
    exact out_eq x1 x2 x3 h1 h2 r l (by omega)

end Cert.LatentSample

end
-- ==== Proof.LatentPrompt.lean ====
/-
  The latent attention of the prompt batch: with finite queries and keys the kernel's array is the
  reference's.
-/
module

public import proofs.«01_k».proof.Proof.Gen.Kernel14Ideal.Value
public import proofs.«01_k».proof.Proof.Gen.Reference14Ideal.Read
public import proofs.«01_k».proof.Proof.LatentScore
public import Idealize.ShloMosaic.Lib.Pointwise
public import Idealize.ShloMosaic.Lib.Pipeline.ValueKit
public import Idealize.ShloMosaic.Lib.Claim

@[expose] public section

set_option maxRecDepth 16384

noncomputable section

namespace Cert.Reference14Ideal.Read

open Idealize.ShloMosaic Idealize.SL.Sem Cert.Reference14Ideal.Gen

variable (x0 : FVec Ideal S24576x1024 .bf16) (x1 : FVec Ideal S24576x1536 .f32) (x2 : FVec Ideal S28672x2048 .bf16) (x3 : FVec Ideal S28672x1024 .bf16)
variable (b : Fin 32) (h : Fin 8) (q : Fin 256) (k : Fin 256)

/-- The scaled score of head `h`, position `q` of batch row `b`, against key `k`. -/
def score : EReal :=
  (∑ e : Fin 192, x1 (ix2 ⟨b.val * 256 + q.val, by omega⟩ ⟨h.val * 192 + e.val, by omega⟩) * x2 (ix2 ⟨20480 + (b.val * 256 + k.val), by omega⟩ ⟨h.val * 256 + e.val, by omega⟩))
    * Ideal.ofBits FTy.f32 1033096506#32

theorem score_eq : val_main_v11 (F := Ideal) x1 x2 (ix4 b h q k) = score x1 x2 b h q k := by
  pointwise [val_main_v11, val_main_v9, val_main_v10, val_main_cst, val_main_v5, val_main_v4, val_main_v3, val_main_v2, val_main_v1, val_main_v0]
  rfl

theorem max_eq (y : FVec Ideal S32x8x256x256 .f32) :
    Host.reduce (FloatOps.maximumf (F := Ideal)) y (constant S_ .f32 0xFF800000#32) reducesTo_S32x8x256x256_S32x8x256_d3 h_S_ (ix3 b h q)
      = Finset.fold max (Ideal.ofBits FTy.f32 4286578688#32) (fun x => y (ix4 b h q x)) Finset.univ := by
  pointwise

theorem v12_eq : val_main_v12 (F := Ideal) x1 x2 (ix3 b h q)
    = Finset.fold max (Ideal.ofBits FTy.f32 4286578688#32) (fun x => score x1 x2 b h q x) Finset.univ := by
  unfold val_main_v12
  simp only [← score_eq]
  generalize val_main_v11 (F := Ideal) x1 x2 = y
  exact max_eq b h q y

theorem top_eq (z : FVec Ideal S32x8x256 .f32) : maximumf (val_main_v13 (F := Ideal)) z (ix3 b h q) = max (Ideal.ofBits FTy.f32 4286578688#32) (z (ix3 b h q)) := by
  pointwise [val_main_v13, val_main_cst_1]

theorem row_eq (z : FVec Ideal S32x8x256 .f32) : broadcastInDim S32x8x256x256 ![0, 1, 2, 3] bcast_S32x8x256x1_S32x8x256x256_0_1_2_3
    (broadcastInDim S32x8x256x1 ![0, 1, 2] bcast_S32x8x256_S32x8x256x1_0_1_2 z) (ix4 b h q k) = z (ix3 b h q) := by
  pointwise

theorem v16_eq : val_main_v16 (F := Ideal) x1 x2 (ix4 b h q k)
    = max (Ideal.ofBits FTy.f32 4286578688#32) (val_main_v12 (F := Ideal) x1 x2 (ix3 b h q)) := by
  unfold val_main_v16 val_main_v15 val_main_v14
  generalize val_main_v12 (F := Ideal) x1 x2 = z
  rw [row_eq, top_eq]

theorem v18_eq : val_main_v18 (F := Ideal) x1 x2 (ix4 b h q k)
    = Ideal.exp (score x1 x2 b h q k - max (Ideal.ofBits FTy.f32 4286578688#32)
      (Finset.fold max (Ideal.ofBits FTy.f32 4286578688#32) (fun x => score x1 x2 b h q x) Finset.univ)) := by
  rw [val_main_v18_apply, val_main_v17_apply, v16_eq, v12_eq, score_eq, Ideal.hostUnary_exp_def, Ideal.subf_def]

theorem v22_eq : val_main_v22 (F := Ideal) x1 x2 (ix4 b h q k)
    = Ideal.div (val_main_v18 (F := Ideal) x1 x2 (ix4 b h q k)) (∑ x, val_main_v18 (F := Ideal) x1 x2 (ix4 b h q x)) := by
  pointwise [val_main_v22, val_main_v21, val_main_v20, val_main_v19, val_main_cst_2]

theorem v8_eq (e : Fin 128) : val_main_v8 (F := Ideal) x3 (ix4 b k h e) = x3 (ix2 ⟨20480 + (b.val * 256 + k.val), by omega⟩ ⟨h.val * 128 + e.val, by omega⟩) := by
  pointwise [val_main_v8, val_main_v7, val_main_v6]

theorem v25_eq (r : Fin 8192) (l : Fin 1024) : val_main_v25 (F := Ideal) x1 x2 x3 (ix2 r l)
    = ∑ k, val_main_v8 (F := Ideal) x3 (ix4 ⟨r.val / 256, by omega⟩ k ⟨l.val / 128, by omega⟩ ⟨l.val % 128, by omega⟩)
      * val_main_v22 (F := Ideal) x1 x2 (ix4 ⟨r.val / 256, by omega⟩ ⟨l.val / 128, by omega⟩ ⟨r.val % 256, by omega⟩ k) := by
  pointwise [val_main_v25, val_main_v24, val_main_v23]

theorem v28_eq (r : Fin 24576) (l : Fin 1024) : val_main_v28 (F := Ideal) x0 x1 x2 x3 (ix2 r l)
    = if hr : r.val < 8192 then val_main_v25 (F := Ideal) x1 x2 x3 (ix2 ⟨r.val, hr⟩ l) else x0 (ix2 r l) := by
  pointwise [val_main_v28, val_main_v27, val_main_v26]
  by_cases hr : r.val < 8192
  · rw [dif_pos hr, dif_pos hr]
  · rw [dif_neg hr, dif_neg hr]
    exact congrArg x0 (congrArg₂ ix2 (Fin.ext (by simp only; omega)) rfl)

end Cert.Reference14Ideal.Read

namespace Cert.Kernel14Ideal.Value

open Idealize.ShloMosaic Idealize.SL.Sem Cert.Kernel14Ideal.Gen

/-- One query row against the keys, one column of the values: the exponentials' weighted sum over their sum. -/
def att (q : Fin 256 → EReal) (k : Fin 256 → Fin 256 → EReal) (v : Fin 256 → EReal) : EReal :=
  Ideal.div
    (∑ x, Ideal.exp ((∑ e, q e * k x e) - Finset.fold max (Ideal.ofBits FTy.f32 4286578688#32) (fun x => ∑ e, q e * k x e) Finset.univ) * v x)
    (∑ x, Ideal.exp ((∑ e, q e * k x e) - Finset.fold max (Ideal.ofBits FTy.f32 4286578688#32) (fun x => ∑ e, q e * k x e) Finset.univ))

variable (q : Vec Ideal S256x256 .bf16) (k : Vec Ideal S256x256 .bf16) (v : Vec Ideal S256x128 .bf16) (r : Fin 256) (d : Fin 128)

theorem head0 : (k0_pay2 (F := Ideal) q k v) (ix2 r d) = att (fun e => q (ix2 r e)) (fun j e => k (ix2 j e)) (fun j => v (ix2 j d)) := by
  pointwise [k0_pay2]; rfl

theorem head1 : (k0_pay4 (F := Ideal) (k0_pay3 q k v)) (ix2 r d) = att (fun e => q (ix2 r e)) (fun j e => k (ix2 j e)) (fun j => v (ix2 j d)) := by
  pointwise [k0_pay4, k0_pay3]; rfl

theorem head2 : (k0_pay5 (F := Ideal) q k v) (ix2 r d) = att (fun e => q (ix2 r e)) (fun j e => k (ix2 j e)) (fun j => v (ix2 j d)) := by
  pointwise [k0_pay5]; rfl

theorem head3 : (k0_pay9 (F := Ideal) (k0_pay7 q k) (k0_pay8 q k v)) (ix2 r d) = att (fun e => q (ix2 r e)) (fun j e => k (ix2 j e)) (fun j => v (ix2 j d)) := by
  pointwise [k0_pay9, k0_pay8, k0_pay7, k0_pay6]; rfl

theorem head4 : (k0_pay10 (F := Ideal) q k v) (ix2 r d) = att (fun e => q (ix2 r e)) (fun j e => k (ix2 j e)) (fun j => v (ix2 j d)) := by
  pointwise [k0_pay10]; rfl

theorem head5 : (k0_pay14 (F := Ideal) (k0_pay12 q k) (k0_pay13 q k) v) (ix2 r d) = att (fun e => q (ix2 r e)) (fun j e => k (ix2 j e)) (fun j => v (ix2 j d)) := by
  pointwise [k0_pay14, k0_pay13, k0_pay12, k0_pay11]; rfl

theorem head6 : (k0_pay15 (F := Ideal) q k v) (ix2 r d) = att (fun e => q (ix2 r e)) (fun j e => k (ix2 j e)) (fun j => v (ix2 j d)) := by
  pointwise [k0_pay15]; rfl

theorem head7 : (k0_pay1 (F := Ideal) (k0_pay17 q k) (k0_pay18 q k) v) (ix2 r d) = att (fun e => q (ix2 r e)) (fun j e => k (ix2 j e)) (fun j => v (ix2 j d)) := by
  pointwise [k0_pay1, k0_pay18, k0_pay17, k0_pay16]; rfl

variable (m : (ℓ : Loc nD τ sig) → Buf (Elt Ideal) ℓ)

/-- The scaled query of head `h` at row `r`, with its lanes of zeros. -/
def qp (x1 : FVec Ideal S24576x1536 .f32) (r : Fin 24576) (h : Fin 8) (e : Fin 256) : EReal :=
  if he : e.val < 192 then x1 (ix2 r ⟨h.val * 192 + e.val, by omega⟩) * Ideal.ofBits FTy.f32 1033096506#32 else 0

theorem V_q (c : Dev nD) (r : Fin 24576) (l : Fin 2048) :
    V m c main_v6 (ix2 r l) = qp (m ((c.tc : Thread nD τ).loc main_arg1)) r ⟨l.val / 256, by omega⟩ ⟨l.val % 256, by omega⟩ := by
  entry_read
  pointwise [qp]

theorem V_k (c : Dev nD) : V m c main_arg2 = m ((c.tc : Thread nD τ).loc main_arg2) := by
  entry_read
  rfl

theorem V_v (c : Dev nD) : V m c main_arg3 = m ((c.tc : Thread nD τ).loc main_arg3) := by
  entry_read
  rfl

theorem V_y (c : Dev nD) : V m c main_v7 = m ((c.tc : Thread nD τ).loc main_arg0) := by
  entry_read
  rfl

theorem idx : ∀ t : Fin cfg0.N,
    win0_0.index t = ![t.val, 0] ∧ win0_1.index t = ![80 + t.val, 0] ∧
    win0_2.index t = ![80 + t.val, 0] ∧ win0_3.index t = ![t.val, 0] :=
  (by decide +kernel : ∀ t : Fin grid0.N, _)

/-- The kernel's value at one of the batch's rows. -/
def REF (x1 : FVec Ideal S24576x1536 .f32) (x2 : FVec Ideal S28672x2048 .bf16) (x3 : FVec Ideal S28672x1024 .bf16) (r : Fin 24576) (l : Fin 1024) : EReal :=
  att (fun e => qp x1 r ⟨l.val / 128, by omega⟩ e)
    (fun j e => x2 (ix2 ⟨20480 + r.val % 8192 / 256 * 256 + j.val, by omega⟩ ⟨l.val / 128 * 256 + e.val, by omega⟩))
    (fun j => x3 (ix2 ⟨20480 + r.val % 8192 / 256 * 256 + j.val, by omega⟩ l))

theorem blk_q (c : Dev nD) (t : Fin cfg0.N) (ht : t.val < 32) (r : Fin 256) (l : Fin 2048) :
    iblk m c 0 t (ix2 r l) = V m c main_v6 (ix2 ⟨t.val * 256 + r.val, by omega⟩ ⟨0 + l.val, by omega⟩) := by
  blk_ext [iblk, idx t]

theorem blk_k (c : Dev nD) (t : Fin cfg0.N) (ht : t.val < 32) (j : Fin 256) (e : Fin 2048) :
    iblk m c 1 t (ix2 j e) = V m c main_arg2 (ix2 ⟨20480 + t.val * 256 + j.val, by omega⟩ ⟨0 + e.val, by omega⟩) := by
  blk_ext [iblk, idx t]

theorem blk_v (c : Dev nD) (t : Fin cfg0.N) (ht : t.val < 32) (j : Fin 256) (e : Fin 1024) :
    iblk m c 2 t (ix2 j e) = V m c main_arg3 (ix2 ⟨20480 + t.val * 256 + j.val, by omega⟩ ⟨0 + e.val, by omega⟩) := by
  blk_ext [iblk, idx t]

/-- One element of a grid point's block, over the whole arrays: head `a` of the point. -/
theorem core (c : Dev nD) (t : Fin cfg0.N) (ht : t.val < 32) (a : ℕ) (ha : a < 8) (r : Fin 256) (d : Fin 128) (R : Fin 24576) (L : Fin 1024)
    (hR : R.val = t.val * 256 + r.val) (hL : L.val = 0 + a * 128 + d.val) :
    att (fun e => iblk m c 0 t (ix2 r ⟨a * 256 + e.val, by omega⟩)) (fun j e => iblk m c 1 t (ix2 j ⟨a * 256 + e.val, by omega⟩)) (fun j => iblk m c 2 t (ix2 j ⟨a * 128 + d.val, by omega⟩))
      = REF (m ((c.tc : Thread nD τ).loc main_arg1)) (m ((c.tc : Thread nD τ).loc main_arg2)) (m ((c.tc : Thread nD τ).loc main_arg3)) R L := by
  unfold REF
  congr 1
  · funext e
    rw [blk_q m c t ht, V_q]
    congr 1
    · exact Fin.ext (by simp only; omega)
    · exact Fin.ext (by simp only; omega)
    · exact Fin.ext (by simp only; omega)
  · funext j e
    rw [blk_k m c t ht, V_k]
    exact congrArg _ (congrArg₂ ix2 (Fin.ext (by simp only; omega)) (Fin.ext (by simp only; omega)))
  · funext j
    rw [blk_v m c t ht, V_v]
    exact congrArg _ (congrArg₂ ix2 (Fin.ext (by simp only; omega)) (Fin.ext (by simp only; omega)))

theorem final (c : Dev nD) : (dats m 0 c).arrAt 3 cfg0.N = fun i => if (i 0 : ℕ) < 32 * 256 then
    REF (m ((c.tc : Thread nD τ).loc main_arg1)) (m ((c.tc : Thread nD τ).loc main_arg2)) (m ((c.tc : Thread nD τ).loc main_arg3)) (i 0) (i 1)
      else V m c main_v7 i := by
  refine (dats m 0 c).arrAt_eq_of_coversWhere 3 _ (fun β => β 0 < 32) (by decide +kernel) (fun t hf y => ?_) (fun j => by blk_simp [Pipeline.Window.cell_apply]; omega)
  blk_simp
  rw [after0_3]
  unfold Gen.outsAt0
  frame_out
  have ht : t.val < 32 := lt_of_lt_of_eq t.isLt N_0
  canon_tiles y h
  all_goals obtain ⟨r, d, rfl⟩ : ∃ r d, y = ix2 r d := ⟨y 0, y 1, eq_ix2 y⟩
  all_goals simp only [head0, head1, head2, head3, head4, head5, head6, head7]
  · refine Eq.trans ?_ (core m c t ht 7 (by norm_num) r d _ _ ?_ ?_)
    · pointwise
    · have e0 : (y 0).val = r.val := h0
      blk_simp [idx t]; omega
    · have e1 : (y 1).val = 896 + d.val := h1
      blk_simp [idx t]; omega
  · refine Eq.trans ?_ (core m c t ht 6 (by norm_num) r d _ _ ?_ ?_)
    · pointwise
    · have e0 : (y 0).val = r.val := h0
      blk_simp [idx t]; omega
    · have e1 : (y 1).val = 768 + d.val := h1
      blk_simp [idx t]; omega
  · refine Eq.trans ?_ (core m c t ht 5 (by norm_num) r d _ _ ?_ ?_)
    · pointwise
    · have e0 : (y 0).val = r.val := h0
      blk_simp [idx t]; omega
    · have e1 : (y 1).val = 640 + d.val := h1
      blk_simp [idx t]; omega
  · refine Eq.trans ?_ (core m c t ht 4 (by norm_num) r d _ _ ?_ ?_)
    · pointwise
    · have e0 : (y 0).val = r.val := h0
      blk_simp [idx t]; omega
    · have e1 : (y 1).val = 512 + d.val := h1
      blk_simp [idx t]; omega
  · refine Eq.trans ?_ (core m c t ht 3 (by norm_num) r d _ _ ?_ ?_)
    · pointwise
    · have e0 : (y 0).val = r.val := h0
      blk_simp [idx t]; omega
    · have e1 : (y 1).val = 384 + d.val := h1
      blk_simp [idx t]; omega
  · refine Eq.trans ?_ (core m c t ht 2 (by norm_num) r d _ _ ?_ ?_)
    · pointwise
    · have e0 : (y 0).val = r.val := h0
      blk_simp [idx t]; omega
    · have e1 : (y 1).val = 256 + d.val := h1
      blk_simp [idx t]; omega
  · refine Eq.trans ?_ (core m c t ht 1 (by norm_num) r d _ _ ?_ ?_)
    · pointwise
    · have e0 : (y 0).val = r.val := h0
      blk_simp [idx t]; omega
    · have e1 : (y 1).val = 128 + d.val := h1
      blk_simp [idx t]; omega
  · refine Eq.trans ?_ (core m c t ht 0 (by norm_num) r d _ _ ?_ ?_)
    · pointwise
    · have e0 : (y 0).val = r.val := h0
      blk_simp [idx t]; omega
    · have e1 : (y 1).val = d.val := h1
      blk_simp [idx t]; omega

end Cert.Kernel14Ideal.Value

namespace Cert.LatentPrompt

open Idealize.ShloMosaic Cert.Reference14Ideal Cert.Reference14Ideal.Read Cert.Soft

variable (x0 : FVec Ideal S24576x1024 .bf16) (x1 : FVec Ideal S24576x1536 .f32) (x2 : FVec Ideal S28672x2048 .bf16) (x3 : FVec Ideal S28672x1024 .bf16)

theorem score_real (h1 : ∀ i, IsReal (x1 i)) (h2 : ∀ i, IsReal (x2 i)) (b : Fin 32) (h : Fin 8) (q : Fin 256) (k : Fin 256) :
    IsReal (score x1 x2 b h q k) := by
  obtain ⟨r, _, hr⟩ := Cert.LatentScore.scale
  exact (IsReal.sum _ _ fun e => (h1 _).mul (h2 _)).mul ⟨r, hr⟩

theorem row_out (h1 : ∀ i, IsReal (x1 i)) (h2 : ∀ i, IsReal (x2 i)) (r : Fin 24576) (l : Fin 1024) (hr : r.val < 8192) (b : Fin 32) (h : Fin 8) (q : Fin 256)
    (eb : b.val = (r.val) / 256) (eh : h.val = l.val / 128) (eq : q.val = (r.val) % 256) :
    Cert.Kernel14Ideal.Value.REF x1 x2 x3 r l = ∑ k : Fin 256, x3 (ix2 ⟨20480 + (b.val * 256 + k.val), by omega⟩ ⟨h.val * 128 + l.val % 128, by omega⟩) *
      Ideal.div (Ideal.exp (score x1 x2 b h q k - max (Ideal.ofBits FTy.f32 4286578688#32)
          (Finset.fold max (Ideal.ofBits FTy.f32 4286578688#32) (fun x => score x1 x2 b h q x) Finset.univ)))
        (∑ x, Ideal.exp (score x1 x2 b h q x - max (Ideal.ofBits FTy.f32 4286578688#32)
          (Finset.fold max (Ideal.ofBits FTy.f32 4286578688#32) (fun x => score x1 x2 b h q x) Finset.univ))) := by
  have hh : (⟨l.val / 128, by omega⟩ : Fin 8) = h := Fin.ext eh.symm
  have hs : ∀ k : Fin 256, (∑ e : Fin 256, Cert.Kernel14Ideal.Value.qp x1 r h e * x2 (ix2 ⟨20480 + r.val % 8192 / 256 * 256 + k.val, by omega⟩ ⟨l.val / 128 * 256 + e.val, by omega⟩))
      = score x1 x2 b h q k := fun k => by
    unfold score
    rw [← Cert.LatentScore.scores_out _ _ Cert.LatentScore.scale]
    refine Cert.LatentScore.sum_pad _ _ (fun e => ?_) (fun e he => ?_)
    · unfold Cert.Kernel14Ideal.Value.qp
      rw [dif_pos e.isLt]
      have i1 : (ix2 r ⟨h.val * 192 + e.val, by omega⟩ : S24576x1536.Idx) = ix2 ⟨b.val * 256 + q.val, by omega⟩ ⟨h.val * 192 + e.val, by omega⟩ :=
        congrArg₂ ix2 (Fin.ext (by simp only; omega)) rfl
      have i2 : (ix2 ⟨20480 + r.val % 8192 / 256 * 256 + k.val, by omega⟩ ⟨l.val / 128 * 256 + e.val, by omega⟩ : S28672x2048.Idx) = ix2 ⟨20480 + (b.val * 256 + k.val), by omega⟩ ⟨h.val * 256 + e.val, by omega⟩ :=
        congrArg₂ ix2 (Fin.ext (by simp only; omega)) (Fin.ext (by simp only; omega))
      exact congrArg₂ (HMul.hMul (α := EReal) (β := EReal) (γ := EReal))
        (congrArg (fun i => HMul.hMul (α := EReal) (β := EReal) (γ := EReal) (x1 i) (Ideal.ofBits FTy.f32 1033096506#32)) i1) (congrArg x2 i2)
    · unfold Cert.Kernel14Ideal.Value.qp
      rw [dif_neg (by omega)]
      exact zero_mul (M₀ := EReal) _
  have hv : ∀ k : Fin 256, x3 (ix2 ⟨20480 + r.val % 8192 / 256 * 256 + k.val, by omega⟩ l) = x3 (ix2 ⟨20480 + (b.val * 256 + k.val), by omega⟩ ⟨h.val * 128 + l.val % 128, by omega⟩) := fun k =>
    congrArg x3 (congrArg₂ ix2 (Fin.ext (by simp only; omega)) (Fin.ext (by simp only; omega)))
  have hm := IsReal.fold_max (fun x => score x1 x2 b h q x) fun k => score_real x1 x2 h1 h2 b h q k
  unfold Cert.Kernel14Ideal.Value.REF Cert.Kernel14Ideal.Value.att
  rw [hh]
  simp only [hs, hv]
  rw [show ∀ y : EReal, max (Ideal.ofBits FTy.f32 4286578688#32) y = y from fun y => by
    rw [show Ideal.ofBits FTy.f32 4286578688#32 = ⊥ from ofBits_bot]; exact max_eq_right bot_le]
  exact attend _ _ (fun k => score_real x1 x2 h1 h2 b h q k) _ hm

theorem out_eq (h1 : ∀ i, IsReal (x1 i)) (h2 : ∀ i, IsReal (x2 i)) (r : Fin 24576) (l : Fin 1024) (hr : r.val < 8192) :
    Cert.Kernel14Ideal.Value.REF x1 x2 x3 r l = val_main_v25 (F := Ideal) x1 x2 x3 (ix2 ⟨r.val, hr⟩ l) := by
  rw [v25_eq]
  simp only [v22_eq, v18_eq, v8_eq]
  exact row_out x1 x2 x3 h1 h2 r l hr ⟨(r.val) / 256, by omega⟩ ⟨l.val / 128, by omega⟩ ⟨(r.val) % 256, by omega⟩ (by simp only) (by simp only) (by simp only)

theorem eq_ref (h1 : ∀ i, IsReal (x1 i)) (h2 : ∀ i, IsReal (x2 i)) :
    (fun i : S24576x1024.Idx => if (i 0 : ℕ) < 32 * 256 then Cert.Kernel14Ideal.Value.REF x1 x2 x3 (i 0) (i 1) else x0 i)
      = val_main_v28 (F := Ideal) x0 x1 x2 x3 := by
  funext i
  obtain ⟨r, l, rfl⟩ : ∃ r l, i = ix2 r l := ⟨i 0, i 1, eq_ix2 i⟩
  rw [v28_eq]
  show (if r.val < 32 * 256 then Cert.Kernel14Ideal.Value.REF x1 x2 x3 r l else x0 (ix2 r l)) = _
  by_cases hr : r.val < 8192
  · rw [if_pos (by omega), dif_pos hr]
    exact out_eq x1 x2 x3 h1 h2 r l hr
  · rw [if_neg (by omega), dif_neg hr]

end Cert.LatentPrompt

end
-- ==== Proof.DownTable.lean ====
/-
  The two tables the experts' down projection is steered by: which expert each block of rows belongs to, and how many blocks have anything to compute.
-/
module

public import proofs.«01_k».proof.Pre_blocks_named
public import Idealize.ShloMosaic.Lib.ReduceAll
public import Idealize.ShloMosaic.Lib.Affine
public import Idealize.ShloMosaic.Lib.Affine.Words
public import Idealize.ShloMosaic.Lib.Pointwise

@[expose] public section

noncomputable section

namespace Cert.Down

open Idealize.ShloMosaic Cert.Pre_blocks_named

instance facts : Cert.Pre_blocks_named.Facts where
  bcast_S_S224 := by decide
  reducesTo_S224_S_d0 := by decide
  h_S_ := by decide
  shapeCasts_S1_S_ := by decide

/-- Tables under which every block index stays inside its array: each block belongs to one of the thirty-two experts, and there is a first block. -/
structure Tab where
  T0 : S224.Idx → BitVec 32
  T1 : S1.Idx → BitVec 32
  named : ∀ x, (T0 x).toNat < 32
  some : 1 ≤ (T1 (ix1 0)).toInt

variable (g : Tab)

/-- The row block fetched at a point: the block's own, or the last one with anything to compute. -/
def Tab.row (j : Fin 224) : Nat := (Scalar.minsi (BitVec.ofNat 32 j.val) (Scalar.subi (g.T1 (ix1 0)) 1#32)).toNat

/-- The column block fetched at a point. -/
def Tab.col (j : Fin 224) (c : Fin 2) : Nat :=
  (Scalar.select (Scalar.cmpi .slt (BitVec.ofNat 32 j.val) (g.T1 (ix1 0))) (BitVec.ofNat 32 c.val) 1#32).toNat

/-- The block has something to compute. -/
def Tab.on (j : Fin 224) : Prop := (j.val : Int) < (g.T1 (ix1 0)).toInt

theorem ofNat_toInt (j : Nat) (h : j < 224) : (BitVec.ofNat 32 j).toInt = (j : Int) := by
  rw [BitVec.toInt_ofNat']; exact Int.bmod_eq_of_le (by omega) (by omega)

theorem toNat_of_isInt {x : BitVec 32} {e : Int} (hx : Affine.IsInt x e) (h : 0 ≤ e) : (x.toNat : Int) = e := by
  unfold Affine.IsInt at hx
  rw [BitVec.toInt_eq_toNat_cond] at hx
  have := x.isLt
  split at hx <;> omega

theorem Tab.row_isInt (j : Fin 224) : Affine.IsInt (Scalar.minsi (BitVec.ofNat 32 j.val) (Scalar.subi (g.T1 (ix1 0)) 1#32)) (min (j.val : Int) ((g.T1 (ix1 0)).toInt - 1)) := by
  have := j.isLt
  have h := g.some
  have hw := BitVec.toInt_lt (x := g.T1 (ix1 0))
  have h0 : Affine.IsInt (BitVec.ofNat 32 j.val) (j.val : Int) := Affine.ofNat _ (by omega)
  have h1 : Affine.IsInt 1#32 1 := Affine.ofNat _ (by omega)
  have h2 := Affine.subi (e := (g.T1 (ix1 0)).toInt - 1) (Affine.word (g.T1 (ix1 0))) h1 (by omega)
  exact Affine.minsi h0 h2 rfl

theorem Tab.row_eq (j : Fin 224) : (g.row j : Int) = min (j.val : Int) ((g.T1 (ix1 0)).toInt - 1) := by
  have h := g.some
  exact toNat_of_isInt (g.row_isInt j) (by omega)

theorem Tab.row_lt (j : Fin 224) : g.row j < 224 := by
  have h0 := g.row_eq j
  have := j.isLt
  omega

theorem Tab.row_on (j : Fin 224) (h : g.on j) : g.row j = j.val := by
  have h0 := g.row_eq j
  unfold Tab.on at h
  omega

theorem Tab.slt_iff (j : Fin 224) : Scalar.cmpi .slt (BitVec.ofNat 32 j.val) (g.T1 (ix1 0)) = 1#1 ↔ g.on j := by
  unfold Tab.on Scalar.cmpi
  rw [IntOp.cmpi_slt, ofNat_toInt j.val j.isLt]

theorem Tab.col_on (j : Fin 224) (c : Fin 2) (h : g.on j) : g.col j c = c.val := by
  have := c.isLt
  unfold Tab.col
  rw [Affine.select_pos ((g.slt_iff j).2 h), BitVec.toNat_ofNat]; omega

theorem Tab.col_lt (j : Fin 224) (c : Fin 2) : g.col j c < 2 := by
  by_cases h : g.on j
  · rw [g.col_on j c h]; exact c.isLt
  · unfold Tab.col
    rw [Affine.select_neg (fun e => h ((g.slt_iff j).1 e))]; decide

/-- The body's two conditions: one is the other's negation. -/
theorem cond_iff (c : BitVec 1) : Scalar.cmpi .ne (Scalar.extui c : BitVec 32) 0#32 = 1#1 ↔ c = 1#1 := by
  revert c; decide

theorem not_both (j : Fin 224) (v : BitVec 32)
    (h : Scalar.cmpi .ne (Scalar.extui (Scalar.cmpi .slt (BitVec.ofNat 32 j.val) v) : BitVec 32) 0#32 = 1#1) :
    ¬Scalar.cmpi .ne (Scalar.extui (Scalar.xori (Scalar.cmpi .slt (BitVec.ofNat 32 j.val) v) 1#1) : BitVec 32) 0#32 = 1#1 := by
  rw [cond_iff] at h ⊢
  rw [h]; decide

theorem either (j : Fin 224) (v : BitVec 32)
    (h : ¬Scalar.cmpi .ne (Scalar.extui (Scalar.cmpi .slt (BitVec.ofNat 32 j.val) v) : BitVec 32) 0#32 = 1#1) :
    Scalar.cmpi .ne (Scalar.extui (Scalar.xori (Scalar.cmpi .slt (BitVec.ofNat 32 j.val) v) 1#1) : BitVec 32) 0#32 = 1#1 := by
  rw [cond_iff] at h ⊢
  generalize Scalar.cmpi .slt (BitVec.ofNat 32 j.val) v = x at h ⊢
  revert h; revert x; decide

instance : Subsingleton S_.Idx := ⟨fun _ _ => funext fun a => a.elim0⟩

theorem one (x : S1.Idx) : x = ix1 0 := by
  funext a
  obtain rfl : a = 0 := Subsingleton.elim _ _
  exact Fin.ext (Nat.lt_one_iff.1 (x 0).isLt)

theorem lt_of_signed (x : BitVec 32) (h0 : 0 ≤ x.toInt) (h1 : x.toInt < 32) : x.toNat < 32 := by
  rw [BitVec.toInt_eq_toNat_cond] at h0 h1
  have := x.isLt
  split at h0 <;> omega

/-- The precondition read back. -/
theorem of_pre {F : FTy → Type} [FloatOps F] (x0 : IVec S224 32) (x1 : IVec S1 32) (x2 : FVec F S114688x2048 .bf16) (x3 : FVec F S2x32x2048x4096 .bf16)
    (x4 : FVec F S2x32x1x4096 .f32) (h : Cert.Pre_blocks_named.fn (F := F) x0 x1 x2 x3 x4 = fun _ => 1#1) :
    (∀ i, (x0 i).toNat < 32) ∧ 1 ≤ (x1 (ix1 0)).toInt := by
  have e := congrFun h (Shape.Idx.first Facts.h_S_)
  simp only [Cert.Pre_blocks_named.fn, andi] at e
  obtain ⟨e5, e7⟩ := IntOp.andi_eq_one.1 e
  constructor
  · intro i
    obtain ⟨a, b⟩ := IntOp.andi_eq_one.1 (Host.reduce_andi_all _ _ _ _ _ e5 i)
    exact lt_of_signed _ (IntOp.cmpi_sge.1 a) (IntOp.cmpi_slt.1 b)
  · have h1 : (1 : Int) ≤ (shapeCast S_ x1 Facts.shapeCasts_S1_S_ (Shape.Idx.first Facts.h_S_)).toInt := IntOp.cmpi_sge.1 e7
    have e : shapeCast S_ x1 Facts.shapeCasts_S1_S_ (Shape.Idx.first Facts.h_S_) = x1 (ix1 0) := congrArg x1 (one _)
    rwa [e] at h1

end Cert.Down

end
-- ==== Proof.DownIdeal.lean ====
/-
  The experts' down projection over Ideal: a run at any two tables that name experts and leave a block to compute. The body does one of two things at a
  grid point — a block's product and bias, or zeros —, each already run in the generated text for arbitrary tables; this module puts the two together,
  point by point, and launches them.
-/
module

public import proofs.«01_k».proof.Proof.Gen.Kernel8Ideal.Flash.Runs
public import proofs.«01_k».proof.Proof.Gen.Kernel8Ideal.Launch
public import proofs.«01_k».proof.Proof.DownTable
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Kernel8Ideal.Down

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Down (Tab)

/-- The assertions' algebra. -/
abbrev 𝕄 := MT nD τ sig Unit (Elt Ideal) ℕ (UR sig nD τ) ℕ

/-- The rounds' algebra, embedded whole. -/
abbrev EP : Emb (UR sig nD τ) 𝕄 := emb₁

variable (g : Tab)

/-- The two tables, as the pipeline takes them. -/
def pf : pre0.Contents (Elt Ideal) := fun | ⟨0, _⟩ => g.T0 | ⟨1, _⟩ => g.T1 | ⟨_ + 2, h⟩ => absurd h (by simp)

/-- The launch memory's tables are these two. -/
def Holds (m : (ℓ : Loc nD τ sig) → Buf (Elt Ideal) ℓ) : Prop :=
  (∀ c : Dev nD, m ((c : Thread nD τ).loc main_arg0) = g.T0) ∧ (∀ c : Dev nD, m ((c : Thread nD τ).loc main_arg1) = g.T1)

theorem word_0 (i : grid0.Coords) : (pf g).at 0 (Rect.unit (s := S224) (k0_off1 i) S1.size (k0_off1_inb i)) numel1_S1 = g.T0 (ix1 (i 0)) := by
  have r_i0 : (i 0).val < 224 := (i 0).isLt
  have e : (Rect.unit (s := S224) (k0_off1 i) S1.size (k0_off1_inb i)).emb (Shape.Idx.first (numel1_S1.symm ▸ Nat.one_pos)) = ix1 (i 0) := by
    funext a
    obtain rfl : a = 0 := Subsingleton.elim _ _
    refine Fin.ext ?_
    show (BitVec.ofNat 32 (i 0).val).toNat + 0 * 1 = (i 0).val
    rw [BitVec.toNat_ofNat]; omega
  exact congrArg g.T0 e

theorem word_1 (h : ∀ a, (![0] : Fin 1 → Nat) a + S1.size a ≤ S1.size a) :
    (pf g).at 1 (Rect.unit (s := S1) ![0] S1.size h) numel1_S1 = g.T1 (ix1 0) :=
  congrArg g.T1 (Cert.Down.one _)

/-- The word the body reads. -/
abbrev rd : BitVec 32 :=
  View.readAt (Elt Ideal) (tbM0_1).view (Rect.unit (s := S1) ![0] S1.size inb_S1_S1_0).toLoadRect g.T1 (Shape.Idx.first (numel1_S1.symm ▸ Nat.one_pos))

theorem rd_eq : rd g = g.T1 (ix1 0) := congrArg g.T1 (Cert.Down.one _)

/-- The block indices at a grid point. -/
theorem ix_0 (i : grid0.Coords) : cc0_transform_0 inb_S1_S1_0 numel1_S1 (pf g) i = ![g.row (i 0), 0] := by
  unfold cc0_transform_0
  dsimp only
  rw [word_1]
  rfl

theorem ix_1 (i : grid0.Coords) : cc0_transform_1 k0_off1_inb numel1_S1 inb_S1_S1_0 (pf g) i = ![0, (g.T0 (ix1 (i 0))).toNat, 0, g.col (i 0) (i 1)] := by
  show ![0, ((pf g).at 0 (Rect.unit (s := S224) (k0_off1 i) S1.size (k0_off1_inb i)) numel1_S1).toNat, 0,
    (Scalar.select (Scalar.cmpi .slt (BitVec.ofNat 32 (i 0).val) ((pf g).at 1 (Rect.unit (s := S1) ![0] S1.size inb_S1_S1_0) numel1_S1)) (BitVec.ofNat 32 (i 1).val) 1#32).toNat] = _
  rw [word_0, word_1]
  rfl

theorem ix_2 (i : grid0.Coords) : cc0_transform_2 k0_off1_inb numel1_S1 inb_S1_S1_0 (pf g) i = ![0, (g.T0 (ix1 (i 0))).toNat, 0, g.col (i 0) (i 1)] := by
  exact ix_1 g i

theorem ok : ok0 (F := Ideal) (pf g) := by
  refine ⟨fun i => ⟨?_, .inr (Affine.block_words_dvd (s := S114688x2048) (p := EltTy.packing .bf16) (by decide) (by decide))⟩,
    fun i => ⟨?_, .inr (Affine.block_words_dvd (s := S2x32x2048x4096) (p := EltTy.packing .bf16) (by decide) (by decide))⟩, fun i => ⟨?_, .inl rfl⟩⟩
  · intro a
    rw [ix_0]
    have := g.row_lt (i 0)
    fin_cases a
    · show (g.row (i 0) + 1) * 512 ≤ 114688; omega
    · show (0 + 1) * 2048 ≤ 2048; omega
  · intro a
    rw [ix_1]
    have h0 := g.named (ix1 (i 0))
    have h1 := g.col_lt (i 0) (i 1)
    fin_cases a
    · show (0 + 1) * 1 ≤ 2; omega
    · show ((g.T0 (ix1 (i 0))).toNat + 1) * 1 ≤ 32; omega
    · show (0 + 1) * 2048 ≤ 2048; omega
    · show (g.col (i 0) (i 1) + 1) * 2048 ≤ 4096; omega
  · intro a
    rw [ix_2]
    have h0 := g.named (ix1 (i 0))
    have h1 := g.col_lt (i 0) (i 1)
    fin_cases a
    · show (0 + 1) * 1 ≤ 2; omega
    · show ((g.T0 (ix1 (i 0))).toNat + 1) * 1 ≤ 32; omega
    · show (0 + 1) * 1 ≤ 1; omega
    · show (g.col (i 0) (i 1) + 1) * 2048 ≤ 4096; omega

/-- The tables are admissible, and the pipeline runs at them. -/
def adm : (pcfg0 (F := Ideal)).Adm := ⟨pf g, ok g⟩
abbrev cfgA : Pipeline.Cfg sig Λ₀ := cfg0 (F := Ideal) (adm g)
abbrev pcs : Fin 1 → Pipeline.Cfg sig Λ₀ := Pipeline.pin (pcfgs (F := Ideal)) fun _ => adm g

variable (m : (ℓ : Loc nD τ sig) → Buf (Elt Ideal) ℓ) (ρ : Dev nD → PrngReg)

abbrev crd (t : Fin (cfgA g).N) : (cfgA g).grid.Coords := (cfgA g).grid.coords t
abbrev ms0 (t : Fin (cfgA g).N) : Memref sig .tc .vmem S512x2048 .bf16 := spec0_0.stage ((cfgA g).slots t (0 : Fin 4))
abbrev hs0 (t : Fin (cfgA g).N) : (ms0 g t).IsWhole := hstage0_0 (((cfgA g).slots t (0 : Fin 4)).cast nbuf0_0)
abbrev ms1 (t : Fin (cfgA g).N) : Memref sig .tc .vmem S1x1x2048x2048 .bf16 := spec0_1.stage ((cfgA g).slots t (1 : Fin 4))
abbrev hs1 (t : Fin (cfgA g).N) : (ms1 g t).IsWhole := hstage0_1 (((cfgA g).slots t (1 : Fin 4)).cast nbuf0_1)
abbrev ms2 (t : Fin (cfgA g).N) : Memref sig .tc .vmem S1x1x1x2048 .f32 := spec0_2.stage ((cfgA g).slots t (2 : Fin 4))
abbrev hs2 (t : Fin (cfgA g).N) : (ms2 g t).IsWhole := hstage0_2 (((cfgA g).slots t (2 : Fin 4)).cast nbuf0_2)
abbrev ms3 (t : Fin (cfgA g).N) : Memref sig .tc .vmem S512x1x2048 .f32 := spec0_3.stage ((cfgA g).slots t (3 : Fin 4))
abbrev hs3 (t : Fin (cfgA g).N) : (ms3 g t).IsWhole := hstage0_3 (((cfgA g).slots t (3 : Fin 4)).cast nbuf0_3)

/-- An array's block at a point, as the launch memory has it. -/
def iblk (c : Dev nD) (w : Fin (cfgA g).W) (t : Fin (cfgA g).N) : (((cfgA g).win w).xblock (crd g t)).Idx → Elt Ideal ((cfgA g).win w).elt :=
  (((cfgA g).win w).blk t).view.read (Elt Ideal) ((s₀ m ρ).mem (((cfgA g).win w).arr.view.loc (c : Thread nD τ)))

/-- The block has something to compute. -/
abbrev Live (t : Fin (cfgA g).N) : Prop := k0_cond1 (crd g t) (rd g) = 1#1

theorem live_not (t : Fin (cfgA g).N) (h : Live g t) : ¬k0_cond2 (crd g t) (rd g) = 1#1 := Cert.Down.not_both (crd g t 0) (rd g) h
theorem idle_not (t : Fin (cfgA g).N) (h : ¬Live g t) : k0_cond2 (crd g t) (rd g) = 1#1 := Cert.Down.either (crd g t 0) (rd g) h

/-- The body writes the result's block at every point. -/
theorem written (t : Fin (cfgA g).N) : (cfgA g).idle (3 : Fin 4) ((cfgA g).grid.coords t) = false := by
  have e : (pf g).atD 1 ![0] = rd g := by
    rw [rd_eq]
    exact (dif_pos (by decide)).trans (congrArg g.T1 (Cert.Down.one _))
  show (!(k0_cond1 (crd g t) ((pf g).atD 1 ![0]) == 1#1) && !(k0_cond2 (crd g t) ((pf g).atD 1 ![0]) == 1#1)) = false
  rw [e]
  by_cases h : Live g t
  · rw [show k0_cond1 (crd g t) (rd g) = 1#1 from h]; rfl
  · rw [idle_not g t h]; exact Bool.and_false _

/-- What the body leaves in the result's block. -/
def left (c : Dev nD) (t : Fin (cfgA g).N) : S512x1x2048.Idx → Elt Ideal .f32 :=
  if q : Live g t then
    out0_A_3 c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (live_not g t q)
  else
    out0_B_3 c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (idle_not g t q)

/-- Between points the body holds its halves of the tables. -/
def Phi (c : Dev nD) : sProp 𝕄 :=
  iprop((tbM0_0.view.loc (c : Thread nD τ) ↦{fullShare.right} g.T0) ∗ (tbM0_1.view.loc (c : Thread nD τ) ↦{fullShare.right} g.T1))

/-- The pipeline's proof data. -/
def dats (_ : Fin 1) (c : Dev nD) : Dat τ (Elt Ideal) Unit ℕ (UR sig nD τ) ℕ (cfgA g) c where
  A w := (s₀ m ρ).mem (((cfgA g).win w).arr.view.loc (c : Thread nD τ))
  after w t := match w with
    | ⟨0, _⟩ => iblk g m ρ c (0 : Fin 4) t
    | ⟨1, _⟩ => iblk g m ρ c (1 : Fin 4) t
    | ⟨2, _⟩ => iblk g m ρ c (2 : Fin 4) t
    | ⟨3, _⟩ => left g m ρ c t
  Φ t := Phi g c
  q _ := fullShare
  owed _ := 0

theorem after_0 (c : Dev nD) (t : Fin (cfgA g).N) : (dats g m ρ 0 c).after (0 : Fin 4) t = iblk g m ρ c (0 : Fin 4) t := rfl
theorem after_1 (c : Dev nD) (t : Fin (cfgA g).N) : (dats g m ρ 0 c).after (1 : Fin 4) t = iblk g m ρ c (1 : Fin 4) t := rfl
theorem after_2 (c : Dev nD) (t : Fin (cfgA g).N) : (dats g m ρ 0 c).after (2 : Fin 4) t = iblk g m ρ c (2 : Fin 4) t := rfl
theorem after_3 (c : Dev nD) (t : Fin (cfgA g).N) : (dats g m ρ 0 c).after (3 : Fin 4) t = left g m ρ c t := rfl

theorem before_0 (c : Dev nD) (t : Fin (cfgA g).N) (d) : (dats g m ρ 0 c).before (0 : Fin 4) t d = iblk g m ρ c (0 : Fin 4) t :=
  ((dats g m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA g).N) (d) : (dats g m ρ 0 c).before (1 : Fin 4) t d = iblk g m ρ c (1 : Fin 4) t :=
  ((dats g m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA g).N) (d) : (dats g m ρ 0 c).before (2 : Fin 4) t d = iblk g m ρ c (2 : Fin 4) t :=
  ((dats g m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The body at a point, as the pipeline calls it. -/
abbrev bodyAt (t : Fin (cfgA g).N) : Prog (TpuEff nD τ sig (Elt Ideal) Λ₀ .tc) PUnit :=
  cc0__ffn_down_kernel (crd g t) (Memref.whole main_arg0) (Memref.isWhole_whole _) (Memref.whole main_arg1) (Memref.isWhole_whole _) (ms0 g t) (hs0 g t) (ms1 g t) (hs1 g t) (ms2 g t) (hs2 g t) (ms3 g t) (hs3 g t)

set_option maxHeartbeats 4000000 in
theorem body (c : Dev nD) (t : Fin (cfgA g).N) :
    iprop((dats g m ρ 0 c).Φ t.castSucc ∗ (dats g m ρ 0 c).owesAt () t.castSucc
        ∗ (∃ d, owns (c : Thread nD τ) (ms0 g t) fullShare ((dats g m ρ 0 c).before (0 : Fin 4) t d))
        ∗ (∃ d, owns (c : Thread nD τ) (ms1 g t) fullShare ((dats g m ρ 0 c).before (1 : Fin 4) t d))
        ∗ (∃ d, owns (c : Thread nD τ) (ms2 g t) fullShare ((dats g m ρ 0 c).before (2 : Fin 4) t d))
        ∗ (∃ d, owns (c : Thread nD τ) (ms3 g t) fullShare ((dats g m ρ 0 c).before (3 : Fin 4) t d)))
      ⊢ wp frame (wpE (defs₀ (F := Ideal)) Variants.none c none) Set.univ (bodyAt g t) fun _ =>
          iprop((dats g m ρ 0 c).Φ t.succ ∗ (dats g m ρ 0 c).owesAt () t.succ
            ∗ bigSep Finset.univ fun w : Fin (cfgA g).W =>
                match (cfgA g).idle w ((cfgA g).grid.coords t) with
                | true =>
                  match ((cfgA g).win w).flush t with
                  | false => iprop(∃ d, owns (c : Thread nD τ) (((cfgA g).win w).stage ((cfgA g).slots t w)) fullShare ((dats g m ρ 0 c).before w t d))
                  | true => owns (c : Thread nD τ) (((cfgA g).win w).stage ((cfgA g).slots t w)) fullShare ((dats g m ρ 0 c).after w t)
                | false => owns (c : Thread nD τ) (((cfgA g).win w).stage ((cfgA g).slots t w)) fullShare ((dats g m ρ 0 c).after w t)) := by
  rw [bigSep_W0]
  rewrite [written g t]
  simp only [before_0, before_1, before_2, after_0, after_1, after_2, after_3]
  rewrite [show (dats g m ρ 0 c).Φ t.succ = Phi g c from rfl, show (dats g m ρ 0 c).Φ t.castSucc = Phi g c from rfl,
    show (dats g m ρ 0 c).owesAt () t.succ = (dats g m ρ 0 c).owesAt () t.castSucc from rfl]
  by_cases q : Live g t
  · rw [show left g m ρ c t = out0_A_3 c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (live_not g t q) from dif_pos q]
    unfold Phi
    iintro ⟨⟨HT0, HT1⟩, Ho, ⟨%d0, H0⟩, ⟨%d1, H1⟩, ⟨%d2, H2⟩, ⟨%d3, H3⟩⟩
    iapply ((kernelRun0_A c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (live_not g t q)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c _ _ _ _ _ _ _ _ _ _ _ _ _ _ _ _)
  · rw [show left g m ρ c t = out0_B_3 c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (idle_not g t q) from dif_neg q]
    unfold Phi
    iintro ⟨⟨HT0, HT1⟩, Ho, ⟨%d0, H0⟩, ⟨%d1, H1⟩, ⟨%d2, H2⟩, ⟨%d3, H3⟩⟩
    iapply ((kernelRun0_B c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (idle_not g t q)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_B_3 c _ _ _ _ _ _ _ _ _ _ _ _ _ _ _ _)

theorem body_obligation (c : Dev nD) : BodyObligation (dats g m ρ 0 c) (defs₀ (F := Ideal)) Variants.none () Set.univ := fun t => by
  rw [bigSep_W0]
  exact body g m ρ c t

/-- The rounds' launch element. -/
def u₀ : UR sig nD τ :=
  initOf (Pipeline.cells (pcs g) ((launch0 (F := Ideal)).cellOf_inj fun _ => adm g))
    (Pipeline.launchToks (pcs g) ((launch0 (F := Ideal)).cellOf_inj fun _ => adm g))

theorem share_eq (c : Dev nD) (w : Fin (cfgA g).W) : (dats g m ρ 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) (adm g).1 ∗ Pipeline.scopedRest spec0 c) ⊢ (dats g m ρ 0 c).Φ 0 := by
  rw [prefHeld_eq, scopedRest0_eq, show (dats g m ρ 0 c).Φ 0 = Phi g c from rfl]
  unfold Phi
  iintro ⟨-, ⟨HT0, HT1⟩, -⟩
  isplitl [HT0]
  · iexact HT0
  iexact HT1

theorem leave (c : Dev nD) : (dats g m ρ 0 c).Φ (Fin.last (cfgA g).N) ⊢ iprop(BI.emp ∗ Pipeline.scopedRest spec0 c) := by
  rw [scopedRest0_eq, show (dats g m ρ 0 c).Φ (Fin.last (cfgA g).N) = Phi g c from rfl]
  unfold Phi
  iintro ⟨-, -⟩
  isplitr; · iempintro
  iempintro

/-- How a run ends: each array as the pipeline leaves it, each table as it was. -/
def Ends : PUnit × MemSt nD τ sig (Elt Ideal) → Prop := fun r =>
  ∀ c : Dev nD, (∀ w : Fin (cfgA g).W, r.2.mem (((cfgA g).win w).arr.view.loc (c : Thread nD τ)) = (dats g m ρ 0 c).arrAt w (cfgA g).N)
    ∧ ∀ j, r.2.mem ((c : Thread nD τ).loc (pre0.ref j)) = (adm g).1 j

theorem tables (hp : Holds g m) (c : Dev nD) (j : Fin 2) : m ((c : Thread nD τ).loc (pre0.ref j)) = (adm g).1 j := by
  fin_cases j
  · exact hp.1 c
  · exact hp.2 c

set_option backward.isDefEq.respectTransparency.types false in
set_option maxHeartbeats 4000000 in
theorem run_quiescent (hp : Holds g m) : θ_run (defs (F := Ideal)) (onTc (τ := τ) (main (F := Ideal))) (s₀ m ρ) (fun r => Ends g m ρ r ∧ r.2.sem = fun _ => 0) :=
  Pipeline.θ_run_region_noSem_pf_quiescent pcfgs (fun _ => adm g) (dats g m ρ) () ((launch0 (F := Ideal)).cellOf_inj fun _ => adm g) (0 : Fin 1)
    (launch0 (F := Ideal)).win.to₀ (launch0 (F := Ideal)).pre EP defs₀ Variants.none m ρ main
    (hbody := fun c => (body_obligation g m ρ c).loose) (hne := (launch0 (F := Ideal)).block_pos)
    (harr := (launch0 (F := Ideal)).arr_whole) (hstage := (launch0 (F := Ideal)).stage_whole) (howed := fun _ _ => rfl)
    (u₀ := u₀ g) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs g) (dats g m ρ) 0 (launch0 (F := Ideal)).win.arr_inj c (launch0 (F := Ideal)).arr_whole
      (share_eq g m ρ c) _ _ fun _ => rfl)
    (hpf := tables g m hp)
    (X := fun _ => iprop(emp)) (Y := fun _ => iprop(emp)) (Z := fun _ => iprop(emp))
    (hX := fun c => by rw [unscopedRestP0_eq]; iintro -; isplitr <;> iempintro)
    (hin := enter g m ρ)
    (hout := leave g m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Holds g m) : θ_run (defs (F := Ideal)) (onTc (τ := τ) (main (F := Ideal))) (s₀ m ρ) (Ends g m ρ) :=
  (θ_run defs _ _).mono (fun _ h => h.1) (run_quiescent g m ρ hp)

/-- From tables that name experts and leave a block to compute, every run ends, faults nowhere, and leaves the arguments as they were and every counter at zero. -/
theorem frame (hp : Holds g m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => ⟨((h c).2 0).trans (hp.1 c).symm, ((h c).2 1).trans (hp.2 c).symm, ((h c).1 (0 : Fin 4)).trans ((dats g m ρ 0 c).arrAt_in (0 : Fin 4) rfl _), ((h c).1 (1 : Fin 4)).trans ((dats g m ρ 0 c).arrAt_in (1 : Fin 4) rfl _), ((h c).1 (2 : Fin 4)).trans ((dats g m ρ 0 c).arrAt_in (2 : Fin 4) rfl _)⟩) (run g m ρ hp))
    ((θ_run defs _ _).mono (fun _ h => h.2) (run_quiescent g m ρ hp))

end Cert.Kernel8Ideal.Down

end
-- ==== Proof.Down.lean ====
/-
  The experts' down projection: the array the call leaves is the reference's, at any two tables that name experts and leave a block to compute.
-/
module

public import proofs.«01_k».proof.Proof.DownIdeal
public import proofs.«01_k».proof.Proof.Gen.Reference8Ideal.Read
public import Idealize.ShloMosaic.Lib.Pointwise
public import Idealize.ShloMosaic.Lib.Pipeline.ValueKit
public import Idealize.ShloMosaic.Lib.Claim

@[expose] public section

set_option maxRecDepth 16384

noncomputable section

namespace Cert.Kernel8Ideal.Down

open Idealize.ShloMosaic Idealize.SL.Sem Cert.Kernel8Ideal Cert.Kernel8Ideal.Gen
open Idealize.ShloMosaic.Pipeline (Dat Cfg Window)
open Cert.Down (Tab)

variable (g : Tab)

/-- The expert a block belongs to. -/
abbrev expert (j : Fin 224) : Fin 32 := ⟨(g.T0 (ix1 j)).toNat, g.named _⟩

/-- A row's block. -/
abbrev blockOf (R : Fin 114688) : Fin 224 := ⟨R.val / 512, by omega⟩

open Classical in
/-- One element of the result: the row's product with its expert's weights, and the expert's bias; zero past the last block with anything to compute. -/
def OUT (act : FVec Ideal S114688x2048 .bf16) (w : FVec Ideal S2x32x2048x4096 .bf16) (b : FVec Ideal S2x32x1x4096 .f32) (R : Fin 114688) (L : Fin 4096) : EReal :=
  if g.on (blockOf R) then
    (∑ k : Fin 2048, act (ix2 R k) * w (ix4 (0 : Fin 2) (expert g (blockOf R)) k L)) + b (ix4 (0 : Fin 2) (expert g (blockOf R)) (0 : Fin 1) L)
  else 0

theorem pay (a : Vec Ideal S512x2048 .bf16) (w : Vec Ideal S1x1x2048x2048 .bf16) (b : Vec Ideal S1x1x1x2048 .f32) (r : Fin 512) (l : Fin 2048) :
    k0_pay1 (F := Ideal) a w b (ix3 r (0 : Fin 1) l)
      = (∑ k : Fin 2048, a (ix2 r k) * w (ix4 (0 : Fin 1) (0 : Fin 1) k l)) + b (ix4 (0 : Fin 1) (0 : Fin 1) (0 : Fin 1) l) := by
  pointwise [k0_pay1]

theorem pay_zero (y : S512x1x2048.Idx) : k0_pay2 (F := Ideal) y = 0 := by
  pointwise [k0_pay2]

theorem coords_eq : ∀ t : Fin grid0.N, (grid0.coords t 0).val = t.val / 2 ∧ (grid0.coords t 1).val = t.val % 2 := by decide +kernel

/-- A table, for what does not depend on the tables. -/
def tab0 : Tab := ⟨fun _ => 0#32, fun _ => 1#32, fun _ => by decide, by decide⟩

theorem covers0 : ((cfgA tab0).win 3).Covers := by decide +kernel

theorem covers : ((cfgA g).win 3).Covers := covers0

variable (m : (ℓ : Loc nD τ sig) → Buf (Elt Ideal) ℓ) (ρ : Dev nD → PrngReg)

/-- A point's block and its half of the columns. -/
def jOf (t : Fin (cfgA g).N) : Fin 224 := crd g t 0
def cOf (t : Fin (cfgA g).N) : Fin 2 := crd g t 1

theorem jOf_val (t : Fin (cfgA g).N) : (jOf g t).val = t.val / 2 := (coords_eq t).1
theorem cOf_val (t : Fin (cfgA g).N) : (cOf g t).val = t.val % 2 := (coords_eq t).2

theorem live_iff (t : Fin (cfgA g).N) : Live g t ↔ g.on (jOf g t) := by
  rw [← g.slt_iff (jOf g t)]
  show Scalar.cmpi .ne (Scalar.extui (Scalar.cmpi .slt (BitVec.ofNat 32 (jOf g t).val) (rd g)) : BitVec 32) 0#32 = 1#1 ↔ _
  rw [Cert.Down.cond_iff, rd_eq]

theorem idx_0 (t : Fin (cfgA g).N) : ((cfgA g).win 0).index t = ![g.row (jOf g t), 0] := ix_0 g (crd g t)
theorem idx_1 (t : Fin (cfgA g).N) : ((cfgA g).win 1).index t = ![0, (g.T0 (ix1 (jOf g t))).toNat, 0, g.col (jOf g t) (cOf g t)] := ix_1 g (crd g t)
theorem idx_2 (t : Fin (cfgA g).N) : ((cfgA g).win 2).index t = ![0, (g.T0 (ix1 (jOf g t))).toNat, 0, g.col (jOf g t) (cOf g t)] := ix_2 g (crd g t)
theorem idx_3' : ∀ t : Fin (cfgA tab0).N, ((cfgA tab0).win 3).index t = ![t.val / 2, 0, t.val % 2] := by decide +kernel
theorem idx_3 (t : Fin (cfgA g).N) : ((cfgA g).win 3).index t = ![t.val / 2, 0, t.val % 2] := idx_3' t

section
variable (c : Dev nD) (t : Fin (cfgA g).N) (j : Fin 224) (C : Fin 2) (hj : jOf g t = j) (hC : cOf g t = C) (h : g.on j) (r : Fin 512) (l : Fin 2048)
include hj hC h

theorem blk_act (k : Fin 2048) : iblk g m ρ c 0 t (ix2 r k) = m ((c.tc : Thread nD τ).loc main_arg2) (ix2 ⟨j.val * 512 + r.val, by omega⟩ k) := by
  have e := idx_0 g t
  rw [hj, g.row_on j h] at e
  refine congrArg (m ((c.tc : Thread nD τ).loc main_arg2)) (?_ : (((cfgA g).win 0).blk t).view.emb (ix2 r k) = _)
  funext a
  refine Fin.ext ((Window.rect_emb_val ((cfgA g).win 0) t (ix2 r k) a rfl).trans ?_)
  match a with
  | ⟨0, _⟩ => exact congrArg (· * 512 + r.val) (congrFun e (0 : Fin 2))
  | ⟨1, _⟩ => exact (congrArg (· * 2048 + k.val) (congrFun e (1 : Fin 2))).trans (by show 0 * 2048 + k.val = k.val; omega)

theorem blk_w (k : Fin 2048) : iblk g m ρ c 1 t (ix4 (0 : Fin 1) (0 : Fin 1) k l)
    = m ((c.tc : Thread nD τ).loc main_arg3) (ix4 (0 : Fin 2) (expert g j) k ⟨C.val * 2048 + l.val, by omega⟩) := by
  have e := idx_1 g t
  rw [hj, hC, g.col_on j C h] at e
  refine congrArg (m ((c.tc : Thread nD τ).loc main_arg3)) (?_ : (((cfgA g).win 1).blk t).view.emb (ix4 (0 : Fin 1) (0 : Fin 1) k l) = _)
  funext a
  refine Fin.ext ((Window.rect_emb_val ((cfgA g).win 1) t (ix4 (0 : Fin 1) (0 : Fin 1) k l) a rfl).trans ?_)
  match a with
  | ⟨0, _⟩ => exact congrArg (· * 1 + 0) (congrFun e (0 : Fin 4))
  | ⟨1, _⟩ => exact (congrArg (· * 1 + 0) (congrFun e (1 : Fin 4))).trans (Nat.mul_one _)
  | ⟨2, _⟩ => exact (congrArg (· * 2048 + k.val) (congrFun e (2 : Fin 4))).trans (by show 0 * 2048 + k.val = k.val; omega)
  | ⟨3, _⟩ => exact congrArg (· * 2048 + l.val) (congrFun e (3 : Fin 4))

theorem blk_b : iblk g m ρ c 2 t (ix4 (0 : Fin 1) (0 : Fin 1) (0 : Fin 1) l)
    = m ((c.tc : Thread nD τ).loc main_arg4) (ix4 (0 : Fin 2) (expert g j) (0 : Fin 1) ⟨C.val * 2048 + l.val, by omega⟩) := by
  have e := idx_2 g t
  rw [hj, hC, g.col_on j C h] at e
  refine congrArg (m ((c.tc : Thread nD τ).loc main_arg4)) (?_ : (((cfgA g).win 2).blk t).view.emb (ix4 (0 : Fin 1) (0 : Fin 1) (0 : Fin 1) l) = _)
  funext a
  refine Fin.ext ((Window.rect_emb_val ((cfgA g).win 2) t (ix4 (0 : Fin 1) (0 : Fin 1) (0 : Fin 1) l) a rfl).trans ?_)
  match a with
  | ⟨0, _⟩ => exact congrArg (· * 1 + 0) (congrFun e (0 : Fin 4))
  | ⟨1, _⟩ => exact (congrArg (· * 1 + 0) (congrFun e (1 : Fin 4))).trans (Nat.mul_one _)
  | ⟨2, _⟩ => exact congrArg (· * 1 + 0) (congrFun e (2 : Fin 4))
  | ⟨3, _⟩ => exact congrArg (· * 2048 + l.val) (congrFun e (3 : Fin 4))

end

theorem core (c : Dev nD) (t : Fin (cfgA g).N) (r : Fin 512) (l : Fin 2048) (R : Fin 114688) (L : Fin 4096)
    (hR : R.val = t.val / 2 * 512 + r.val) (hL : L.val = t.val % 2 * 2048 + l.val) :
    left g m ρ c t (ix3 r (0 : Fin 1) l)
      = OUT g (m ((c.tc : Thread nD τ).loc main_arg2)) (m ((c.tc : Thread nD τ).loc main_arg3)) (m ((c.tc : Thread nD τ).loc main_arg4)) R L := by
  have h0 := jOf_val g t
  have h1 := cOf_val g t
  have hj : jOf g t = blockOf R := Fin.ext (h0.trans (by show t.val / 2 = R.val / 512; omega))
  unfold left OUT
  by_cases q : Live g t
  · have on : g.on (blockOf R) := hj ▸ (live_iff g t).1 q
    rw [dif_pos q, if_pos on]
    unfold out0_A_3
    frame_out
    have er : (⟨(blockOf R).val * 512 + r.val, by show R.val / 512 * 512 + r.val < 114688; omega⟩ : Fin 114688) = R :=
      Fin.ext (by show R.val / 512 * 512 + r.val = R.val; omega)
    have el : (⟨(cOf g t).val * 2048 + l.val, by omega⟩ : Fin 4096) = L := Fin.ext (by show (cOf g t).val * 2048 + l.val = L.val; omega)
    simp only [View.read_rep]
    rw [pay, blk_b g m ρ c t _ _ hj rfl on]
    simp only [blk_act g m ρ c t _ _ hj rfl on, blk_w g m ρ c t _ _ hj rfl on, er, el]
  · have off : ¬g.on (blockOf R) := fun h => q ((live_iff g t).2 (hj ▸ h))
    rw [dif_neg q, if_neg off]
    unfold out0_B_3
    frame_out
    exact pay_zero _

theorem final (c : Dev nD) : (dats g m ρ 0 c).arrAt 3 (cfgA g).N = fun i : S114688x1x4096.Idx =>
    OUT g (m ((c.tc : Thread nD τ).loc main_arg2)) (m ((c.tc : Thread nD τ).loc main_arg3)) (m ((c.tc : Thread nD τ).loc main_arg4)) (i 0) (i 2) := by
  refine (dats g m ρ 0 c).arrAt_eq_of_covers 3 _ (covers g) fun t hf y => ?_
  have e := idx_3 g t
  have ev := fun a => Window.rect_emb_val ((cfgA g).win 3) t y a rfl
  refine Eq.trans (?_ : _ = left g m ρ c t y) ?_
  · rfl
  obtain ⟨r, z, l, hy⟩ : ∃ (r : Fin 512) (z : Fin 1) (l : Fin 2048), y = ix3 r z l :=
    ⟨(show S512x1x2048.Idx from y) 0, (show S512x1x2048.Idx from y) 1, (show S512x1x2048.Idx from y) 2, eq_ix3 (show S512x1x2048.Idx from y)⟩
  obtain rfl : z = 0 := Subsingleton.elim _ _
  subst hy
  refine core g m ρ c t r l _ _ ?_ ?_
  · exact (ev (0 : Fin 3)).trans (congrArg (· * 512 + r.val) (congrFun e (0 : Fin 3)))
  · exact (ev (2 : Fin 3)).trans (congrArg (· * 2048 + l.val) (congrFun e (2 : Fin 3)))

end Cert.Kernel8Ideal.Down

namespace Cert.Reference8Ideal.Read

open Idealize.ShloMosaic Idealize.SL.Sem Cert.Reference8Ideal Cert.Reference8Ideal.Gen
open Cert.Down (Tab)

/-- The weights gather read at an index: the table's expert, the rest of the index as it is. -/
theorem gather_w (x : S32x2048x4096.Idx → EReal) (ix : IVec S224x3 32) (j : Fin 224) (k : Fin 2048) (l : Fin 4096) (e : Fin 32)
    (h : (ix (ix2 j (0 : Fin 3))).toInt.toNat = e.val) :
    Host.gather gather_S32x2048x4096_S224x3_S224x1x2048x4096_123_n_n_n_012_1_120484096 x ix (ix4 j (0 : Fin 1) k l) = x (ix3 e k l) := by
  unfold Host.gather
  congr 1
  funext a
  refine Fin.ext ?_
  generalize hd : gather_S32x2048x4096_S224x3_S224x1x2048x4096_123_n_n_n_012_1_120484096 = d
  show d.start _ ix a + d.batchCoord _ a + d.offCoord _ a = _
  rw [GatherDims.batchCoord_eq_zero _ _ _ (by subst hd; exact List.not_mem_nil)]
  have hs := d.start_le (ix4 j (0 : Fin 1) k l) ix a
  match a with
  | ⟨0, _⟩ =>
    have e0 : d.offCoord (ix4 j (0 : Fin 1) k l) (0 : Fin 3) = 0 := by subst hd; rfl
    have e1 : d.start (ix4 j (0 : Fin 1) k l) ix (0 : Fin 3) = min (ix (ix2 j (0 : Fin 3))).toInt.toNat 31 := by
      subst hd
      unfold GatherDims.start
      rw [dif_pos (show (0 : Fin 3) ∈ gather_S32x2048x4096_S224x3_S224x1x2048x4096_123_n_n_n_012_1_120484096.startIndexMap from List.mem_cons_self)]
      refine congrArg (fun z => min (ix z).toInt.toNat 31) ?_
      funext b
      refine Fin.ext ?_
      match b with
      | ⟨0, _⟩ => rfl
      | ⟨1, _⟩ => rfl
    show d.start _ ix (0 : Fin 3) + 0 + d.offCoord _ (0 : Fin 3) = e.val
    rw [e0, e1, h]
    have := e.isLt
    omega
  | ⟨1, _⟩ =>
    have e0 : d.offCoord (ix4 j (0 : Fin 1) k l) (1 : Fin 3) = k.val := by subst hd; rfl
    have hz : d.start (ix4 j (0 : Fin 1) k l) ix (1 : Fin 3) ≤ 0 := by subst hd; exact hs.trans (Nat.le_of_eq (show 2048 - 2048 = 0 from rfl))
    show d.start _ ix (1 : Fin 3) + 0 + d.offCoord _ (1 : Fin 3) = k.val
    rw [e0]; omega
  | ⟨2, _⟩ =>
    have e0 : d.offCoord (ix4 j (0 : Fin 1) k l) (2 : Fin 3) = l.val := by subst hd; rfl
    have hz : d.start (ix4 j (0 : Fin 1) k l) ix (2 : Fin 3) ≤ 0 := by subst hd; exact hs.trans (Nat.le_of_eq (show 4096 - 4096 = 0 from rfl))
    show d.start _ ix (2 : Fin 3) + 0 + d.offCoord _ (2 : Fin 3) = l.val
    rw [e0]; omega

/-- The bias gather read at an index. -/
theorem gather_b (x : S32x4096.Idx → EReal) (ix : IVec S224x2 32) (j : Fin 224) (l : Fin 4096) (e : Fin 32)
    (h : (ix (ix2 j (0 : Fin 2))).toInt.toNat = e.val) :
    Host.gather gather_S32x4096_S224x2_S224x1x4096_12_n_n_n_01_1_14096 x ix (ix3 j (0 : Fin 1) l) = x (ix2 e l) := by
  unfold Host.gather
  congr 1
  funext a
  refine Fin.ext ?_
  generalize hd : gather_S32x4096_S224x2_S224x1x4096_12_n_n_n_01_1_14096 = d
  show d.start _ ix a + d.batchCoord _ a + d.offCoord _ a = _
  rw [GatherDims.batchCoord_eq_zero _ _ _ (by subst hd; exact List.not_mem_nil)]
  have hs := d.start_le (ix3 j (0 : Fin 1) l) ix a
  match a with
  | ⟨0, _⟩ =>
    have e0 : d.offCoord (ix3 j (0 : Fin 1) l) (0 : Fin 2) = 0 := by subst hd; rfl
    have e1 : d.start (ix3 j (0 : Fin 1) l) ix (0 : Fin 2) = min (ix (ix2 j (0 : Fin 2))).toInt.toNat 31 := by
      subst hd
      unfold GatherDims.start
      rw [dif_pos (show (0 : Fin 2) ∈ gather_S32x4096_S224x2_S224x1x4096_12_n_n_n_01_1_14096.startIndexMap from List.mem_cons_self)]
      refine congrArg (fun z => min (ix z).toInt.toNat 31) ?_
      funext b
      refine Fin.ext ?_
      match b with
      | ⟨0, _⟩ => rfl
      | ⟨1, _⟩ => rfl
    show d.start _ ix (0 : Fin 2) + 0 + d.offCoord _ (0 : Fin 2) = e.val
    rw [e0, e1, h]
    have := e.isLt
    omega
  | ⟨1, _⟩ =>
    have e0 : d.offCoord (ix3 j (0 : Fin 1) l) (1 : Fin 2) = l.val := by subst hd; rfl
    have hz : d.start (ix3 j (0 : Fin 1) l) ix (1 : Fin 2) ≤ 0 := by subst hd; exact hs.trans (Nat.le_of_eq (show 4096 - 4096 = 0 from rfl))
    show d.start _ ix (1 : Fin 2) + 0 + d.offCoord _ (1 : Fin 2) = l.val
    rw [e0]; omega

variable (g : Tab)

/-- A table entry in range is not negative, so it is taken as it is. -/
theorem entry (x : BitVec 32) (h : x.toNat < 32) : x.toInt.toNat = x.toNat ∧ ¬Scalar.cmpi .slt x 0#32 = 1#1 := by
  have e : x.toInt = (x.toNat : Int) := by
    rw [BitVec.toInt_eq_toNat_cond]; split <;> omega
  refine ⟨by rw [e]; rfl, fun q => ?_⟩
  have := IntOp.cmpi_slt.1 q
  rw [e] at this
  have z : (0#32 : BitVec 32).toInt = 0 := by decide
  omega

theorem v10_eq (j : Fin 224) : val_main_v10 (F := Ideal) g.T0 (ix1 j) = g.T0 (ix1 j) := by
  show (if Scalar.cmpi .slt (g.T0 (ix1 j)) 0#32 = 1#1 then IntOp.addi (g.T0 (ix1 j)) 32#32 else g.T0 (ix1 j)) = _
  exact if_neg (entry _ (g.named _)).2

theorem v29_eq (j : Fin 224) : val_main_v29 (F := Ideal) g.T0 (ix1 j) = g.T0 (ix1 j) := v10_eq g j

theorem v20_eq (j : Fin 224) : val_main_v20 (F := Ideal) g.T0 (ix2 j (0 : Fin 3)) = g.T0 (ix1 j) := by
  rw [← v10_eq]
  unfold val_main_v20 val_main_v17
  generalize val_main_v10 (F := Ideal) g.T0 = y
  pointwise []

theorem v35_eq (j : Fin 224) : val_main_v35 (F := Ideal) g.T0 (ix2 j (0 : Fin 2)) = g.T0 (ix1 j) := by
  rw [← v29_eq]
  unfold val_main_v35 val_main_v33
  generalize val_main_v29 (F := Ideal) g.T0 = y
  pointwise []

variable (x2 : FVec Ideal S114688x2048 .bf16) (x3 : FVec Ideal S2x32x2048x4096 .bf16) (x4 : FVec Ideal S2x32x1x4096 .f32)

theorem v1_eq (e : Fin 32) (k : Fin 2048) (l : Fin 4096) : val_main_v1 (F := Ideal) x3 (ix3 e k l) = x3 (ix4 (0 : Fin 2) e k l) := by
  pointwise [val_main_v1, val_main_v0]

theorem v3_eq (e : Fin 32) (l : Fin 4096) : val_main_v3 (F := Ideal) x4 (ix2 e l) = x4 (ix4 (0 : Fin 2) e (0 : Fin 1) l) := by
  pointwise [val_main_v3, val_main_v2]

theorem v23_eq (j : Fin 224) (k : Fin 2048) (l : Fin 4096) :
    val_main_v23 (F := Ideal) g.T0 x3 (ix3 j k l) = x3 (ix4 (0 : Fin 2) (Cert.Kernel8Ideal.Down.expert g j) k l) := by
  rw [← v1_eq x3, ← gather_w (val_main_v1 (F := Ideal) x3) (val_main_v20 (F := Ideal) g.T0) j k l (Cert.Kernel8Ideal.Down.expert g j)
    (by rw [v20_eq]; exact (entry _ (g.named _)).1)]
  show val_main_v22 (F := Ideal) g.T0 x3 (ix3 j k l) = val_main_v21 (F := Ideal) g.T0 x3 (ix4 j (0 : Fin 1) k l)
  unfold val_main_v22
  generalize val_main_v21 (F := Ideal) g.T0 x3 = y
  pointwise []

theorem v39_eq (j : Fin 224) (r : Fin 512) (l : Fin 4096) :
    val_main_v39 (F := Ideal) g.T0 x4 (ix3 j r l) = x4 (ix4 (0 : Fin 2) (Cert.Kernel8Ideal.Down.expert g j) (0 : Fin 1) l) := by
  rw [← v3_eq x4, ← gather_b (val_main_v3 (F := Ideal) x4) (val_main_v35 (F := Ideal) g.T0) j l (Cert.Kernel8Ideal.Down.expert g j)
    (by rw [v35_eq]; exact (entry _ (g.named _)).1)]
  show _ = val_main_v36 (F := Ideal) g.T0 x4 (ix3 j (0 : Fin 1) l)
  unfold val_main_v39 val_main_v38 val_main_v37
  generalize val_main_v36 (F := Ideal) g.T0 x4 = y
  pointwise []

theorem v24_eq (j : Fin 224) (r : Fin 512) (l : Fin 4096) :
    val_main_v24 (F := Ideal) g.T0 x2 x3 (ix3 j r l)
      = ∑ k : Fin 2048, x2 (ix2 ⟨j.val * 512 + r.val, by omega⟩ k) * x3 (ix4 (0 : Fin 2) (Cert.Kernel8Ideal.Down.expert g j) k l) := by
  simp only [← v23_eq g x3 j]
  unfold val_main_v24
  generalize val_main_v23 (F := Ideal) g.T0 x3 = y
  pointwise [val_main_v5, val_main_v4]

theorem mask_eq (j : Fin 224) (r : Fin 512) (l : Fin 4096) :
    val_main_call0_v1 (F := Ideal) g.T1 (ix3 j r l) = Scalar.cmpi .slt (BitVec.ofNat 32 j.val) (g.T1 (ix1 0)) := by
  pointwise [val_main_call0_v1, val_main_v44, val_main_v43, val_main_v42, val_main_v41]
  rfl

theorem v45_eq (j : Fin 224) (r : Fin 512) (l : Fin 4096) :
    val_main_v45 (F := Ideal) g.T0 g.T1 x2 x3 x4 (ix3 j r l)
      = if Scalar.cmpi .slt (BitVec.ofNat 32 j.val) (g.T1 (ix1 0)) = 1#1 then
          val_main_v24 (F := Ideal) g.T0 x2 x3 (ix3 j r l) + val_main_v39 (F := Ideal) g.T0 x4 (ix3 j r l) else 0 := by
  rw [← mask_eq g j r l]
  unfold val_main_v45 val_main_v40
  generalize val_main_v24 (F := Ideal) g.T0 x2 x3 = y
  generalize val_main_v39 (F := Ideal) g.T0 x4 = z
  generalize val_main_call0_v1 (F := Ideal) g.T1 = u
  have hz : val_main_call0_v2 (F := Ideal) (ix3 j r l) = 0 := by
    show constant (F := Ideal) S_ .f32 0#32 ix0 = 0
    pointwise []
  show (if u (ix3 j r l) = 1#1 then y (ix3 j r l) + z (ix3 j r l) else val_main_call0_v2 (F := Ideal) (ix3 j r l)) = _
  rw [hz]

theorem v46_eq (R : Fin 114688) (z : Fin 1) (l : Fin 4096) :
    val_main_v46 (F := Ideal) g.T0 g.T1 x2 x3 x4 (ix3 R z l)
      = val_main_v45 (F := Ideal) g.T0 g.T1 x2 x3 x4 (ix3 (⟨R.val / 512, by omega⟩ : Fin 224) (⟨R.val % 512, by omega⟩ : Fin 512) l) := by
  unfold val_main_v46
  generalize val_main_v45 (F := Ideal) g.T0 g.T1 x2 x3 x4 = y
  pointwise []

theorem result_eq : val_main_v46 (F := Ideal) g.T0 g.T1 x2 x3 x4 = fun i : S114688x1x4096.Idx => Cert.Kernel8Ideal.Down.OUT g x2 x3 x4 (i 0) (i 2) := by
  funext i
  obtain ⟨R, z, l, rfl⟩ : ∃ (R : Fin 114688) (z : Fin 1) (l : Fin 4096), i = ix3 R z l := ⟨i 0, i 1, i 2, eq_ix3 i⟩
  show _ = Cert.Kernel8Ideal.Down.OUT g x2 x3 x4 R l
  have hr : (⟨R.val / 512 * 512 + R.val % 512, by omega⟩ : Fin 114688) = R := Fin.ext (by show R.val / 512 * 512 + R.val % 512 = R.val; omega)
  rw [v46_eq, v45_eq, v24_eq, v39_eq]
  unfold Cert.Kernel8Ideal.Down.OUT
  by_cases on : g.on (Cert.Kernel8Ideal.Down.blockOf R)
  · rw [if_pos on, if_pos ((g.slt_iff _).2 on)]
    simp only [hr]
  · rw [if_neg on, if_neg (fun q => on ((g.slt_iff _).1 q))]

end Cert.Reference8Ideal.Read

end
-- ==== Proof.DownBits.lean ====
/-
  The experts' down projection over Bits: a run at any two tables that name experts and leave a block to compute. The body does one of two things at a
  grid point — a block's product and bias, or zeros —, each already run in the generated text for arbitrary tables; this module puts the two together,
  point by point, and launches them.
-/
module

public import proofs.«01_k».proof.Proof.Gen.Kernel8.Flash.Runs
public import proofs.«01_k».proof.Proof.Gen.Kernel8.Launch
public import proofs.«01_k».proof.Proof.DownTable
public import Idealize.ShloMosaic.Lib.Pipeline.Quiescent
public import Idealize.ShloMosaic.Lib.Claim
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384

noncomputable section

namespace Cert.Kernel8.Down

open Cert.Kernel8 Cert.Kernel8.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Down (Tab)

/-- The assertions' algebra. -/
abbrev 𝕄 := MT nD τ sig Unit (Elt Bits) ℕ (UR sig nD τ) ℕ

/-- The rounds' algebra, embedded whole. -/
abbrev EP : Emb (UR sig nD τ) 𝕄 := emb₁

variable (g : Tab)

/-- The two tables, as the pipeline takes them. -/
def pf : pre0.Contents (Elt Bits) := fun | ⟨0, _⟩ => g.T0 | ⟨1, _⟩ => g.T1 | ⟨_ + 2, h⟩ => absurd h (by simp)

/-- The launch memory's tables are these two. -/
def Holds (m : (ℓ : Loc nD τ sig) → Buf (Elt Bits) ℓ) : Prop :=
  (∀ c : Dev nD, m ((c : Thread nD τ).loc main_arg0) = g.T0) ∧ (∀ c : Dev nD, m ((c : Thread nD τ).loc main_arg1) = g.T1)

theorem word_0 (i : grid0.Coords) : (pf g).at 0 (Rect.unit (s := S224) (k0_off1 i) S1.size (k0_off1_inb i)) numel1_S1 = g.T0 (ix1 (i 0)) := by
  have r_i0 : (i 0).val < 224 := (i 0).isLt
  have e : (Rect.unit (s := S224) (k0_off1 i) S1.size (k0_off1_inb i)).emb (Shape.Idx.first (numel1_S1.symm ▸ Nat.one_pos)) = ix1 (i 0) := by
    funext a
    obtain rfl : a = 0 := Subsingleton.elim _ _
    refine Fin.ext ?_
    show (BitVec.ofNat 32 (i 0).val).toNat + 0 * 1 = (i 0).val
    rw [BitVec.toNat_ofNat]; omega
  exact congrArg g.T0 e

theorem word_1 (h : ∀ a, (![0] : Fin 1 → Nat) a + S1.size a ≤ S1.size a) :
    (pf g).at 1 (Rect.unit (s := S1) ![0] S1.size h) numel1_S1 = g.T1 (ix1 0) :=
  congrArg g.T1 (Cert.Down.one _)

/-- The word the body reads. -/
abbrev rd : BitVec 32 :=
  View.readAt (Elt Bits) (tbM0_1).view (Rect.unit (s := S1) ![0] S1.size inb_S1_S1_0).toLoadRect g.T1 (Shape.Idx.first (numel1_S1.symm ▸ Nat.one_pos))

theorem rd_eq : rd g = g.T1 (ix1 0) := congrArg g.T1 (Cert.Down.one _)

/-- The block indices at a grid point. -/
theorem ix_0 (i : grid0.Coords) : cc0_transform_0 inb_S1_S1_0 numel1_S1 (pf g) i = ![g.row (i 0), 0] := by
  unfold cc0_transform_0
  dsimp only
  rw [word_1]
  rfl

theorem ix_1 (i : grid0.Coords) : cc0_transform_1 k0_off1_inb numel1_S1 inb_S1_S1_0 (pf g) i = ![0, (g.T0 (ix1 (i 0))).toNat, 0, g.col (i 0) (i 1)] := by
  show ![0, ((pf g).at 0 (Rect.unit (s := S224) (k0_off1 i) S1.size (k0_off1_inb i)) numel1_S1).toNat, 0,
    (Scalar.select (Scalar.cmpi .slt (BitVec.ofNat 32 (i 0).val) ((pf g).at 1 (Rect.unit (s := S1) ![0] S1.size inb_S1_S1_0) numel1_S1)) (BitVec.ofNat 32 (i 1).val) 1#32).toNat] = _
  rw [word_0, word_1]
  rfl

theorem ix_2 (i : grid0.Coords) : cc0_transform_2 k0_off1_inb numel1_S1 inb_S1_S1_0 (pf g) i = ![0, (g.T0 (ix1 (i 0))).toNat, 0, g.col (i 0) (i 1)] := by
  exact ix_1 g i

theorem ok : ok0 (F := Bits) (pf g) := by
  refine ⟨fun i => ⟨?_, .inr (Affine.block_words_dvd (s := S114688x2048) (p := EltTy.packing .bf16) (by decide) (by decide))⟩,
    fun i => ⟨?_, .inr (Affine.block_words_dvd (s := S2x32x2048x4096) (p := EltTy.packing .bf16) (by decide) (by decide))⟩, fun i => ⟨?_, .inl rfl⟩⟩
  · intro a
    rw [ix_0]
    have := g.row_lt (i 0)
    fin_cases a
    · show (g.row (i 0) + 1) * 512 ≤ 114688; omega
    · show (0 + 1) * 2048 ≤ 2048; omega
  · intro a
    rw [ix_1]
    have h0 := g.named (ix1 (i 0))
    have h1 := g.col_lt (i 0) (i 1)
    fin_cases a
    · show (0 + 1) * 1 ≤ 2; omega
    · show ((g.T0 (ix1 (i 0))).toNat + 1) * 1 ≤ 32; omega
    · show (0 + 1) * 2048 ≤ 2048; omega
    · show (g.col (i 0) (i 1) + 1) * 2048 ≤ 4096; omega
  · intro a
    rw [ix_2]
    have h0 := g.named (ix1 (i 0))
    have h1 := g.col_lt (i 0) (i 1)
    fin_cases a
    · show (0 + 1) * 1 ≤ 2; omega
    · show ((g.T0 (ix1 (i 0))).toNat + 1) * 1 ≤ 32; omega
    · show (0 + 1) * 1 ≤ 1; omega
    · show (g.col (i 0) (i 1) + 1) * 2048 ≤ 4096; omega

/-- The tables are admissible, and the pipeline runs at them. -/
def adm : (pcfg0 (F := Bits)).Adm := ⟨pf g, ok g⟩
abbrev cfgA : Pipeline.Cfg sig Λ₀ := cfg0 (F := Bits) (adm g)
abbrev pcs : Fin 1 → Pipeline.Cfg sig Λ₀ := Pipeline.pin (pcfgs (F := Bits)) fun _ => adm g

variable (m : (ℓ : Loc nD τ sig) → Buf (Elt Bits) ℓ) (ρ : Dev nD → PrngReg)

abbrev crd (t : Fin (cfgA g).N) : (cfgA g).grid.Coords := (cfgA g).grid.coords t
abbrev ms0 (t : Fin (cfgA g).N) : Memref sig .tc .vmem S512x2048 .bf16 := spec0_0.stage ((cfgA g).slots t (0 : Fin 4))
abbrev hs0 (t : Fin (cfgA g).N) : (ms0 g t).IsWhole := hstage0_0 (((cfgA g).slots t (0 : Fin 4)).cast nbuf0_0)
abbrev ms1 (t : Fin (cfgA g).N) : Memref sig .tc .vmem S1x1x2048x2048 .bf16 := spec0_1.stage ((cfgA g).slots t (1 : Fin 4))
abbrev hs1 (t : Fin (cfgA g).N) : (ms1 g t).IsWhole := hstage0_1 (((cfgA g).slots t (1 : Fin 4)).cast nbuf0_1)
abbrev ms2 (t : Fin (cfgA g).N) : Memref sig .tc .vmem S1x1x1x2048 .f32 := spec0_2.stage ((cfgA g).slots t (2 : Fin 4))
abbrev hs2 (t : Fin (cfgA g).N) : (ms2 g t).IsWhole := hstage0_2 (((cfgA g).slots t (2 : Fin 4)).cast nbuf0_2)
abbrev ms3 (t : Fin (cfgA g).N) : Memref sig .tc .vmem S512x1x2048 .f32 := spec0_3.stage ((cfgA g).slots t (3 : Fin 4))
abbrev hs3 (t : Fin (cfgA g).N) : (ms3 g t).IsWhole := hstage0_3 (((cfgA g).slots t (3 : Fin 4)).cast nbuf0_3)

/-- An array's block at a point, as the launch memory has it. -/
def iblk (c : Dev nD) (w : Fin (cfgA g).W) (t : Fin (cfgA g).N) : (((cfgA g).win w).xblock (crd g t)).Idx → Elt Bits ((cfgA g).win w).elt :=
  (((cfgA g).win w).blk t).view.read (Elt Bits) ((s₀ m ρ).mem (((cfgA g).win w).arr.view.loc (c : Thread nD τ)))

/-- The block has something to compute. -/
abbrev Live (t : Fin (cfgA g).N) : Prop := k0_cond1 (crd g t) (rd g) = 1#1

theorem live_not (t : Fin (cfgA g).N) (h : Live g t) : ¬k0_cond2 (crd g t) (rd g) = 1#1 := Cert.Down.not_both (crd g t 0) (rd g) h
theorem idle_not (t : Fin (cfgA g).N) (h : ¬Live g t) : k0_cond2 (crd g t) (rd g) = 1#1 := Cert.Down.either (crd g t 0) (rd g) h

/-- The body writes the result's block at every point. -/
theorem written (t : Fin (cfgA g).N) : (cfgA g).idle (3 : Fin 4) ((cfgA g).grid.coords t) = false := by
  have e : (pf g).atD 1 ![0] = rd g := by
    rw [rd_eq]
    exact (dif_pos (by decide)).trans (congrArg g.T1 (Cert.Down.one _))
  show (!(k0_cond1 (crd g t) ((pf g).atD 1 ![0]) == 1#1) && !(k0_cond2 (crd g t) ((pf g).atD 1 ![0]) == 1#1)) = false
  rw [e]
  by_cases h : Live g t
  · rw [show k0_cond1 (crd g t) (rd g) = 1#1 from h]; rfl
  · rw [idle_not g t h]; exact Bool.and_false _

/-- What the body leaves in the result's block. -/
def left (c : Dev nD) (t : Fin (cfgA g).N) : S512x1x2048.Idx → Elt Bits .f32 :=
  if q : Live g t then
    out0_A_3 c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (live_not g t q)
  else
    out0_B_3 c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (idle_not g t q)

/-- Between points the body holds its halves of the tables. -/
def Phi (c : Dev nD) : sProp 𝕄 :=
  iprop((tbM0_0.view.loc (c : Thread nD τ) ↦{fullShare.right} g.T0) ∗ (tbM0_1.view.loc (c : Thread nD τ) ↦{fullShare.right} g.T1))

/-- The pipeline's proof data. -/
def dats (_ : Fin 1) (c : Dev nD) : Dat τ (Elt Bits) Unit ℕ (UR sig nD τ) ℕ (cfgA g) c where
  A w := (s₀ m ρ).mem (((cfgA g).win w).arr.view.loc (c : Thread nD τ))
  after w t := match w with
    | ⟨0, _⟩ => iblk g m ρ c (0 : Fin 4) t
    | ⟨1, _⟩ => iblk g m ρ c (1 : Fin 4) t
    | ⟨2, _⟩ => iblk g m ρ c (2 : Fin 4) t
    | ⟨3, _⟩ => left g m ρ c t
  Φ t := Phi g c
  q _ := fullShare
  owed _ := 0

theorem after_0 (c : Dev nD) (t : Fin (cfgA g).N) : (dats g m ρ 0 c).after (0 : Fin 4) t = iblk g m ρ c (0 : Fin 4) t := rfl
theorem after_1 (c : Dev nD) (t : Fin (cfgA g).N) : (dats g m ρ 0 c).after (1 : Fin 4) t = iblk g m ρ c (1 : Fin 4) t := rfl
theorem after_2 (c : Dev nD) (t : Fin (cfgA g).N) : (dats g m ρ 0 c).after (2 : Fin 4) t = iblk g m ρ c (2 : Fin 4) t := rfl
theorem after_3 (c : Dev nD) (t : Fin (cfgA g).N) : (dats g m ρ 0 c).after (3 : Fin 4) t = left g m ρ c t := rfl

theorem before_0 (c : Dev nD) (t : Fin (cfgA g).N) (d) : (dats g m ρ 0 c).before (0 : Fin 4) t d = iblk g m ρ c (0 : Fin 4) t :=
  ((dats g m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA g).N) (d) : (dats g m ρ 0 c).before (1 : Fin 4) t d = iblk g m ρ c (1 : Fin 4) t :=
  ((dats g m ρ 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA g).N) (d) : (dats g m ρ 0 c).before (2 : Fin 4) t d = iblk g m ρ c (2 : Fin 4) t :=
  ((dats g m ρ 0 c).before_in_eq_fetched (2 : Fin 4) rfl (fun _ => rfl) (fun _ _ _ => rfl) (fun t => by rw [after_2]; unfold Dat.blockOf iblk; rfl) t d).trans
    (by unfold Dat.fetched Dat.blockOf iblk; rfl)

/-- The body at a point, as the pipeline calls it. -/
abbrev bodyAt (t : Fin (cfgA g).N) : Prog (TpuEff nD τ sig (Elt Bits) Λ₀ .tc) PUnit :=
  cc0__ffn_down_kernel (crd g t) (Memref.whole main_arg0) (Memref.isWhole_whole _) (Memref.whole main_arg1) (Memref.isWhole_whole _) (ms0 g t) (hs0 g t) (ms1 g t) (hs1 g t) (ms2 g t) (hs2 g t) (ms3 g t) (hs3 g t)

set_option maxHeartbeats 4000000 in
theorem body (c : Dev nD) (t : Fin (cfgA g).N) :
    iprop((dats g m ρ 0 c).Φ t.castSucc ∗ (dats g m ρ 0 c).owesAt () t.castSucc
        ∗ (∃ d, owns (c : Thread nD τ) (ms0 g t) fullShare ((dats g m ρ 0 c).before (0 : Fin 4) t d))
        ∗ (∃ d, owns (c : Thread nD τ) (ms1 g t) fullShare ((dats g m ρ 0 c).before (1 : Fin 4) t d))
        ∗ (∃ d, owns (c : Thread nD τ) (ms2 g t) fullShare ((dats g m ρ 0 c).before (2 : Fin 4) t d))
        ∗ (∃ d, owns (c : Thread nD τ) (ms3 g t) fullShare ((dats g m ρ 0 c).before (3 : Fin 4) t d)))
      ⊢ wp frame (wpE (defs₀ (F := Bits)) Variants.none c none) Set.univ (bodyAt g t) fun _ =>
          iprop((dats g m ρ 0 c).Φ t.succ ∗ (dats g m ρ 0 c).owesAt () t.succ
            ∗ bigSep Finset.univ fun w : Fin (cfgA g).W =>
                match (cfgA g).idle w ((cfgA g).grid.coords t) with
                | true =>
                  match ((cfgA g).win w).flush t with
                  | false => iprop(∃ d, owns (c : Thread nD τ) (((cfgA g).win w).stage ((cfgA g).slots t w)) fullShare ((dats g m ρ 0 c).before w t d))
                  | true => owns (c : Thread nD τ) (((cfgA g).win w).stage ((cfgA g).slots t w)) fullShare ((dats g m ρ 0 c).after w t)
                | false => owns (c : Thread nD τ) (((cfgA g).win w).stage ((cfgA g).slots t w)) fullShare ((dats g m ρ 0 c).after w t)) := by
  rw [bigSep_W0]
  rewrite [written g t]
  simp only [before_0, before_1, before_2, after_0, after_1, after_2, after_3]
  rewrite [show (dats g m ρ 0 c).Φ t.succ = Phi g c from rfl, show (dats g m ρ 0 c).Φ t.castSucc = Phi g c from rfl,
    show (dats g m ρ 0 c).owesAt () t.succ = (dats g m ρ 0 c).owesAt () t.castSucc from rfl]
  by_cases q : Live g t
  · rw [show left g m ρ c t = out0_A_3 c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (live_not g t q) from dif_pos q]
    unfold Phi
    iintro ⟨⟨HT0, HT1⟩, Ho, ⟨%d0, H0⟩, ⟨%d1, H1⟩, ⟨%d2, H2⟩, ⟨%d3, H3⟩⟩
    iapply ((kernelRun0_A c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (live_not g t q)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_A_3 c _ _ _ _ _ _ _ _ _ _ _ _ _ _ _ _)
  · rw [show left g m ρ c t = out0_B_3 c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (idle_not g t q) from dif_neg q]
    unfold Phi
    iintro ⟨⟨HT0, HT1⟩, Ho, ⟨%d0, H0⟩, ⟨%d1, H1⟩, ⟨%d2, H2⟩, ⟨%d3, H3⟩⟩
    iapply ((kernelRun0_B c (crd g t) (ms0 g t) (hs0 g t) (ms1 g t) (hs1 g t) (ms2 g t) (hs2 g t) (ms3 g t) (hs3 g t) g.T0 g.T1 (iblk g m ρ c (0 : Fin 4) t) (iblk g m ρ c (1 : Fin 4) t) (iblk g m ρ c (2 : Fin 4) t) q (idle_not g t q)).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro; exact View.read_writes_of_cover _ _ _ _ _ (cover0_B_3 c _ _ _ _ _ _ _ _ _ _ _ _ _ _ _ _)

theorem body_obligation (c : Dev nD) : BodyObligation (dats g m ρ 0 c) (defs₀ (F := Bits)) Variants.none () Set.univ := fun t => by
  rw [bigSep_W0]
  exact body g m ρ c t

/-- The rounds' launch element. -/
def u₀ : UR sig nD τ :=
  initOf (Pipeline.cells (pcs g) ((launch0 (F := Bits)).cellOf_inj fun _ => adm g))
    (Pipeline.launchToks (pcs g) ((launch0 (F := Bits)).cellOf_inj fun _ => adm g))

theorem share_eq (c : Dev nD) (w : Fin (cfgA g).W) : (dats g m ρ 0 c).share w = fullShare := by unfold Dat.share; split <;> rfl

theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) (adm g).1 ∗ Pipeline.scopedRest spec0 c) ⊢ (dats g m ρ 0 c).Φ 0 := by
  rw [prefHeld_eq, scopedRest0_eq, show (dats g m ρ 0 c).Φ 0 = Phi g c from rfl]
  unfold Phi
  iintro ⟨-, ⟨HT0, HT1⟩, -⟩
  isplitl [HT0]
  · iexact HT0
  iexact HT1

theorem leave (c : Dev nD) : (dats g m ρ 0 c).Φ (Fin.last (cfgA g).N) ⊢ iprop(BI.emp ∗ Pipeline.scopedRest spec0 c) := by
  rw [scopedRest0_eq, show (dats g m ρ 0 c).Φ (Fin.last (cfgA g).N) = Phi g c from rfl]
  unfold Phi
  iintro ⟨-, -⟩
  isplitr; · iempintro
  iempintro

/-- How a run ends: each array as the pipeline leaves it, each table as it was. -/
def Ends : PUnit × MemSt nD τ sig (Elt Bits) → Prop := fun r =>
  ∀ c : Dev nD, (∀ w : Fin (cfgA g).W, r.2.mem (((cfgA g).win w).arr.view.loc (c : Thread nD τ)) = (dats g m ρ 0 c).arrAt w (cfgA g).N)
    ∧ ∀ j, r.2.mem ((c : Thread nD τ).loc (pre0.ref j)) = (adm g).1 j

theorem tables (hp : Holds g m) (c : Dev nD) (j : Fin 2) : m ((c : Thread nD τ).loc (pre0.ref j)) = (adm g).1 j := by
  fin_cases j
  · exact hp.1 c
  · exact hp.2 c

set_option backward.isDefEq.respectTransparency.types false in
set_option maxHeartbeats 4000000 in
theorem run_quiescent (hp : Holds g m) : θ_run (defs (F := Bits)) (onTc (τ := τ) (main (F := Bits))) (s₀ m ρ) (fun r => Ends g m ρ r ∧ r.2.sem = fun _ => 0) :=
  Pipeline.θ_run_region_noSem_pf_quiescent pcfgs (fun _ => adm g) (dats g m ρ) () ((launch0 (F := Bits)).cellOf_inj fun _ => adm g) (0 : Fin 1)
    (launch0 (F := Bits)).win.to₀ (launch0 (F := Bits)).pre EP defs₀ Variants.none m ρ main
    (hbody := fun c => (body_obligation g m ρ c).loose) (hne := (launch0 (F := Bits)).block_pos)
    (harr := (launch0 (F := Bits)).arr_whole) (hstage := (launch0 (F := Bits)).stage_whole) (howed := fun _ _ => rfl)
    (u₀ := u₀ g) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs g) (dats g m ρ) 0 (launch0 (F := Bits)).win.arr_inj c (launch0 (F := Bits)).arr_whole
      (share_eq g m ρ c) _ _ fun _ => rfl)
    (hpf := tables g m hp)
    (X := fun _ => iprop(emp)) (Y := fun _ => iprop(emp)) (Z := fun _ => iprop(emp))
    (hX := fun c => by rw [unscopedRestP0_eq]; iintro -; isplitr <;> iempintro)
    (hin := enter g m ρ)
    (hout := leave g m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Holds g m) : θ_run (defs (F := Bits)) (onTc (τ := τ) (main (F := Bits))) (s₀ m ρ) (Ends g m ρ) :=
  (θ_run defs _ _).mono (fun _ h => h.1) (run_quiescent g m ρ hp)

/-- From tables that name experts and leave a block to compute, every run ends, faults nowhere, and leaves the arguments as they were and every counter at zero. -/
theorem frame (hp : Holds g m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => ⟨((h c).2 0).trans (hp.1 c).symm, ((h c).2 1).trans (hp.2 c).symm, ((h c).1 (0 : Fin 4)).trans ((dats g m ρ 0 c).arrAt_in (0 : Fin 4) rfl _), ((h c).1 (1 : Fin 4)).trans ((dats g m ρ 0 c).arrAt_in (1 : Fin 4) rfl _), ((h c).1 (2 : Fin 4)).trans ((dats g m ρ 0 c).arrAt_in (2 : Fin 4) rfl _)⟩) (run g m ρ hp))
    ((θ_run defs _ _).mono (fun _ h => h.2) (run_quiescent g m ρ hp))

end Cert.Kernel8.Down

end
-- ==== Proof.lean ====
/-
  The certificate: of each kernel the frames of the program, of its ideal reading and of its reference, and the
  equality of the two over the extended reals (for the attentions where the queries and the keys are
  finite, and for the experts' down projection where the blocks name experts).
-/
module

public import proofs.«01_k».proof.Proof.Gqa
public import proofs.«01_k».proof.Proof.PrepRef
public import proofs.«01_k».proof.Proof.PrepKey
public import proofs.«01_k».proof.Proof.Norm
public import proofs.«01_k».proof.Proof.Residual
public import proofs.«01_k».proof.Proof.Merge
public import proofs.«01_k».proof.Proof.InProj
public import proofs.«01_k».proof.Proof.Latent
public import proofs.«01_k».proof.Proof.Modulate
public import proofs.«01_k».proof.Proof.Prompt
public import proofs.«01_k».proof.Proof.LatentSample
public import proofs.«01_k».proof.Proof.LatentPrompt
public import proofs.«01_k».proof.Proof.Down
public import proofs.«01_k».proof.Proof.DownBits
public import proofs.«01_k».proof.Proof.Finite
public import Idealize.ShloMosaic.Lib.Claim
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read

@[expose] public section

noncomputable section

namespace Cert.Proof

open Idealize.ShloMosaic Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite_qk := fun m ρ _ => Cert.KernelIdeal.Gen.frame m ρ
theorem frame_ref : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)
theorem frame_ref_pre : Cert.quiescent_ReferenceIdeal_pre_finite_qk := fun m ρ _ => frame_ref m ρ trivial

theorem algebraic : Cert.algebraic_KernelIdeal_ReferenceIdeal_pre_finite_qk := by
  intro m g m' g' hp hm
  refine ⟨fun c => (Cert.KernelIdeal.Gen.dats (F := Ideal) m 0 c).arrAt 3 Cert.KernelIdeal.cfg0.N,
    Cert.KernelIdeal.Value.run_blocks (F := Ideal) m g,
    (θ_run _ _ _).mono (fun _ h c => ⟨(h c).1.trans ?_, (h c).2⟩) (Cert.ReferenceIdeal.Value.run (F := Ideal) m' g')⟩
  obtain ⟨a0, a1, a2, a3, a4, a5⟩ := hm c
  obtain ⟨h1, h2, h4⟩ := Cert.Finite.of_pre _ _ _ _ _ _ (hp c)
  rw [Cert.ReferenceIdeal.Read.val_main_v28_eq, a0, a1, a2, a3, a4, a5]
  refine Eq.trans ?_ (Cert.KernelIdeal.Value.final m c).symm
  rw [Cert.KernelIdeal.Value.V_y]
  exact (Cert.Gqa.eq_ref _ _ _ _ _ _ h1 h2 h4).symm

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_ref2 : Cert.quiescent_Reference2Ideal := fun m ρ _ =>
  (θ_run _ _ _).mono (fun r h => ⟨fun c => (h c).2.2.2.2.2.2.2.2.2.2.2.2, sem_eq_zero_of_no_sems (by decide) r.2⟩)
    (Cert.Reference2Ideal.Value.run (F := Ideal) m ρ)

theorem algebraic2 : Cert.algebraic_Kernel2Ideal_Reference2Ideal := by
  intro m g m' g' _ hm
  refine ⟨fun c => Cert.Kernel2Ideal.Value.cols 896 0 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 512 896 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 64 1408 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 2048 1472 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 512 3520 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 512 4032 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 1024 4544 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 1024 5568 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 1024 6592 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 1024 7616 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 32 8640 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Kernel2Ideal.Value.cols 12288 8672 (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run _ _ _).mono (fun r h c => ?_) (θ_run_and (Cert.Kernel2Ideal.Gen.run_main (F := Ideal) m g) (Cert.Kernel2Ideal.Gen.unchanged (F := Ideal) m g)),
    (θ_run _ _ _).mono (fun r h c => ?_) (Cert.Reference2Ideal.Value.run (F := Ideal) m' g')⟩
  · obtain ⟨e0, e1, e2, e3, e4, e5, e6, e7, e8, e9, e10, e11⟩ := Cert.Kernel2Ideal.Value.slices m c
    exact ⟨((h.1 c).2 Cert.Kernel2Ideal.main_v20 (Pipeline.mem_restRefs_of Cert.Kernel2Ideal.main_v20 (by decide) (by decide))).trans e0,
      ((h.1 c).2 Cert.Kernel2Ideal.main_v21 (Pipeline.mem_restRefs_of Cert.Kernel2Ideal.main_v21 (by decide) (by decide))).trans e1,
      ((h.1 c).2 Cert.Kernel2Ideal.main_v22 (Pipeline.mem_restRefs_of Cert.Kernel2Ideal.main_v22 (by decide) (by decide))).trans e2,
      ((h.1 c).2 Cert.Kernel2Ideal.main_v23 (Pipeline.mem_restRefs_of Cert.Kernel2Ideal.main_v23 (by decide) (by decide))).trans e3,
      ((h.1 c).2 Cert.Kernel2Ideal.main_v24 (Pipeline.mem_restRefs_of Cert.Kernel2Ideal.main_v24 (by decide) (by decide))).trans e4,
      ((h.1 c).2 Cert.Kernel2Ideal.main_v25 (Pipeline.mem_restRefs_of Cert.Kernel2Ideal.main_v25 (by decide) (by decide))).trans e5,
      ((h.1 c).2 Cert.Kernel2Ideal.main_v26 (Pipeline.mem_restRefs_of Cert.Kernel2Ideal.main_v26 (by decide) (by decide))).trans e6,
      ((h.1 c).2 Cert.Kernel2Ideal.main_v27 (Pipeline.mem_restRefs_of Cert.Kernel2Ideal.main_v27 (by decide) (by decide))).trans e7,
      ((h.1 c).2 Cert.Kernel2Ideal.main_v28 (Pipeline.mem_restRefs_of Cert.Kernel2Ideal.main_v28 (by decide) (by decide))).trans e8,
      ((h.1 c).2 Cert.Kernel2Ideal.main_v29 (Pipeline.mem_restRefs_of Cert.Kernel2Ideal.main_v29 (by decide) (by decide))).trans e9,
      ((h.1 c).2 Cert.Kernel2Ideal.main_v30 (Pipeline.mem_restRefs_of Cert.Kernel2Ideal.main_v30 (by decide) (by decide))).trans e10,
      ((h.1 c).2 Cert.Kernel2Ideal.main_v31 (Pipeline.mem_restRefs_of Cert.Kernel2Ideal.main_v31 (by decide) (by decide))).trans e11, h.2 c⟩
  · obtain ⟨r0, r1, r2, r3, r4, r5, r6, r7, r8, r9, r10, r11, hargs⟩ := h c
    obtain ⟨a0, a1⟩ := hm c
    rw [a0, a1] at r0 r1 r2 r3 r4 r5 r6 r7 r8 r9 r10 r11
    obtain ⟨f0, f1, f2, f3, f4, f5, f6, f7, f8, f9, f10, f11⟩ := Cert.Reference2Ideal.Read.slices (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
    exact ⟨r0.trans ((Cert.Reference2Ideal.Read.val_main_v1_eq _ _).symm.trans f0),
      r1.trans ((Cert.Reference2Ideal.Read.val_main_v2_eq _ _).symm.trans f1),
      r2.trans ((Cert.Reference2Ideal.Read.val_main_v3_eq _ _).symm.trans f2),
      r3.trans ((Cert.Reference2Ideal.Read.val_main_v4_eq _ _).symm.trans f3),
      r4.trans ((Cert.Reference2Ideal.Read.val_main_v5_eq _ _).symm.trans f4),
      r5.trans ((Cert.Reference2Ideal.Read.val_main_v6_eq _ _).symm.trans f5),
      r6.trans ((Cert.Reference2Ideal.Read.val_main_v7_eq _ _).symm.trans f6),
      r7.trans ((Cert.Reference2Ideal.Read.val_main_v8_eq _ _).symm.trans f7),
      r8.trans ((Cert.Reference2Ideal.Read.val_main_v9_eq _ _).symm.trans f8),
      r9.trans ((Cert.Reference2Ideal.Read.val_main_v10_eq _ _).symm.trans f9),
      r10.trans ((Cert.Reference2Ideal.Read.val_main_v11_eq _ _).symm.trans f10),
      r11.trans ((Cert.Reference2Ideal.Read.val_main_v12_eq _ _).symm.trans f11), hargs⟩

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_ref3 : Cert.quiescent_Reference3Ideal := fun m ρ _ =>
  (θ_run _ _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m g m' g' _ hm
  refine ⟨fun c => (Cert.Kernel3Ideal.Gen.dats (F := Ideal) m 0 c).arrAt 9 Cert.Kernel3Ideal.cfg0.N,
    Cert.Kernel3Ideal.Value.run_blocks (F := Ideal) m g,
    (θ_run _ _ _).mono (fun _ h c => ⟨(h c).1.trans ?_, (h c).2⟩) (Cert.Reference3Ideal.Value.run (F := Ideal) m' g')⟩
  obtain ⟨a0, a1, a2, a3, a4⟩ := hm c
  rw [Cert.Reference3Ideal.Read.val_main_v28_eq, a0, a1, a2, a3, a4]
  exact (Cert.Reference3Ideal.Read.result_eq _ _ _ _ _).trans (Cert.Kernel3Ideal.Value.final m c).symm

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_ref4 : Cert.quiescent_Reference4Ideal := fun m ρ _ =>
  (θ_run _ _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := by
  intro m g m' g' _ hm
  refine ⟨fun c => (Cert.Kernel4Ideal.Gen.dats (F := Ideal) m 0 c).arrAt 4 Cert.Kernel4Ideal.cfg0.N,
    Cert.Kernel4Ideal.Value.run_blocks (F := Ideal) m g,
    (θ_run _ _ _).mono (fun _ h c => ⟨(h c).1.trans ?_, (h c).2⟩) (Cert.Reference4Ideal.Value.run (F := Ideal) m' g')⟩
  obtain ⟨a0, a1, a2, a3⟩ := hm c
  rw [Cert.Reference4Ideal.Read.val_main_v24_eq, a0, a1, a2, a3]
  exact (Cert.Reference4Ideal.Read.result_eq _ _ _ _).trans (Cert.Kernel4Ideal.Value.final m c).symm

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_ref5 : Cert.quiescent_Reference5Ideal := fun m ρ _ =>
  (θ_run _ _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m g m' g' _ hm
  refine ⟨fun c => (Cert.Kernel5Ideal.Gen.dats (F := Ideal) m 0 c).arrAt 2 Cert.Kernel5Ideal.cfg0.N,
    Cert.Kernel5Ideal.Value.run_blocks (F := Ideal) m g,
    (θ_run _ _ _).mono (fun _ h c => ⟨(h c).1.trans ?_, (h c).2⟩) (Cert.Reference5Ideal.Value.run (F := Ideal) m' g')⟩
  obtain ⟨a0, a1⟩ := hm c
  rw [Cert.Reference5Ideal.Read.val_main_v13_eq, a0, a1]
  exact (Cert.Reference5Ideal.Read.result_eq _ _).trans (Cert.Kernel5Ideal.Value.final m c).symm

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_ref6 : Cert.quiescent_Reference6Ideal := fun m ρ _ =>
  (θ_run _ _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := by
  intro m g m' g' _ hm
  refine ⟨fun c => (Cert.Kernel6Ideal.Gen.dats (F := Ideal) m 0 c).arrAt 2 Cert.Kernel6Ideal.cfg0.N,
    Cert.Kernel6Ideal.Value.run_blocks (F := Ideal) m g,
    (θ_run _ _ _).mono (fun _ h c => ⟨(h c).1.trans ?_, (h c).2⟩) (Cert.Reference6Ideal.Value.run (F := Ideal) m' g')⟩
  obtain ⟨a0, a1⟩ := hm c
  rw [Cert.Reference6Ideal.Read.val_main_v13_eq, a0, a1]
  exact (Cert.Reference6Ideal.Read.result_eq _ _).trans (Cert.Kernel6Ideal.Value.final m c).symm

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_ref7 : Cert.quiescent_Reference7Ideal := fun m ρ _ =>
  (θ_run _ _ _).mono (fun r h => ⟨fun c => (h c).2.2.2.2.2.2.2, sem_eq_zero_of_no_sems (by decide) r.2⟩)
    (Cert.Reference7Ideal.Value.run (F := Ideal) m ρ)

set_option maxHeartbeats 4000000 in
theorem algebraic7 : Cert.algebraic_Kernel7Ideal_Reference7Ideal := by
  intro m g m' g' _ hm
  refine ⟨fun c i => Cert.Prep.outKv (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg5)) (i 0) (i 1),
    fun c i => Cert.Prep.outKv (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg5)) (i 0) (i 1),
    fun c i => Cert.Prep.outKr (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (i 0) (i 1),
    fun c i => Cert.Prep.outQ (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg6)) (i 0) (i 1),
    fun c i => Cert.Prep.outKn (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg7)) (i 0) (i 1),
    fun c i => Cert.Prep.outK (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg7)) (i 0) (i 1),
    fun c i => Cert.Prep.outV (m ((c.tc : Thread Cert.Kernel7Ideal.nD Cert.Kernel7Ideal.τ).loc Cert.Kernel7Ideal.main_arg0)) (i 0) (i 1),
    (θ_run _ _ _).mono (fun r h c => ?_) (θ_run_and (Cert.Kernel7Ideal.Gen.run_main (F := Ideal) m g) (Cert.Kernel7Ideal.Gen.unchanged (F := Ideal) m g)),
    (θ_run _ _ _).mono (fun r h c => ?_) (Cert.Reference7Ideal.Value.run (F := Ideal) m' g')⟩
  · exact ⟨((h.1 c).1 12).trans (Cert.Kernel7Ideal.Value.final_12 m c),
      ((h.1 c).1 13).trans (Cert.Kernel7Ideal.Value.final_13 m c),
      ((h.1 c).2 Cert.Kernel7Ideal.main_v45 (Pipeline.mem_restRefs_of Cert.Kernel7Ideal.main_v45 (by decide) (by decide))).trans (Cert.Kernel7Ideal.Value.tail m c),
      ((h.1 c).1 15).trans (Cert.Kernel7Ideal.Value.final_15 m c),
      ((h.1 c).1 16).trans (Cert.Kernel7Ideal.Value.final_16 m c),
      ((h.1 c).1 17).trans (Cert.Kernel7Ideal.Value.final_17 m c),
      ((h.1 c).1 18).trans (Cert.Kernel7Ideal.Value.final_18 m c), h.2 c⟩
  · obtain ⟨r0, r1, r2, r3, r4, r5, r6, hargs⟩ := h c
    obtain ⟨a0, a1, a2, a3, a4, a5, a6, a7⟩ := hm c
    obtain ⟨f0, f1, f2, f3, f4, f5, f6⟩ := Cert.Reference7Ideal.Read.results (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7))
    exact ⟨r0.trans ((Cert.Reference7Ideal.Read.val_main_v19_eq _ _).trans (f0.trans (by dsimp only; rw [a0, a5]; rfl))),
      r1.trans ((Cert.Reference7Ideal.Read.val_main_v109_eq _ _).trans (f1.trans (by dsimp only; rw [a0, a5]; rfl))),
      r2.trans ((Cert.Reference7Ideal.Read.val_main_v110_eq _ _ _).trans (f2.trans (by dsimp only; rw [a0, a1, a2]; rfl))),
      r3.trans ((Cert.Reference7Ideal.Read.val_main_v114_eq m' c).trans (f3.trans (by dsimp only; rw [a0, a3, a4, a6]; rfl))),
      r4.trans ((Cert.Reference7Ideal.Read.val_main_v115_eq _ _).trans (f4.trans (by dsimp only; rw [a0, a7]; rfl))),
      r5.trans ((Cert.Reference7Ideal.Read.val_main_v117_eq m' c).trans (f5.trans (by dsimp only; rw [a0, a3, a4, a7]; rfl))),
      r6.trans ((Cert.Reference7Ideal.Read.val_main_v118_eq _).trans (f6.trans (by dsimp only; rw [a0]; rfl))), hargs⟩

/-- The tables a memory hands the call, when they name experts and leave a block to compute. -/
def tab8b (m : (ℓ : Loc Cert.Kernel8.nD Cert.Kernel8.τ Cert.Kernel8.sig) → Buf (Elt Bits) ℓ) (hp : Cert.Pre_Kernel8 (hPre_blocks_named := Cert.Down.facts) m) : Cert.Down.Tab where
  T0 := m (((0 : Dev Cert.Kernel8.nD).tc : Thread Cert.Kernel8.nD Cert.Kernel8.τ).loc Cert.Kernel8.main_arg0)
  T1 := m (((0 : Dev Cert.Kernel8.nD).tc : Thread Cert.Kernel8.nD Cert.Kernel8.τ).loc Cert.Kernel8.main_arg1)
  named := (Cert.Down.of_pre _ _ _ _ _ (hp 0)).1
  some := (Cert.Down.of_pre _ _ _ _ _ (hp 0)).2

theorem holds8b (m : (ℓ : Loc Cert.Kernel8.nD Cert.Kernel8.τ Cert.Kernel8.sig) → Buf (Elt Bits) ℓ) (hp : Cert.Pre_Kernel8 (hPre_blocks_named := Cert.Down.facts) m) :
    Cert.Kernel8.Down.Holds (tab8b m hp) m :=
  ⟨fun c => by obtain rfl : c = 0 := Subsingleton.elim _ _; rfl, fun c => by obtain rfl : c = 0 := Subsingleton.elim _ _; rfl⟩

/-- The tables a memory hands the call, when they name experts and leave a block to compute. -/
def tab8 (m : (ℓ : Loc Cert.Kernel8Ideal.nD Cert.Kernel8Ideal.τ Cert.Kernel8Ideal.sig) → Buf (Elt Ideal) ℓ) (hp : Cert.Pre_Kernel8Ideal (hPre_blocks_named := Cert.Down.facts) m) : Cert.Down.Tab where
  T0 := m (((0 : Dev Cert.Kernel8Ideal.nD).tc : Thread Cert.Kernel8Ideal.nD Cert.Kernel8Ideal.τ).loc Cert.Kernel8Ideal.main_arg0)
  T1 := m (((0 : Dev Cert.Kernel8Ideal.nD).tc : Thread Cert.Kernel8Ideal.nD Cert.Kernel8Ideal.τ).loc Cert.Kernel8Ideal.main_arg1)
  named := (Cert.Down.of_pre _ _ _ _ _ (hp 0)).1
  some := (Cert.Down.of_pre _ _ _ _ _ (hp 0)).2

theorem holds8 (m : (ℓ : Loc Cert.Kernel8Ideal.nD Cert.Kernel8Ideal.τ Cert.Kernel8Ideal.sig) → Buf (Elt Ideal) ℓ) (hp : Cert.Pre_Kernel8Ideal (hPre_blocks_named := Cert.Down.facts) m) :
    Cert.Kernel8Ideal.Down.Holds (tab8 m hp) m :=
  ⟨fun c => by obtain rfl : c = 0 := Subsingleton.elim _ _; rfl, fun c => by obtain rfl : c = 0 := Subsingleton.elim _ _; rfl⟩

theorem frame_kernel8 : Cert.quiescent_Kernel8 := fun m ρ hp => Cert.Kernel8.Down.frame (tab8b m hp) m ρ (holds8b m hp)
theorem frame_ideal8 : Cert.quiescent_Kernel8Ideal := fun m ρ hp => Cert.Kernel8Ideal.Down.frame (tab8 m hp) m ρ (holds8 m hp)
theorem frame_ref8 : Cert.quiescent_Reference8Ideal := fun m ρ _ =>
  (θ_run _ _ _).mono (fun r h => ⟨fun c => (h c).2, sem_eq_zero_of_no_sems (by decide) r.2⟩)
    (Cert.Reference8Ideal.Value.run (F := Ideal) m ρ)
theorem frame_ref8_pre : Cert.quiescent_Reference8Ideal_pre_blocks_named := fun m ρ _ => frame_ref8 m ρ trivial

theorem algebraic8 : Cert.algebraic_Kernel8Ideal_Reference8Ideal := by
  intro m g m' g' hp hm
  refine ⟨fun c => (Cert.Kernel8Ideal.Down.dats (tab8 m hp) m g 0 c).arrAt 3 (Cert.Kernel8Ideal.Down.cfgA (tab8 m hp)).N,
    (θ_run _ _ _).mono (fun _ h c => ⟨(h.1 c).1 3, h.2.1 c⟩)
      (θ_run_and (Cert.Kernel8Ideal.Down.run (tab8 m hp) m g (holds8 m hp)) (Cert.Kernel8Ideal.Down.frame (tab8 m hp) m g (holds8 m hp))),
    (θ_run _ _ _).mono (fun _ h c => ⟨(h c).1.trans ?_, (h c).2⟩) (Cert.Reference8Ideal.Value.run (F := Ideal) m' g')⟩
  obtain ⟨a0, a1, a2, a3, a4⟩ := hm c
  rw [Cert.Reference8Ideal.Read.val_main_v46_eq, a0, a1, a2, a3, a4, (holds8 m hp).1 c, (holds8 m hp).2 c]
  exact (Cert.Reference8Ideal.Read.result_eq (tab8 m hp) _ _ _).trans (Cert.Kernel8Ideal.Down.final (tab8 m hp) m g c).symm

theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_ref9 : Cert.quiescent_Reference9Ideal := fun m ρ _ =>
  (θ_run _ _ _).mono (fun r h => ⟨fun c => (h c).2, sem_eq_zero_of_no_sems (by decide) r.2⟩)
    (Cert.Reference9Ideal.Value.run (F := Ideal) m ρ)

theorem algebraic9 : Cert.algebraic_Kernel9Ideal_Reference9Ideal := by
  intro m g m' g' _ hm
  refine ⟨fun c => (Cert.Kernel9Ideal.Gen.dats (F := Ideal) m 0 c).arrAt 3 Cert.Kernel9Ideal.cfg0.N,
    Cert.Kernel9Ideal.Value.run_blocks (F := Ideal) m g,
    (θ_run _ _ _).mono (fun _ h c => ⟨(h c).1.trans ?_, (h c).2⟩) (Cert.Reference9Ideal.Value.run (F := Ideal) m' g')⟩
  obtain ⟨a0, a1, a2⟩ := hm c
  rw [Cert.Reference9Ideal.Read.val_main_v4_eq, a0, a1, a2]
  exact (Cert.Reference9Ideal.Read.result_eq _ _ _).trans (Cert.Kernel9Ideal.Value.final m c).symm

theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_ref10 : Cert.quiescent_Reference10Ideal := fun m ρ _ =>
  (θ_run _ _ _).mono (fun r h => ⟨fun c => (h c).2, sem_eq_zero_of_no_sems (by decide) r.2⟩)
    (Cert.Reference10Ideal.Value.run (F := Ideal) m ρ)

theorem algebraic10 : Cert.algebraic_Kernel10Ideal_Reference10Ideal := by
  intro m g m' g' _ hm
  refine ⟨fun c => (Cert.Kernel10Ideal.Gen.dats (F := Ideal) m 0 c).arrAt 4 Cert.Kernel10Ideal.cfg0.N,
    Cert.Kernel10Ideal.Value.run_blocks (F := Ideal) m g,
    (θ_run _ _ _).mono (fun _ h c => ⟨(h c).1.trans ?_, (h c).2⟩) (Cert.Reference10Ideal.Value.run (F := Ideal) m' g')⟩
  obtain ⟨a0, a1, a2⟩ := hm c
  rw [Cert.Reference10Ideal.Read.val_main_v55_eq, a0, a1, a2]
  exact (Cert.Reference10Ideal.Read.result_eq _ _ _).trans (Cert.Kernel10Ideal.Value.final m c).symm

theorem frame_kernel11 : Cert.quiescent_Kernel11 := fun m ρ _ => Cert.Kernel11.Gen.frame m ρ
theorem frame_ideal11 : Cert.quiescent_Kernel11Ideal := fun m ρ _ => Cert.Kernel11Ideal.Gen.frame m ρ
theorem frame_ideal11_pre : Cert.quiescent_Kernel11Ideal_pre_finite_prompt := fun m ρ _ => Cert.Kernel11Ideal.Gen.frame m ρ
theorem frame_ref11 : Cert.quiescent_Reference11Ideal := fun m ρ _ =>
  (θ_run _ _ _).mono (fun r h => ⟨fun c => (h c).2, sem_eq_zero_of_no_sems (by decide) r.2⟩)
    (Cert.Reference11Ideal.Value.run (F := Ideal) m ρ)
theorem frame_ref11_pre : Cert.quiescent_Reference11Ideal_pre_finite_prompt := fun m ρ _ => frame_ref11 m ρ trivial

theorem algebraic11 : Cert.algebraic_Kernel11Ideal_Reference11Ideal_pre_finite_prompt := by
  intro m g m' g' hp hm
  refine ⟨fun c => (Cert.Kernel11Ideal.Gen.dats (F := Ideal) m 0 c).arrAt 3 Cert.Kernel11Ideal.cfg0.N,
    Cert.Kernel11Ideal.Value.run_blocks (F := Ideal) m g,
    (θ_run _ _ _).mono (fun _ h c => ⟨(h c).1.trans ?_, (h c).2⟩) (Cert.Reference11Ideal.Value.run (F := Ideal) m' g')⟩
  obtain ⟨a0, a1, a2, a3⟩ := hm c
  obtain ⟨h1, h2⟩ := Cert.Prompt.of_pre _ _ _ _ (hp c)
  rw [Cert.Reference11Ideal.Read.val_main_v26_eq, a0, a1, a2, a3]
  refine Eq.trans ?_ (Cert.Kernel11Ideal.Value.final m c).symm
  rw [Cert.Kernel11Ideal.Value.V_y]
  exact (Cert.Prompt.eq_ref _ _ _ _ h1 h2).symm

theorem frame_kernel12 : Cert.quiescent_Kernel12 := fun m ρ _ => Cert.Kernel12.Gen.frame m ρ
theorem frame_ideal12 : Cert.quiescent_Kernel12Ideal := fun m ρ _ => Cert.Kernel12Ideal.Gen.frame m ρ
theorem frame_ref12 : Cert.quiescent_Reference12Ideal := fun m ρ _ =>
  (θ_run _ _ _).mono (fun r h => ⟨fun c => (h c).2.2, sem_eq_zero_of_no_sems (by decide) r.2⟩)
    (Cert.Reference12Ideal.Value.run (F := Ideal) m ρ)

theorem algebraic12 : Cert.algebraic_Kernel12Ideal_Reference12Ideal := by
  intro m g m' g' _ hm
  refine ⟨fun c i => Cert.Latent.outK (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (i 0) (i 1),
    fun c i => Cert.Latent.outV (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg2)) (i 0) (i 1),
    (θ_run _ _ _).mono (fun r h c => ?_) (Cert.Kernel12Ideal.Value.run_blocks (F := Ideal) m g),
    (θ_run _ _ _).mono (fun r h c => ?_) (Cert.Reference12Ideal.Value.run (F := Ideal) m' g')⟩
  · exact ⟨(h c).1.trans (Cert.Kernel12Ideal.Value.final_4 m c), (h c).2.1.trans (Cert.Kernel12Ideal.Value.final_5 m c), (h c).2.2⟩
  · obtain ⟨r0, r1, hargs⟩ := h c
    obtain ⟨a0, a1, a2⟩ := hm c
    exact ⟨r0.trans ((Cert.Reference12Ideal.Read.val_main_v10_eq _ _ _).trans ((Cert.Reference12Ideal.Read.keys_eq _ _ _).trans (by rw [a0, a1, a2]; rfl))),
      r1.trans ((Cert.Reference12Ideal.Read.val_main_v13_eq _ _).trans ((Cert.Reference12Ideal.Read.vals_eq _ _).trans (by rw [a0, a2]; rfl))), hargs⟩

theorem frame_kernel13 : Cert.quiescent_Kernel13 := fun m ρ _ => Cert.Kernel13.Gen.frame m ρ
theorem frame_ideal13 : Cert.quiescent_Kernel13Ideal := fun m ρ _ => Cert.Kernel13Ideal.Gen.frame m ρ
theorem frame_ideal13_pre : Cert.quiescent_Kernel13Ideal_pre_finite_latent := fun m ρ _ => Cert.Kernel13Ideal.Gen.frame m ρ
theorem frame_ref13 : Cert.quiescent_Reference13Ideal := fun m ρ _ =>
  (θ_run _ _ _).mono (fun r h => ⟨fun c => (h c).2, sem_eq_zero_of_no_sems (by decide) r.2⟩)
    (Cert.Reference13Ideal.Value.run (F := Ideal) m ρ)
theorem frame_ref13_pre : Cert.quiescent_Reference13Ideal_pre_finite_latent := fun m ρ _ => frame_ref13 m ρ trivial

theorem algebraic13 : Cert.algebraic_Kernel13Ideal_Reference13Ideal_pre_finite_latent := by
  intro m g m' g' hp hm
  refine ⟨fun c => (Cert.Kernel13Ideal.Gen.dats (F := Ideal) m 0 c).arrAt 3 Cert.Kernel13Ideal.cfg0.N,
    Cert.Kernel13Ideal.Value.run_blocks (F := Ideal) m g,
    (θ_run _ _ _).mono (fun _ h c => ⟨(h c).1.trans ?_, (h c).2⟩) (Cert.Reference13Ideal.Value.run (F := Ideal) m' g')⟩
  obtain ⟨a0, a1, a2, a3⟩ := hm c
  obtain ⟨h1, h2⟩ := Cert.LatentScore.of_pre _ _ _ _ (hp c)
  rw [Cert.Reference13Ideal.Read.val_main_v28_eq, a0, a1, a2, a3]
  refine Eq.trans ?_ (Cert.Kernel13Ideal.Value.final m c).symm
  rw [Cert.Kernel13Ideal.Value.V_y]
  exact (Cert.LatentSample.eq_ref _ _ _ _ h1 h2).symm

theorem frame_kernel14 : Cert.quiescent_Kernel14 := fun m ρ _ => Cert.Kernel14.Gen.frame m ρ
theorem frame_ideal14 : Cert.quiescent_Kernel14Ideal := fun m ρ _ => Cert.Kernel14Ideal.Gen.frame m ρ
theorem frame_ideal14_pre : Cert.quiescent_Kernel14Ideal_pre_finite_latent := fun m ρ _ => Cert.Kernel14Ideal.Gen.frame m ρ
theorem frame_ref14 : Cert.quiescent_Reference14Ideal := fun m ρ _ =>
  (θ_run _ _ _).mono (fun r h => ⟨fun c => (h c).2, sem_eq_zero_of_no_sems (by decide) r.2⟩)
    (Cert.Reference14Ideal.Value.run (F := Ideal) m ρ)
theorem frame_ref14_pre : Cert.quiescent_Reference14Ideal_pre_finite_latent := fun m ρ _ => frame_ref14 m ρ trivial

theorem algebraic14 : Cert.algebraic_Kernel14Ideal_Reference14Ideal_pre_finite_latent := by
  intro m g m' g' hp hm
  refine ⟨fun c => (Cert.Kernel14Ideal.Gen.dats (F := Ideal) m 0 c).arrAt 3 Cert.Kernel14Ideal.cfg0.N,
    Cert.Kernel14Ideal.Value.run_blocks (F := Ideal) m g,
    (θ_run _ _ _).mono (fun _ h c => ⟨(h c).1.trans ?_, (h c).2⟩) (Cert.Reference14Ideal.Value.run (F := Ideal) m' g')⟩
  obtain ⟨a0, a1, a2, a3⟩ := hm c
  obtain ⟨h1, h2⟩ := Cert.LatentScore.of_pre _ _ _ _ (hp c)
  rw [Cert.Reference14Ideal.Read.val_main_v28_eq, a0, a1, a2, a3]
  refine Eq.trans ?_ (Cert.Kernel14Ideal.Value.final m c).symm
  rw [Cert.Kernel14Ideal.Value.V_y]
  exact (Cert.LatentPrompt.eq_ref _ _ _ _ h1 h2).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Finite.facts, Cert.Down.facts, Cert.Prompt.facts, Cert.LatentScore.facts,
    frame_kernel, frame_ideal, frame_ideal_pre, frame_ref, frame_ref_pre,
    frame_kernel2, frame_ideal2, frame_ref2,
    frame_kernel3, frame_ideal3, frame_ref3,
    frame_kernel4, frame_ideal4, frame_ref4,
    frame_kernel5, frame_ideal5, frame_ref5,
    frame_kernel6, frame_ideal6, frame_ref6,
    frame_kernel7, frame_ideal7, frame_ref7,
    frame_kernel8, frame_ideal8, frame_ref8, frame_ref8_pre,
    frame_kernel9, frame_ideal9, frame_ref9,
    frame_kernel10, frame_ideal10, frame_ref10,
    frame_kernel11, frame_ideal11, frame_ideal11_pre, frame_ref11, frame_ref11_pre,
    frame_kernel12, frame_ideal12, frame_ref12,
    frame_kernel13, frame_ideal13, frame_ideal13_pre, frame_ref13, frame_ref13_pre,
    frame_kernel14, frame_ideal14, frame_ideal14_pre, frame_ref14, frame_ref14_pre,
    trivial, algebraic, trivial, algebraic2, trivial, algebraic3, trivial, algebraic4, trivial, algebraic5, trivial, algebraic6, trivial, algebraic7, trivial, algebraic8,
    trivial, algebraic9, trivial, algebraic10, trivial, algebraic11, trivial, algebraic12,
    trivial, algebraic13, trivial, algebraic14⟩

end Cert.Proof

end
